-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ff2 [hPre_finite_ff2 : Cert.Pre_finite_ff2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ff2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_ff2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_ff2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_ff2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_ff2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ff2 [hPre_finite_ff2 : Cert.Pre_finite_ff2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ff2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_ff2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_ff2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_ff2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_ff2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_dh2 [hPre_finite_dh2 : Cert.Pre_finite_dh2.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite_dh2.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_dh2 [hPre_finite_dh2 : Cert.Pre_finite_dh2.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite_dh2.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_dcat [hPre_finite_dcat : Cert.Pre_finite_dcat.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_dcat.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_dcat.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_dcat.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_dcat.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_dcat [hPre_finite_dcat : Cert.Pre_finite_dcat.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_dcat.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_dcat.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_dcat.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_dcat.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_dh [hPre_finite_dh : Cert.Pre_finite_dh.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_dh.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_dh.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_dh.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_dh.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_dh [hPre_finite_dh : Cert.Pre_finite_dh.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_dh.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_dh.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_dh.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_dh.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_hgrn [hPre_finite_hgrn : Cert.Pre_finite_hgrn.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_hgrn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).1 = (fun _ => 1#1)
    ∧ (Cert.Pre_finite_hgrn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_hgrn [hPre_finite_hgrn : Cert.Pre_finite_hgrn.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_hgrn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).1 = (fun _ => 1#1)
    ∧ (Cert.Pre_finite_hgrn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 [hPre_at_origin : Cert.Pre_at_origin.Facts] (m : (ℓ : Loc Cert.Kernel16.nD Cert.Kernel16.τ Cert.Kernel16.sig) → Buf (Elt Bits) ℓ) : Prop :=
  ∀ c : Dev Cert.Kernel16.nD,
    (Cert.Pre_at_origin.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2))) = (fun _ => 1#1)

def Pre_Kernel16Ideal [hPre_at_origin : Cert.Pre_at_origin.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_at_origin.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_at_origin [hPre_at_origin : Cert.Pre_at_origin.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_at_origin.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ff2 [hKernel2Ideal : Cert.Kernel2Ideal.Facts] [hPre_finite_ff2 : Cert.Pre_finite_ff2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ff2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ff2 [hReference2Ideal : Cert.Reference2Ideal.Facts] [hPre_finite_ff2 : Cert.Pre_finite_ff2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ff2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_dh2 [hKernel3Ideal : Cert.Kernel3Ideal.Facts] [hPre_finite_dh2 : Cert.Pre_finite_dh2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_dh2 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_dh2 [hReference3Ideal : Cert.Reference3Ideal.Facts] [hPre_finite_dh2 : Cert.Pre_finite_dh2.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_dh2 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_dcat [hKernel4Ideal : Cert.Kernel4Ideal.Facts] [hPre_finite_dcat : Cert.Pre_finite_dcat.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_dcat m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_dcat [hReference4Ideal : Cert.Reference4Ideal.Facts] [hPre_finite_dcat : Cert.Pre_finite_dcat.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_dcat m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_dh [hKernel5Ideal : Cert.Kernel5Ideal.Facts] [hPre_finite_dh : Cert.Pre_finite_dh.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_dh m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_dh [hReference5Ideal : Cert.Reference5Ideal.Facts] [hPre_finite_dh : Cert.Pre_finite_dh.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_dh m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite_hgrn [hKernel13Ideal : Cert.Kernel13Ideal.Facts] [hPre_finite_hgrn : Cert.Pre_finite_hgrn.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_hgrn m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite_hgrn [hReference13Ideal : Cert.Reference13Ideal.Facts] [hPre_finite_hgrn : Cert.Pre_finite_hgrn.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_hgrn m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16)
      ∧ r.2.mem ((c.tc : Thread Cert.Kernel14.nD Cert.Kernel14.τ).loc Cert.Kernel14.main_arg17) = m ((c.tc : Thread Cert.Kernel14.nD Cert.Kernel14.τ).loc Cert.Kernel14.main_arg17)
      ∧ r.2.mem ((c.tc : Thread Cert.Kernel14.nD Cert.Kernel14.τ).loc Cert.Kernel14.main_arg18) = m ((c.tc : Thread Cert.Kernel14.nD Cert.Kernel14.τ).loc Cert.Kernel14.main_arg18)
      ∧ r.2.mem ((c.tc : Thread Cert.Kernel14.nD Cert.Kernel14.τ).loc Cert.Kernel14.main_arg19) = m ((c.tc : Thread Cert.Kernel14.nD Cert.Kernel14.τ).loc Cert.Kernel14.main_arg19)
      ∧ r.2.mem ((c.tc : Thread Cert.Kernel14.nD Cert.Kernel14.τ).loc Cert.Kernel14.main_arg20) = m ((c.tc : Thread Cert.Kernel14.nD Cert.Kernel14.τ).loc Cert.Kernel14.main_arg20)
      ∧ r.2.mem ((c.tc : Thread Cert.Kernel14.nD Cert.Kernel14.τ).loc Cert.Kernel14.main_arg21) = m ((c.tc : Thread Cert.Kernel14.nD Cert.Kernel14.τ).loc Cert.Kernel14.main_arg21)
      ∧ r.2.mem ((c.tc : Thread Cert.Kernel14.nD Cert.Kernel14.τ).loc Cert.Kernel14.main_arg22) = m ((c.tc : Thread Cert.Kernel14.nD Cert.Kernel14.τ).loc Cert.Kernel14.main_arg22)
      ∧ r.2.mem ((c.tc : Thread Cert.Kernel14.nD Cert.Kernel14.τ).loc Cert.Kernel14.main_arg23) = m ((c.tc : Thread Cert.Kernel14.nD Cert.Kernel14.τ).loc Cert.Kernel14.main_arg23)
      ∧ r.2.mem ((c.tc : Thread Cert.Kernel14.nD Cert.Kernel14.τ).loc Cert.Kernel14.main_arg24) = m ((c.tc : Thread Cert.Kernel14.nD Cert.Kernel14.τ).loc Cert.Kernel14.main_arg24)
      ∧ r.2.mem ((c.tc : Thread Cert.Kernel14.nD Cert.Kernel14.τ).loc Cert.Kernel14.main_arg25) = m ((c.tc : Thread Cert.Kernel14.nD Cert.Kernel14.τ).loc Cert.Kernel14.main_arg25)
      ∧ r.2.mem ((c.tc : Thread Cert.Kernel14.nD Cert.Kernel14.τ).loc Cert.Kernel14.main_arg26) = m ((c.tc : Thread Cert.Kernel14.nD Cert.Kernel14.τ).loc Cert.Kernel14.main_arg26)
      ∧ r.2.mem ((c.tc : Thread Cert.Kernel14.nD Cert.Kernel14.τ).loc Cert.Kernel14.main_arg27) = m ((c.tc : Thread Cert.Kernel14.nD Cert.Kernel14.τ).loc Cert.Kernel14.main_arg27))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
      ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
      ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
      ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
      ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
      ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
      ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
      ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
      ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24)
      ∧ r.2.mem ((c.tc : Thread Cert.Kernel14Ideal.nD Cert.Kernel14Ideal.τ).loc Cert.Kernel14Ideal.main_arg25) = m ((c.tc : Thread Cert.Kernel14Ideal.nD Cert.Kernel14Ideal.τ).loc Cert.Kernel14Ideal.main_arg25)
      ∧ r.2.mem ((c.tc : Thread Cert.Kernel14Ideal.nD Cert.Kernel14Ideal.τ).loc Cert.Kernel14Ideal.main_arg26) = m ((c.tc : Thread Cert.Kernel14Ideal.nD Cert.Kernel14Ideal.τ).loc Cert.Kernel14Ideal.main_arg26)
      ∧ r.2.mem ((c.tc : Thread Cert.Kernel14Ideal.nD Cert.Kernel14Ideal.τ).loc Cert.Kernel14Ideal.main_arg27) = m ((c.tc : Thread Cert.Kernel14Ideal.nD Cert.Kernel14Ideal.τ).loc Cert.Kernel14Ideal.main_arg27))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16)
      ∧ r.2.mem ((c.tc : Thread Cert.Reference14Ideal.nD Cert.Reference14Ideal.τ).loc Cert.Reference14Ideal.main_arg17) = m ((c.tc : Thread Cert.Reference14Ideal.nD Cert.Reference14Ideal.τ).loc Cert.Reference14Ideal.main_arg17)
      ∧ r.2.mem ((c.tc : Thread Cert.Reference14Ideal.nD Cert.Reference14Ideal.τ).loc Cert.Reference14Ideal.main_arg18) = m ((c.tc : Thread Cert.Reference14Ideal.nD Cert.Reference14Ideal.τ).loc Cert.Reference14Ideal.main_arg18)
      ∧ r.2.mem ((c.tc : Thread Cert.Reference14Ideal.nD Cert.Reference14Ideal.τ).loc Cert.Reference14Ideal.main_arg19) = m ((c.tc : Thread Cert.Reference14Ideal.nD Cert.Reference14Ideal.τ).loc Cert.Reference14Ideal.main_arg19)
      ∧ r.2.mem ((c.tc : Thread Cert.Reference14Ideal.nD Cert.Reference14Ideal.τ).loc Cert.Reference14Ideal.main_arg20) = m ((c.tc : Thread Cert.Reference14Ideal.nD Cert.Reference14Ideal.τ).loc Cert.Reference14Ideal.main_arg20)
      ∧ r.2.mem ((c.tc : Thread Cert.Reference14Ideal.nD Cert.Reference14Ideal.τ).loc Cert.Reference14Ideal.main_arg21) = m ((c.tc : Thread Cert.Reference14Ideal.nD Cert.Reference14Ideal.τ).loc Cert.Reference14Ideal.main_arg21)
      ∧ r.2.mem ((c.tc : Thread Cert.Reference14Ideal.nD Cert.Reference14Ideal.τ).loc Cert.Reference14Ideal.main_arg22) = m ((c.tc : Thread Cert.Reference14Ideal.nD Cert.Reference14Ideal.τ).loc Cert.Reference14Ideal.main_arg22)
      ∧ r.2.mem ((c.tc : Thread Cert.Reference14Ideal.nD Cert.Reference14Ideal.τ).loc Cert.Reference14Ideal.main_arg23) = m ((c.tc : Thread Cert.Reference14Ideal.nD Cert.Reference14Ideal.τ).loc Cert.Reference14Ideal.main_arg23)
      ∧ r.2.mem ((c.tc : Thread Cert.Reference14Ideal.nD Cert.Reference14Ideal.τ).loc Cert.Reference14Ideal.main_arg24) = m ((c.tc : Thread Cert.Reference14Ideal.nD Cert.Reference14Ideal.τ).loc Cert.Reference14Ideal.main_arg24)
      ∧ r.2.mem ((c.tc : Thread Cert.Reference14Ideal.nD Cert.Reference14Ideal.τ).loc Cert.Reference14Ideal.main_arg25) = m ((c.tc : Thread Cert.Reference14Ideal.nD Cert.Reference14Ideal.τ).loc Cert.Reference14Ideal.main_arg25)
      ∧ r.2.mem ((c.tc : Thread Cert.Reference14Ideal.nD Cert.Reference14Ideal.τ).loc Cert.Reference14Ideal.main_arg26) = m ((c.tc : Thread Cert.Reference14Ideal.nD Cert.Reference14Ideal.τ).loc Cert.Reference14Ideal.main_arg26)
      ∧ r.2.mem ((c.tc : Thread Cert.Reference14Ideal.nD Cert.Reference14Ideal.τ).loc Cert.Reference14Ideal.main_arg27) = m ((c.tc : Thread Cert.Reference14Ideal.nD Cert.Reference14Ideal.τ).loc Cert.Reference14Ideal.main_arg27))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] [hPre_at_origin : Cert.Pre_at_origin.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] [hPre_at_origin : Cert.Pre_at_origin.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_at_origin [hReference16Ideal : Cert.Reference16Ideal.Facts] [hPre_at_origin : Cert.Pre_at_origin.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_at_origin m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ff2 [hKernel2Ideal : Cert.Kernel2Ideal.Facts] [hReference2Ideal : Cert.Reference2Ideal.Facts] [hPre_finite_ff2 : Cert.Pre_finite_ff2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ff2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_dh2 [hKernel3Ideal : Cert.Kernel3Ideal.Facts] [hReference3Ideal : Cert.Reference3Ideal.Facts] [hPre_finite_dh2 : Cert.Pre_finite_dh2.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_dh2 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_dcat [hKernel4Ideal : Cert.Kernel4Ideal.Facts] [hReference4Ideal : Cert.Reference4Ideal.Facts] [hPre_finite_dcat : Cert.Pre_finite_dcat.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_dcat m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_dh [hKernel5Ideal : Cert.Kernel5Ideal.Facts] [hReference5Ideal : Cert.Reference5Ideal.Facts] [hPre_finite_dh : Cert.Pre_finite_dh.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_dh m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.bf16_pack.Statement Cert.Kernel13Ideal.S64x512

def algebraic_Kernel13Ideal_Reference13Ideal_pre_finite_hgrn [hKernel13Ideal : Cert.Kernel13Ideal.Facts] [hReference13Ideal : Cert.Reference13Ideal.Facts] [hPre_finite_hgrn : Cert.Pre_finite_hgrn.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_hgrn m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v81) = v0 c
          ∧ r.2.mem ((c.tc : Thread Cert.Reference13Ideal.nD Cert.Reference13Ideal.τ).loc Cert.Reference13Ideal.main_v82) = v1 c
          ∧ r.2.mem ((c.tc : Thread Cert.Reference13Ideal.nD Cert.Reference13Ideal.τ).loc Cert.Reference13Ideal.main_v86) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)
      ∧ m' ((c.tc : Thread Cert.Reference14Ideal.nD Cert.Reference14Ideal.τ).loc Cert.Reference14Ideal.main_arg17) = m ((c.tc : Thread Cert.Kernel14Ideal.nD Cert.Kernel14Ideal.τ).loc Cert.Kernel14Ideal.main_arg17)
      ∧ m' ((c.tc : Thread Cert.Reference14Ideal.nD Cert.Reference14Ideal.τ).loc Cert.Reference14Ideal.main_arg18) = m ((c.tc : Thread Cert.Kernel14Ideal.nD Cert.Kernel14Ideal.τ).loc Cert.Kernel14Ideal.main_arg18)
      ∧ m' ((c.tc : Thread Cert.Reference14Ideal.nD Cert.Reference14Ideal.τ).loc Cert.Reference14Ideal.main_arg19) = m ((c.tc : Thread Cert.Kernel14Ideal.nD Cert.Kernel14Ideal.τ).loc Cert.Kernel14Ideal.main_arg19)
      ∧ m' ((c.tc : Thread Cert.Reference14Ideal.nD Cert.Reference14Ideal.τ).loc Cert.Reference14Ideal.main_arg20) = m ((c.tc : Thread Cert.Kernel14Ideal.nD Cert.Kernel14Ideal.τ).loc Cert.Kernel14Ideal.main_arg20)
      ∧ m' ((c.tc : Thread Cert.Reference14Ideal.nD Cert.Reference14Ideal.τ).loc Cert.Reference14Ideal.main_arg21) = m ((c.tc : Thread Cert.Kernel14Ideal.nD Cert.Kernel14Ideal.τ).loc Cert.Kernel14Ideal.main_arg21)
      ∧ m' ((c.tc : Thread Cert.Reference14Ideal.nD Cert.Reference14Ideal.τ).loc Cert.Reference14Ideal.main_arg22) = m ((c.tc : Thread Cert.Kernel14Ideal.nD Cert.Kernel14Ideal.τ).loc Cert.Kernel14Ideal.main_arg22)
      ∧ m' ((c.tc : Thread Cert.Reference14Ideal.nD Cert.Reference14Ideal.τ).loc Cert.Reference14Ideal.main_arg23) = m ((c.tc : Thread Cert.Kernel14Ideal.nD Cert.Kernel14Ideal.τ).loc Cert.Kernel14Ideal.main_arg23)
      ∧ m' ((c.tc : Thread Cert.Reference14Ideal.nD Cert.Reference14Ideal.τ).loc Cert.Reference14Ideal.main_arg24) = m ((c.tc : Thread Cert.Kernel14Ideal.nD Cert.Kernel14Ideal.τ).loc Cert.Kernel14Ideal.main_arg24)
      ∧ m' ((c.tc : Thread Cert.Reference14Ideal.nD Cert.Reference14Ideal.τ).loc Cert.Reference14Ideal.main_arg25) = m ((c.tc : Thread Cert.Kernel14Ideal.nD Cert.Kernel14Ideal.τ).loc Cert.Kernel14Ideal.main_arg25)
      ∧ m' ((c.tc : Thread Cert.Reference14Ideal.nD Cert.Reference14Ideal.τ).loc Cert.Reference14Ideal.main_arg26) = m ((c.tc : Thread Cert.Kernel14Ideal.nD Cert.Kernel14Ideal.τ).loc Cert.Kernel14Ideal.main_arg26)
      ∧ m' ((c.tc : Thread Cert.Reference14Ideal.nD Cert.Reference14Ideal.τ).loc Cert.Reference14Ideal.main_arg27) = m ((c.tc : Thread Cert.Kernel14Ideal.nD Cert.Kernel14Ideal.τ).loc Cert.Kernel14Ideal.main_arg27)) →
    ∃ (v0 : (c : Dev Cert.Kernel14Ideal.nD) → Buf (Elt Ideal) ((c.tc : Thread Cert.Kernel14Ideal.nD Cert.Kernel14Ideal.τ).loc Cert.Kernel14Ideal.main_v25)) (v1 : (c : Dev Cert.Kernel14Ideal.nD) → Buf (Elt Ideal) ((c.tc : Thread Cert.Kernel14Ideal.nD Cert.Kernel14Ideal.τ).loc Cert.Kernel14Ideal.main_v26)) (v2 : (c : Dev Cert.Kernel14Ideal.nD) → Buf (Elt Ideal) ((c.tc : Thread Cert.Kernel14Ideal.nD Cert.Kernel14Ideal.τ).loc Cert.Kernel14Ideal.main_v29)) (v3 : (c : Dev Cert.Kernel14Ideal.nD) → Buf (Elt Ideal) ((c.tc : Thread Cert.Kernel14Ideal.nD Cert.Kernel14Ideal.τ).loc Cert.Kernel14Ideal.main_v30)) (v4 : (c : Dev Cert.Kernel14Ideal.nD) → Buf (Elt Ideal) ((c.tc : Thread Cert.Kernel14Ideal.nD Cert.Kernel14Ideal.τ).loc Cert.Kernel14Ideal.main_v31)) (v5 : (c : Dev Cert.Kernel14Ideal.nD) → Buf (Elt Ideal) ((c.tc : Thread Cert.Kernel14Ideal.nD Cert.Kernel14Ideal.τ).loc Cert.Kernel14Ideal.main_v32)) (v6 : (c : Dev Cert.Kernel14Ideal.nD) → Buf (Elt Ideal) ((c.tc : Thread Cert.Kernel14Ideal.nD Cert.Kernel14Ideal.τ).loc Cert.Kernel14Ideal.main_v33)) (v7 : (c : Dev Cert.Kernel14Ideal.nD) → Buf (Elt Ideal) ((c.tc : Thread Cert.Kernel14Ideal.nD Cert.Kernel14Ideal.τ).loc Cert.Kernel14Ideal.main_v34)) (v8 : (c : Dev Cert.Kernel14Ideal.nD) → Buf (Elt Ideal) ((c.tc : Thread Cert.Kernel14Ideal.nD Cert.Kernel14Ideal.τ).loc Cert.Kernel14Ideal.main_v35)) (v9 : (c : Dev Cert.Kernel14Ideal.nD) → Buf (Elt Ideal) ((c.tc : Thread Cert.Kernel14Ideal.nD Cert.Kernel14Ideal.τ).loc Cert.Kernel14Ideal.main_v38)) (v10 : (c : Dev Cert.Kernel14Ideal.nD) → Buf (Elt Ideal) ((c.tc : Thread Cert.Kernel14Ideal.nD Cert.Kernel14Ideal.τ).loc Cert.Kernel14Ideal.main_v39)) (v11 : (c : Dev Cert.Kernel14Ideal.nD) → Buf (Elt Ideal) ((c.tc : Thread Cert.Kernel14Ideal.nD Cert.Kernel14Ideal.τ).loc Cert.Kernel14Ideal.main_v40)) (v12 : (c : Dev Cert.Kernel14Ideal.nD) → Buf (Elt Ideal) ((c.tc : Thread Cert.Kernel14Ideal.nD Cert.Kernel14Ideal.τ).loc Cert.Kernel14Ideal.main_v41)) (v13 : (c : Dev Cert.Kernel14Ideal.nD) → Buf (Elt Ideal) ((c.tc : Thread Cert.Kernel14Ideal.nD Cert.Kernel14Ideal.τ).loc Cert.Kernel14Ideal.main_v42)) (v14 : (c : Dev Cert.Kernel14Ideal.nD) → Buf (Elt Ideal) ((c.tc : Thread Cert.Kernel14Ideal.nD Cert.Kernel14Ideal.τ).loc Cert.Kernel14Ideal.main_v43)) (v15 : (c : Dev Cert.Kernel14Ideal.nD) → Buf (Elt Ideal) ((c.tc : Thread Cert.Kernel14Ideal.nD Cert.Kernel14Ideal.τ).loc Cert.Kernel14Ideal.main_v44)) (v16 : (c : Dev Cert.Kernel14Ideal.nD) → Buf (Elt Ideal) ((c.tc : Thread Cert.Kernel14Ideal.nD Cert.Kernel14Ideal.τ).loc Cert.Kernel14Ideal.main_v47)) (v17 : (c : Dev Cert.Kernel14Ideal.nD) → Buf (Elt Ideal) ((c.tc : Thread Cert.Kernel14Ideal.nD Cert.Kernel14Ideal.τ).loc Cert.Kernel14Ideal.main_v48)) (v18 : (c : Dev Cert.Kernel14Ideal.nD) → Buf (Elt Ideal) ((c.tc : Thread Cert.Kernel14Ideal.nD Cert.Kernel14Ideal.τ).loc Cert.Kernel14Ideal.main_v49)) (v19 : (c : Dev Cert.Kernel14Ideal.nD) → Buf (Elt Ideal) ((c.tc : Thread Cert.Kernel14Ideal.nD Cert.Kernel14Ideal.τ).loc Cert.Kernel14Ideal.main_v50)) (v20 : (c : Dev Cert.Kernel14Ideal.nD) → Buf (Elt Ideal) ((c.tc : Thread Cert.Kernel14Ideal.nD Cert.Kernel14Ideal.τ).loc Cert.Kernel14Ideal.main_v51)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v25) = v0 c
          ∧ r.2.mem ((c.tc : Thread Cert.Kernel14Ideal.nD Cert.Kernel14Ideal.τ).loc Cert.Kernel14Ideal.main_v26) = v1 c
          ∧ r.2.mem ((c.tc : Thread Cert.Kernel14Ideal.nD Cert.Kernel14Ideal.τ).loc Cert.Kernel14Ideal.main_v29) = v2 c
          ∧ r.2.mem ((c.tc : Thread Cert.Kernel14Ideal.nD Cert.Kernel14Ideal.τ).loc Cert.Kernel14Ideal.main_v30) = v3 c
          ∧ r.2.mem ((c.tc : Thread Cert.Kernel14Ideal.nD Cert.Kernel14Ideal.τ).loc Cert.Kernel14Ideal.main_v31) = v4 c
          ∧ r.2.mem ((c.tc : Thread Cert.Kernel14Ideal.nD Cert.Kernel14Ideal.τ).loc Cert.Kernel14Ideal.main_v32) = v5 c
          ∧ r.2.mem ((c.tc : Thread Cert.Kernel14Ideal.nD Cert.Kernel14Ideal.τ).loc Cert.Kernel14Ideal.main_v33) = v6 c
          ∧ r.2.mem ((c.tc : Thread Cert.Kernel14Ideal.nD Cert.Kernel14Ideal.τ).loc Cert.Kernel14Ideal.main_v34) = v7 c
          ∧ r.2.mem ((c.tc : Thread Cert.Kernel14Ideal.nD Cert.Kernel14Ideal.τ).loc Cert.Kernel14Ideal.main_v35) = v8 c
          ∧ r.2.mem ((c.tc : Thread Cert.Kernel14Ideal.nD Cert.Kernel14Ideal.τ).loc Cert.Kernel14Ideal.main_v38) = v9 c
          ∧ r.2.mem ((c.tc : Thread Cert.Kernel14Ideal.nD Cert.Kernel14Ideal.τ).loc Cert.Kernel14Ideal.main_v39) = v10 c
          ∧ r.2.mem ((c.tc : Thread Cert.Kernel14Ideal.nD Cert.Kernel14Ideal.τ).loc Cert.Kernel14Ideal.main_v40) = v11 c
          ∧ r.2.mem ((c.tc : Thread Cert.Kernel14Ideal.nD Cert.Kernel14Ideal.τ).loc Cert.Kernel14Ideal.main_v41) = v12 c
          ∧ r.2.mem ((c.tc : Thread Cert.Kernel14Ideal.nD Cert.Kernel14Ideal.τ).loc Cert.Kernel14Ideal.main_v42) = v13 c
          ∧ r.2.mem ((c.tc : Thread Cert.Kernel14Ideal.nD Cert.Kernel14Ideal.τ).loc Cert.Kernel14Ideal.main_v43) = v14 c
          ∧ r.2.mem ((c.tc : Thread Cert.Kernel14Ideal.nD Cert.Kernel14Ideal.τ).loc Cert.Kernel14Ideal.main_v44) = v15 c
          ∧ r.2.mem ((c.tc : Thread Cert.Kernel14Ideal.nD Cert.Kernel14Ideal.τ).loc Cert.Kernel14Ideal.main_v47) = v16 c
          ∧ r.2.mem ((c.tc : Thread Cert.Kernel14Ideal.nD Cert.Kernel14Ideal.τ).loc Cert.Kernel14Ideal.main_v48) = v17 c
          ∧ r.2.mem ((c.tc : Thread Cert.Kernel14Ideal.nD Cert.Kernel14Ideal.τ).loc Cert.Kernel14Ideal.main_v49) = v18 c
          ∧ r.2.mem ((c.tc : Thread Cert.Kernel14Ideal.nD Cert.Kernel14Ideal.τ).loc Cert.Kernel14Ideal.main_v50) = v19 c
          ∧ r.2.mem ((c.tc : Thread Cert.Kernel14Ideal.nD Cert.Kernel14Ideal.τ).loc Cert.Kernel14Ideal.main_v51) = v20 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
          ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
          ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
          ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
          ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
          ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
          ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
          ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
          ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24)
          ∧ r.2.mem ((c.tc : Thread Cert.Kernel14Ideal.nD Cert.Kernel14Ideal.τ).loc Cert.Kernel14Ideal.main_arg25) = m ((c.tc : Thread Cert.Kernel14Ideal.nD Cert.Kernel14Ideal.τ).loc Cert.Kernel14Ideal.main_arg25)
          ∧ r.2.mem ((c.tc : Thread Cert.Kernel14Ideal.nD Cert.Kernel14Ideal.τ).loc Cert.Kernel14Ideal.main_arg26) = m ((c.tc : Thread Cert.Kernel14Ideal.nD Cert.Kernel14Ideal.τ).loc Cert.Kernel14Ideal.main_arg26)
          ∧ r.2.mem ((c.tc : Thread Cert.Kernel14Ideal.nD Cert.Kernel14Ideal.τ).loc Cert.Kernel14Ideal.main_arg27) = m ((c.tc : Thread Cert.Kernel14Ideal.nD Cert.Kernel14Ideal.τ).loc Cert.Kernel14Ideal.main_arg27))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v47) = v1 c
          ∧ r.2.mem ((c.tc : Thread Cert.Reference14Ideal.nD Cert.Reference14Ideal.τ).loc Cert.Reference14Ideal.main_v71) = v2 c
          ∧ r.2.mem ((c.tc : Thread Cert.Reference14Ideal.nD Cert.Reference14Ideal.τ).loc Cert.Reference14Ideal.main_v95) = v3 c
          ∧ r.2.mem ((c.tc : Thread Cert.Reference14Ideal.nD Cert.Reference14Ideal.τ).loc Cert.Reference14Ideal.main_v119) = v4 c
          ∧ r.2.mem ((c.tc : Thread Cert.Reference14Ideal.nD Cert.Reference14Ideal.τ).loc Cert.Reference14Ideal.main_v143) = v5 c
          ∧ r.2.mem ((c.tc : Thread Cert.Reference14Ideal.nD Cert.Reference14Ideal.τ).loc Cert.Reference14Ideal.main_v167) = v6 c
          ∧ r.2.mem ((c.tc : Thread Cert.Reference14Ideal.nD Cert.Reference14Ideal.τ).loc Cert.Reference14Ideal.main_v4) = v7 c
          ∧ r.2.mem ((c.tc : Thread Cert.Reference14Ideal.nD Cert.Reference14Ideal.τ).loc Cert.Reference14Ideal.main_v28) = v8 c
          ∧ r.2.mem ((c.tc : Thread Cert.Reference14Ideal.nD Cert.Reference14Ideal.τ).loc Cert.Reference14Ideal.main_v52) = v9 c
          ∧ r.2.mem ((c.tc : Thread Cert.Reference14Ideal.nD Cert.Reference14Ideal.τ).loc Cert.Reference14Ideal.main_v76) = v10 c
          ∧ r.2.mem ((c.tc : Thread Cert.Reference14Ideal.nD Cert.Reference14Ideal.τ).loc Cert.Reference14Ideal.main_v100) = v11 c
          ∧ r.2.mem ((c.tc : Thread Cert.Reference14Ideal.nD Cert.Reference14Ideal.τ).loc Cert.Reference14Ideal.main_v124) = v12 c
          ∧ r.2.mem ((c.tc : Thread Cert.Reference14Ideal.nD Cert.Reference14Ideal.τ).loc Cert.Reference14Ideal.main_v148) = v13 c
          ∧ r.2.mem ((c.tc : Thread Cert.Reference14Ideal.nD Cert.Reference14Ideal.τ).loc Cert.Reference14Ideal.main_v10) = v14 c
          ∧ r.2.mem ((c.tc : Thread Cert.Reference14Ideal.nD Cert.Reference14Ideal.τ).loc Cert.Reference14Ideal.main_v34) = v15 c
          ∧ r.2.mem ((c.tc : Thread Cert.Reference14Ideal.nD Cert.Reference14Ideal.τ).loc Cert.Reference14Ideal.main_v58) = v16 c
          ∧ r.2.mem ((c.tc : Thread Cert.Reference14Ideal.nD Cert.Reference14Ideal.τ).loc Cert.Reference14Ideal.main_v82) = v17 c
          ∧ r.2.mem ((c.tc : Thread Cert.Reference14Ideal.nD Cert.Reference14Ideal.τ).loc Cert.Reference14Ideal.main_v106) = v18 c
          ∧ r.2.mem ((c.tc : Thread Cert.Reference14Ideal.nD Cert.Reference14Ideal.τ).loc Cert.Reference14Ideal.main_v130) = v19 c
          ∧ r.2.mem ((c.tc : Thread Cert.Reference14Ideal.nD Cert.Reference14Ideal.τ).loc Cert.Reference14Ideal.main_v154) = v20 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16)
          ∧ r.2.mem ((c.tc : Thread Cert.Reference14Ideal.nD Cert.Reference14Ideal.τ).loc Cert.Reference14Ideal.main_arg17) = m' ((c.tc : Thread Cert.Reference14Ideal.nD Cert.Reference14Ideal.τ).loc Cert.Reference14Ideal.main_arg17)
          ∧ r.2.mem ((c.tc : Thread Cert.Reference14Ideal.nD Cert.Reference14Ideal.τ).loc Cert.Reference14Ideal.main_arg18) = m' ((c.tc : Thread Cert.Reference14Ideal.nD Cert.Reference14Ideal.τ).loc Cert.Reference14Ideal.main_arg18)
          ∧ r.2.mem ((c.tc : Thread Cert.Reference14Ideal.nD Cert.Reference14Ideal.τ).loc Cert.Reference14Ideal.main_arg19) = m' ((c.tc : Thread Cert.Reference14Ideal.nD Cert.Reference14Ideal.τ).loc Cert.Reference14Ideal.main_arg19)
          ∧ r.2.mem ((c.tc : Thread Cert.Reference14Ideal.nD Cert.Reference14Ideal.τ).loc Cert.Reference14Ideal.main_arg20) = m' ((c.tc : Thread Cert.Reference14Ideal.nD Cert.Reference14Ideal.τ).loc Cert.Reference14Ideal.main_arg20)
          ∧ r.2.mem ((c.tc : Thread Cert.Reference14Ideal.nD Cert.Reference14Ideal.τ).loc Cert.Reference14Ideal.main_arg21) = m' ((c.tc : Thread Cert.Reference14Ideal.nD Cert.Reference14Ideal.τ).loc Cert.Reference14Ideal.main_arg21)
          ∧ r.2.mem ((c.tc : Thread Cert.Reference14Ideal.nD Cert.Reference14Ideal.τ).loc Cert.Reference14Ideal.main_arg22) = m' ((c.tc : Thread Cert.Reference14Ideal.nD Cert.Reference14Ideal.τ).loc Cert.Reference14Ideal.main_arg22)
          ∧ r.2.mem ((c.tc : Thread Cert.Reference14Ideal.nD Cert.Reference14Ideal.τ).loc Cert.Reference14Ideal.main_arg23) = m' ((c.tc : Thread Cert.Reference14Ideal.nD Cert.Reference14Ideal.τ).loc Cert.Reference14Ideal.main_arg23)
          ∧ r.2.mem ((c.tc : Thread Cert.Reference14Ideal.nD Cert.Reference14Ideal.τ).loc Cert.Reference14Ideal.main_arg24) = m' ((c.tc : Thread Cert.Reference14Ideal.nD Cert.Reference14Ideal.τ).loc Cert.Reference14Ideal.main_arg24)
          ∧ r.2.mem ((c.tc : Thread Cert.Reference14Ideal.nD Cert.Reference14Ideal.τ).loc Cert.Reference14Ideal.main_arg25) = m' ((c.tc : Thread Cert.Reference14Ideal.nD Cert.Reference14Ideal.τ).loc Cert.Reference14Ideal.main_arg25)
          ∧ r.2.mem ((c.tc : Thread Cert.Reference14Ideal.nD Cert.Reference14Ideal.τ).loc Cert.Reference14Ideal.main_arg26) = m' ((c.tc : Thread Cert.Reference14Ideal.nD Cert.Reference14Ideal.τ).loc Cert.Reference14Ideal.main_arg26)
          ∧ r.2.mem ((c.tc : Thread Cert.Reference14Ideal.nD Cert.Reference14Ideal.τ).loc Cert.Reference14Ideal.main_arg27) = m' ((c.tc : Thread Cert.Reference14Ideal.nD Cert.Reference14Ideal.τ).loc Cert.Reference14Ideal.main_arg27))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] [hPre_at_origin : Cert.Pre_at_origin.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v5) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_ff2 : Cert.Pre_finite_ff2.Facts) (hPre_finite_dh2 : Cert.Pre_finite_dh2.Facts) (hPre_finite_dcat : Cert.Pre_finite_dcat.Facts) (hPre_finite_dh : Cert.Pre_finite_dh.Facts) (hPre_finite_hgrn : Cert.Pre_finite_hgrn.Facts) (hPre_at_origin : Cert.Pre_at_origin.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ff2 (hKernel2Ideal := hKernel2Ideal) (hPre_finite_ff2 := hPre_finite_ff2)
    ∧ quiescent_Reference2Ideal (hReference2Ideal := hReference2Ideal)
    ∧ quiescent_Reference2Ideal_pre_finite_ff2 (hReference2Ideal := hReference2Ideal) (hPre_finite_ff2 := hPre_finite_ff2)
    ∧ quiescent_Kernel3 (hKernel3 := hKernel3)
    ∧ quiescent_Kernel3Ideal (hKernel3Ideal := hKernel3Ideal)
    ∧ quiescent_Kernel3Ideal_pre_finite_dh2 (hKernel3Ideal := hKernel3Ideal) (hPre_finite_dh2 := hPre_finite_dh2)
    ∧ quiescent_Reference3Ideal (hReference3Ideal := hReference3Ideal)
    ∧ quiescent_Reference3Ideal_pre_finite_dh2 (hReference3Ideal := hReference3Ideal) (hPre_finite_dh2 := hPre_finite_dh2)
    ∧ quiescent_Kernel4 (hKernel4 := hKernel4)
    ∧ quiescent_Kernel4Ideal (hKernel4Ideal := hKernel4Ideal)
    ∧ quiescent_Kernel4Ideal_pre_finite_dcat (hKernel4Ideal := hKernel4Ideal) (hPre_finite_dcat := hPre_finite_dcat)
    ∧ quiescent_Reference4Ideal (hReference4Ideal := hReference4Ideal)
    ∧ quiescent_Reference4Ideal_pre_finite_dcat (hReference4Ideal := hReference4Ideal) (hPre_finite_dcat := hPre_finite_dcat)
    ∧ quiescent_Kernel5 (hKernel5 := hKernel5)
    ∧ quiescent_Kernel5Ideal (hKernel5Ideal := hKernel5Ideal)
    ∧ quiescent_Kernel5Ideal_pre_finite_dh (hKernel5Ideal := hKernel5Ideal) (hPre_finite_dh := hPre_finite_dh)
    ∧ quiescent_Reference5Ideal (hReference5Ideal := hReference5Ideal)
    ∧ quiescent_Reference5Ideal_pre_finite_dh (hReference5Ideal := hReference5Ideal) (hPre_finite_dh := hPre_finite_dh)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_hgrn (hKernel13Ideal := hKernel13Ideal) (hPre_finite_hgrn := hPre_finite_hgrn)
    ∧ quiescent_Reference13Ideal (hReference13Ideal := hReference13Ideal)
    ∧ quiescent_Reference13Ideal_pre_finite_hgrn (hReference13Ideal := hReference13Ideal) (hPre_finite_hgrn := hPre_finite_hgrn)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16) (hPre_at_origin := hPre_at_origin)
    ∧ quiescent_Kernel16Ideal (hKernel16Ideal := hKernel16Ideal) (hPre_at_origin := hPre_at_origin)
    ∧ quiescent_Reference16Ideal (hReference16Ideal := hReference16Ideal)
    ∧ quiescent_Reference16Ideal_pre_at_origin (hReference16Ideal := hReference16Ideal) (hPre_at_origin := hPre_at_origin)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_ff2 (hKernel2Ideal := hKernel2Ideal) (hReference2Ideal := hReference2Ideal) (hPre_finite_ff2 := hPre_finite_ff2)
    ∧ preserves_Kernel3_Kernel3Ideal
    ∧ algebraic_Kernel3Ideal_Reference3Ideal_pre_finite_dh2 (hKernel3Ideal := hKernel3Ideal) (hReference3Ideal := hReference3Ideal) (hPre_finite_dh2 := hPre_finite_dh2)
    ∧ preserves_Kernel4_Kernel4Ideal
    ∧ algebraic_Kernel4Ideal_Reference4Ideal_pre_finite_dcat (hKernel4Ideal := hKernel4Ideal) (hReference4Ideal := hReference4Ideal) (hPre_finite_dcat := hPre_finite_dcat)
    ∧ preserves_Kernel5_Kernel5Ideal
    ∧ algebraic_Kernel5Ideal_Reference5Ideal_pre_finite_dh (hKernel5Ideal := hKernel5Ideal) (hReference5Ideal := hReference5Ideal) (hPre_finite_dh := hPre_finite_dh)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_hgrn (hKernel13Ideal := hKernel13Ideal) (hReference13Ideal := hReference13Ideal) (hPre_finite_hgrn := hPre_finite_hgrn)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal) (hPre_at_origin := hPre_at_origin)
-- ==== Pre_at_origin.lean ====
abbrev S2 : Shape := ⟨1, ![2]⟩
abbrev S4x1024x1024 : Shape := ⟨3, ![4, 1024, 1024]⟩
abbrev S4x512x1024 : Shape := ⟨3, ![4, 512, 1024]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x1024x1024 .f32) (main_arg2 : FVec F S4x512x1024 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_finite_dcat.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x1024 .f32) (main_arg1 : FVec F S1024x1024 .f32) (main_arg2 : FVec F S4096x512 .f32) (main_arg3 : FVec F S4096x512 .f32) (main_arg4 : FVec F S1x512 .f32) : IVec S4096x1024 1 × IVec S1024x1024 1 × IVec S4096x512 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S1x512 .f32 := Host.absf main_arg4
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_finite_dh.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S_ : Shape := ⟨0, ![]⟩

class Facts : Prop where
  bcast_S_S4096x3584 : S_.BroadcastsInDim S4096x3584 (![] : Fin 0 → Fin S4096x3584.rank)
  bcast_S_S1024x3584 : S_.BroadcastsInDim S1024x3584 (![] : Fin 0 → Fin S1024x3584.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x3584 .f32) (main_arg1 : FVec F S1024x3584 .f32) (main_arg2 : FVec F S4096x1024 .f32) (main_arg3 : FVec F S4096x1024 .f32) (main_arg4 : FVec F S1x1024 .f32) : IVec S4096x3584 1 × IVec S1024x3584 1 × IVec S4096x1024 1 × IVec S1x1024 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_v3 : FVec F S1024x3584 .f32 := Host.absf main_arg1
  let main_cst_0 : FVec F S_ .f32 := constant S_ .f32 0x7F800000#32
  let main_v4 : FVec F S1024x3584 .f32 := broadcastInDim S1024x3584 ![] bcast_S_S1024x3584 main_cst_0
  let main_v5 : IVec S1024x3584 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_dh2.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S4096x4096 1) (main_v5 : IVec S1024x4096 1) (main_v8 : IVec S4096x1024 1) (main_v11 : IVec S4096x1024 1) (main_v14 : IVec S4096x1024 1) (main_v17 : IVec S1x1024 1) : IVec S4096x4096 1 × IVec S1024x4096 1 × IVec S4096x1024 1 × IVec S4096x1024 1 × IVec S4096x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x4096 .f32) (main_arg1 : FVec F S1024x4096 .f32) (main_arg2 : FVec F S4096x1024 .f32) (main_arg3 : FVec F S4096x1024 .f32) (main_arg4 : FVec F S4096x1024 .f32) (main_arg5 : FVec F S1x1024 .f32) (main_arg6 : FVec F S1x1024 .f32) : IVec S4096x4096 1 × IVec S1024x4096 1 × IVec S4096x1024 1 × IVec S4096x1024 1 × IVec S4096x1024 1 × IVec S1x1024 1 × IVec S1x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_ff2.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4096 .f32) (main_arg1 : FVec F S4096x1024 .f32) (main_arg2 : FVec F S4096x1024 .f32) (main_arg3 : FVec F S4096x1024 .f32) (main_arg4 : FVec F S1x1024 .f32) : IVec S4096x4096 1 × IVec S4096x1024 1 × IVec S4096x1024 1 × IVec S4096x1024 1 × IVec S1x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_hgrn.lean ====
abbrev S4096x3584 : Shape := ⟨2, ![4096, 3584]⟩
abbrev S2x512 : Shape := ⟨2, ![2, 512]⟩
abbrev S1x512 : Shape := ⟨2, ![1, 512]⟩
abbrev S_ : Shape := ⟨0, ![]⟩

class Facts : Prop where
  bcast_S_S4096x3584 : S_.BroadcastsInDim S4096x3584 (![] : Fin 0 → Fin S4096x3584.rank)
  bcast_S_S2x512 : S_.BroadcastsInDim S2x512 (![] : Fin 0 → Fin S2x512.rank)

variable [Facts]

def fn {F : FTy → Type} [FloatOps F] (main_arg0 : FVec F S4096x3584 .f32) (main_arg1 : FVec F S2x512 .f32) (main_arg2 : FVec F S1x512 .f32) : IVec S4096x3584 1 × IVec S2x512 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_v3 : FVec F S2x512 .f32 := Host.absf main_arg1
  let main_cst_0 : FVec F S_ .f32 := constant S_ .f32 0x7F800000#32
  let main_v4 : FVec F S2x512 .f32 := broadcastInDim S2x512 ![] bcast_S_S2x512 main_cst_0
  let main_v5 : IVec S2x512 1 := cmpf .olt main_v3 main_v4
  (main_v2, main_v5)
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4x1024x1024, .f32⟩
  | .hbm, ⟨10, _⟩ => ⟨S4x1024x1024, .bf16⟩
  | .hbm, ⟨11, _⟩ => ⟨S4096x1024, .bf16⟩
  | .hbm, ⟨12, _⟩ => ⟨S4096x4096, .bf16⟩
  | .local _ .vmem, ⟨0, _⟩ => ⟨S4096x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_8 : BitVec 32 := 1024#32
  let v17 : BitVec 32 := Scalar.muli arg1 c1024_i32_8
  let c512_i32 : BitVec 32 := 512#32
  let v18 : BitVec 32 := Scalar.addi v17 c512_i32
  v18
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .bf16⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S4096x1024, .bf16⟩
  | .hbm, ⟨78, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel3.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S512x1024 : Shape := ⟨2, ![512, 1024]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 33
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x4096, .bf16⟩
  | .hbm, ⟨29, _⟩ => ⟨S4096x1024, .f32⟩
  | .hbm, ⟨30, _⟩ => ⟨S4096x1024, .bf16⟩
  | .hbm, ⟨31, _⟩ => ⟨S1x1024, .f32⟩
  | .hbm, ⟨32, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x4096, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S1x1024x1024 : Shape := ⟨3, ![1, 1024, 1024]⟩
abbrev S512x1024 : Shape := ⟨2, ![512, 1024]⟩
abbrev S512x512 : Shape := ⟨2, ![512, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S512 : Shape := ⟨1, ![512]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S4096x1024, .bf16⟩
  | .hbm, ⟨6, _⟩ => ⟨S1x1024x1024, .f32⟩
  | .hbm, ⟨7, _⟩ => ⟨S1x1024x1024, .bf16⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S4096x8x64 : Shape := ⟨3, ![4096, 8, 64]⟩
abbrev S4096x8 : Shape := ⟨2, ![4096, 8]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S512, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S512, .f32⟩
  | .hbm, ⟨39, _⟩ => ⟨S4096x512, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S1x512, .f32⟩
  | .hbm, ⟨57, _⟩ => ⟨S4096x512, .f32⟩
  | .hbm, ⟨58, _⟩ => ⟨S4096x8x64, .f32⟩
  | .hbm, ⟨59, _⟩ => ⟨S_, .f32⟩
  | .hbm, ⟨60, _⟩ => ⟨S4096x8, .f32⟩
  | .hbm, ⟨61, _⟩ => ⟨S4096x8x64, .f32⟩
  | .hbm, ⟨62, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S1024x4x896 : Shape := ⟨3, ![1024, 4, 896]⟩
abbrev S4x1024x896 : Shape := ⟨3, ![4, 1024, 896]⟩
abbrev S512x3584 : Shape := ⟨2, ![512, 3584]⟩
abbrev S512x1024 : Shape := ⟨2, ![512, 1024]⟩
abbrev S256x1024 : Shape := ⟨2, ![256, 1024]⟩
abbrev S256x896 : Shape := ⟨2, ![256, 896]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x4x896, .f32⟩
  | .hbm, ⟨6, _⟩ => ⟨S4x1024x896, .f32⟩
  | .hbm, ⟨7, _⟩ => ⟨S4x1024x896, .bf16⟩
  | .hbm, ⟨8, _⟩ => ⟨S4096x3584, .bf16⟩
  | .hbm, ⟨9, _⟩ => ⟨S4096x1024, .f32⟩
  | .hbm, ⟨10, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S4x1024x896, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3584, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x1024, .bf16⟩
  | .hbm, ⟨6, _⟩ => ⟨S4096x4096, .bf16⟩
  | .hbm, ⟨7, _⟩ => ⟨S4096x4096, .bf16⟩
  | .local _ .vmem, ⟨0, _⟩ => ⟨S4096x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_8 : BitVec 32 := 1024#32
  let v16 : BitVec 32 := Scalar.muli arg1 c1024_i32_8
  let c512_i32 : BitVec 32 := 512#32
  let v17 : BitVec 32 := Scalar.addi v16 c512_i32
  v17
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .bf16⟩
  | .hbm, ⟨6, _⟩ => ⟨S1024x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S512x1024 : Shape := ⟨2, ![512, 1024]⟩
abbrev S32x1024 : Shape := ⟨2, ![32, 1024]⟩
abbrev S128x1024 : Shape := ⟨2, ![128, 1024]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S256x1024, .f32⟩
  | .hbm, ⟨3, _⟩ => ⟨S1024x1024, .f32⟩
  | .hbm, ⟨4, _⟩ => ⟨S1024x1024, .f32⟩
  | .hbm, ⟨5, _⟩ => ⟨S4096x1024, .bf16⟩
  | .hbm, ⟨6, _⟩ => ⟨S256x1024, .bf16⟩
  | .hbm, ⟨7, _⟩ => ⟨S1024x1024, .bf16⟩
  | .hbm, ⟨8, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S32x1024, .f32⟩
  | .local _ .vmem, ⟨4, _⟩ => ⟨S32x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S512x1024, .bf16⟩
  | .local _ .vmem, ⟨10, _⟩ => ⟨S512x1024, .bf16⟩
  | .local _ .vmem, ⟨11, _⟩ => ⟨S32x1024, .bf16⟩
  | .local _ .vmem, ⟨12, _⟩ => ⟨S32x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S4096x1024 : Shape := ⟨2, ![4096, 1024]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S256x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S256x1024, .bf16⟩
  | .hbm, ⟨24, _⟩ => ⟨S1024x1024, .bf16⟩
  | .hbm, ⟨25, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel10.lean ====
abbrev S4096x1024 : Shape := ⟨2, ![4096, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S4096x3584 : Shape := ⟨2, ![4096, 3584]⟩
abbrev S1x1024x896 : Shape := ⟨3, ![1, 1024, 896]⟩
abbrev S1024x896 : Shape := ⟨2, ![1024, 896]⟩
abbrev S512x1024 : Shape := ⟨2, ![512, 1024]⟩
abbrev S512x896 : Shape := ⟨2, ![512, 896]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S1024x4x896, .f32⟩
  | .hbm, ⟨3, _⟩ => ⟨S4x1024x896, .f32⟩
  | .hbm, ⟨4, _⟩ => ⟨S4x1024x896, .bf16⟩
  | .hbm, ⟨5, _⟩ => ⟨S4096x1024, .bf16⟩
  | .hbm, ⟨6, _⟩ => ⟨S4096x3584, .f32⟩
  | .local _ .vmem, ⟨0, _⟩ => ⟨S4096x1024, .bf16⟩
  | .local _ .vmem, ⟨1, _⟩ => ⟨S1x1024x896, .bf16⟩
  | .local _ .vmem, ⟨2, _⟩ => ⟨S1x1024x896, .bf16⟩
  | .local _ .vmem, ⟨3, _⟩ => ⟨S1024x896, .f32⟩
  | .local _ .vmem, ⟨4, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_5 : BitVec 32 := 1024#32
  let v10 : BitVec 32 := Scalar.muli arg1 c1024_i32_5
  let c512_i32 : BitVec 32 := 512#32
  let v11 : BitVec 32 := Scalar.addi v10 c512_i32
  v11
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x3584 : Shape := ⟨2, ![1024, 3584]⟩
abbrev S4096x3584 : Shape := ⟨2, ![4096, 3584]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x3584, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S4096x512 : Shape := ⟨2, ![4096, 512]⟩
abbrev S512x1024 : Shape := ⟨2, ![512, 1024]⟩
abbrev S1x512x1024 : Shape := ⟨3, ![1, 512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4096x1024 : Shape := ⟨2, ![4096, 1024]⟩
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4096x3584 : Shape := ⟨2, ![4096, 3584]⟩
abbrev S2x512 : Shape := ⟨2, ![2, 512]⟩
abbrev S1x512 : Shape := ⟨2, ![1, 512]⟩
abbrev S4096x512 : Shape := ⟨2, ![4096, 512]⟩
abbrev S64x128x512 : Shape := ⟨3, ![64, 128, 512]⟩
abbrev S512x512 : Shape := ⟨2, ![512, 512]⟩
abbrev S8x128x512 : Shape := ⟨3, ![8, 128, 512]⟩
abbrev S128x512 : Shape := ⟨2, ![128, 512]⟩
abbrev S64x64 : Shape := ⟨2, ![64, 64]⟩
abbrev S64x512 : Shape := ⟨2, ![64, 512]⟩
abbrev S64x128 : Shape := ⟨2, ![64, 128]⟩
abbrev S128x128 : Shape := ⟨2, ![128, 128]⟩
abbrev S1x128x512 : Shape := ⟨3, ![1, 128, 512]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 17
  | .smem => 0
  | _ => 0

abbrev bufTy : (tb : Table) → Fin (tcTables nBuf tb) → BufTy
  | .hbm, ⟨0, _⟩ => ⟨S4096x3584, .f32⟩
  | .hbm, ⟨1, _⟩ => ⟨S2x512, .f32⟩
  | .hbm, ⟨2, _⟩ => ⟨S1x512, .f32⟩
  | .hbm, ⟨3, _⟩ => ⟨S4096x512, .f32⟩
  | .hbm, ⟨4, _⟩ => ⟨S4096x512, .bf16⟩
  | .hbm, ⟨5, _⟩ => ⟨S64x128x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S8x128x512, .bf16⟩
  | .local _ .vmem, ⟨15, _⟩ => ⟨S8x128x512, .bf16⟩
  | .local _ .vmem, ⟨16, _⟩ => ⟨S128x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13Ideal.lean ====
variable {F : FTy → Type} [FloatOps F]
-- ==== Reference13Ideal.lean ====
abbrev S4096x3584 : Shape := ⟨2, ![4096, 3584]⟩
abbrev S2x512 : Shape := ⟨2, ![2, 512]⟩
abbrev S1x512 : Shape := ⟨2, ![1, 512]⟩
abbrev S_ : Shape := ⟨0, ![]⟩
abbrev S512 : Shape := ⟨1, ![512]⟩
abbrev S4x128 : Shape := ⟨2, ![4, 128]⟩
abbrev S4096x512 : Shape := ⟨2, ![4096, 512]⟩
abbrev S1x4096x4x128 : Shape := ⟨4, ![1, 4096, 4, 128]⟩
abbrev S1x1x4x128 : Shape := ⟨4, ![1, 1, 4, 128]⟩
abbrev S64x64 : Shape := ⟨2, ![64, 64]⟩
abbrev S64x64x1 : Shape := ⟨3, ![64, 64, 1]⟩
abbrev S1x4x128x128 : Shape := ⟨4, ![1, 4, 128, 128]⟩
abbrev S1x64x64x4x128 : Shape := ⟨5, ![1, 64, 64, 4, 128]⟩
abbrev S64x1x4x64x128 : Shape := ⟨5, ![64, 1, 4, 64, 128]⟩
abbrev S64x1x4x128x128 : Shape := ⟨5, ![64, 1, 4, 128, 128]⟩
abbrev S1x1x4x64x128 : Shape := ⟨5, ![1, 1, 4, 64, 128]⟩
abbrev S1x4x64x128 : Shape := ⟨4, ![1, 4, 64, 128]⟩
abbrev S1x4x64x1x128 : Shape := ⟨5, ![1, 4, 64, 1, 128]⟩
abbrev S1x4x1x64x128 : Shape := ⟨5, ![1, 4, 1, 64, 128]⟩
abbrev S1x4x64x64x128 : Shape := ⟨5, ![1, 4, 64, 64, 128]⟩
abbrev S1x4x64x64 : Shape := ⟨4, ![1, 4, 64, 64]⟩
abbrev S1x4x1x128 : Shape := ⟨4, ![1, 4, 1, 128]⟩
abbrev S1x4x128 : Shape := ⟨3, ![1, 4, 128]⟩
abbrev S1x4x128x1 : Shape := ⟨4, ![1, 4, 128, 1]⟩
abbrev S1x1x4x128x128 : Shape := ⟨5, ![1, 1, 4, 128, 128]⟩
abbrev S1x4096x4 : Shape := ⟨3, ![1, 4096, 4]⟩
abbrev S1x4096x4x1 : Shape := ⟨4, ![1, 4096, 4, 1]⟩
abbrev S64x4x128x128 : Shape := ⟨4, ![64, 4, 128, 128]⟩
abbrev S64x128x4x128 : Shape := ⟨4, ![64, 128, 4, 128]⟩
abbrev S64x128x512 : Shape := ⟨3, ![64, 128, 512]⟩

abbrev nBuf : Space → Nat
  | .hbm => 229
  | .vmem => 0
  | .smem => 0
  | _ => 0

abbrev hbmTy0_0 (i : Nat) : BufTy := match i % 128 with
  | 0 => ⟨S4096x3584, .f32⟩
  | 1 => ⟨S2x512, .f32⟩
  | 2 => ⟨S1x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S4x128, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x512, .f32⟩
  | 33 => ⟨S1x4096x4x128, .f32⟩
  | 34 => ⟨S4x128, .f32⟩
  | 35 => ⟨S4x128, .f32⟩
  | 36 => ⟨S4x128, .f32⟩
  | 37 => ⟨S4096x512, .f32⟩
  | 38 => ⟨S1x4096x4x128, .f32⟩
  | 39 => ⟨S1x4096x4x128, .f32⟩
  | 40 => ⟨S_, .f32⟩
  | 41 => ⟨S1x4096x4x128, .f32⟩
  | 42 => ⟨S1x4096x4x128, .f32⟩
  | 43 => ⟨S1x4096x4x128, .f32⟩
  | 44 => ⟨S1x4096x4x128, .f32⟩
  | 45 => ⟨S1x4096x4x128, .i1⟩
  | 46 => ⟨S1x4096x4x128, .f32⟩
  | 47 => ⟨S1x4096x4x128, .f32⟩
  | 48 => ⟨S1x4096x4x128, .f32⟩
  | 49 => ⟨S1x4096x4x128, .f32⟩
  | 50 => ⟨S1x4096x4x128, .f32⟩
  | 51 => ⟨S1x4096x4x128, .f32⟩
  | 52 => ⟨S1x4096x4x128, .f32⟩
  | 53 => ⟨S1x4096x4x128, .f32⟩
  | 54 => ⟨S1x4096x4x128, .f32⟩
  | 55 => ⟨S1x1x4x128, .f32⟩
  | 56 => ⟨S1x4096x4x128, .f32⟩
  | 57 => ⟨S1x4096x4x128, .f32⟩
  | 58 => ⟨S1x1x4x128, .f32⟩
  | 59 => ⟨S1x4096x4x128, .f32⟩
  | 60 => ⟨S1x4096x4x128, .f32⟩
  | 61 => ⟨S1x4096x4x128, .f32⟩
  | 62 => ⟨S1x4096x4x128, .f32⟩
  | 63 => ⟨S1x4096x4x128, .i1⟩
  | 64 => ⟨S1x4096x4x128, .f32⟩
  | 65 => ⟨S1x4096x4x128, .f32⟩
  | 66 => ⟨S1x4096x4x128, .f32⟩
  | 67 => ⟨S1x4096x4x128, .f32⟩
  | 68 => ⟨S1x4096x4x128, .f32⟩
  | 69 => ⟨S1x4096x4x128, .f32⟩
  | 70 => ⟨S1x4096x4x128, .f32⟩
  | 71 => ⟨S1x4096x4x128, .f32⟩
  | 72 => ⟨S1x4096x4x128, .f32⟩
  | 73 => ⟨S1x4096x4x128, .f32⟩
  | 74 => ⟨S4096x512, .f32⟩
  | 75 => ⟨S1x4096x4x128, .f32⟩
  | 76 => ⟨S_, .i1⟩
  | 77 => ⟨S64x64, .i1⟩
  | 78 => ⟨S64x64, .i32⟩
  | 79 => ⟨S_, .i32⟩
  | 80 => ⟨S64x64, .i32⟩
  | 81 => ⟨S64x64, .i32⟩
  | 82 => ⟨S64x64, .i32⟩
  | 83 => ⟨S64x64, .i1⟩
  | 84 => ⟨S_, .i1⟩
  | 85 => ⟨S64x64, .i1⟩
  | 86 => ⟨S64x64, .i1⟩
  | 87 => ⟨S64x64x1, .i1⟩
  | 88 => ⟨S_, .f32⟩
  | 89 => ⟨S1x4x128x128, .f32⟩
  | 90 => ⟨S1x64x64x4x128, .f32⟩
  | 91 => ⟨S64x1x4x64x128, .f32⟩
  | 92 => ⟨S1x64x64x4x128, .f32⟩
  | 93 => ⟨S64x1x4x64x128, .f32⟩
  | 94 => ⟨S1x64x64x4x128, .f32⟩
  | 95 => ⟨S64x1x4x64x128, .f32⟩
  | 96 => ⟨S1x64x64x4x128, .f32⟩
  | 97 => ⟨S64x1x4x64x128, .f32⟩
  | 98 => ⟨S_, .f32⟩
  | 99 => ⟨S64x1x4x64x128, .f32⟩
  | 100 => ⟨S_, .f32⟩
  | 101 => ⟨S64x1x4x128x128, .f32⟩
  | 102 => ⟨S_, .i32⟩
  | 103 => ⟨S64x1x4x64x128, .f32⟩
  | 104 => ⟨S64x1x4x64x128, .f32⟩
  | 105 => ⟨S64x1x4x64x128, .f32⟩
  | 106 => ⟨S64x1x4x64x128, .f32⟩
  | 107 => ⟨S64x64x1, .i1⟩
  | 108 => ⟨S_, .i32⟩
  | 109 => ⟨S1x4x128x128, .f32⟩
  | 110 => ⟨S64x1x4x64x128, .f32⟩
  | 111 => ⟨S64x1x4x128x128, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x1x4x64x128, .f32⟩
  | 119 => ⟨S1x4x64x128, .f32⟩
  | 120 => ⟨S_, .i32⟩
  | 121 => ⟨S_, .i32⟩
  | 122 => ⟨S_, .i32⟩
  | 123 => ⟨S_, .i32⟩
  | 124 => ⟨S1x1x4x64x128, .f32⟩
  | 125 => ⟨S1x4x64x128, .f32⟩
  | 126 => ⟨S_, .i32⟩
  | 127 => ⟨S_, .i32⟩
  | _ => ⟨S4096x3584, .f32⟩

abbrev hbmTy0_1 (i : Nat) : BufTy := match i % 128 with
  | 0 => ⟨S_, .i32⟩
  | 1 => ⟨S_, .i32⟩
  | 2 => ⟨S1x1x4x64x128, .f32⟩
  | 3 => ⟨S1x4x64x128, .f32⟩
  | 4 => ⟨S_, .i32⟩
  | 5 => ⟨S_, .i32⟩
  | 6 => ⟨S_, .i32⟩
  | 7 => ⟨S_, .i32⟩
  | 8 => ⟨S1x1x4x64x128, .f32⟩
  | 9 => ⟨S1x4x64x128, .f32⟩
  | 10 => ⟨S_, .f32⟩
  | 11 => ⟨S_, .f32⟩
  | 12 => ⟨S1x4x64x128, .f32⟩
  | 13 => ⟨S1x4x64x128, .f32⟩
  | 14 => ⟨S1x4x64x128, .f32⟩
  | 15 => ⟨S1x4x64x128, .f32⟩
  | 16 => ⟨S1x4x64x1x128, .f32⟩
  | 17 => ⟨S1x4x1x64x128, .f32⟩
  | 18 => ⟨S1x4x64x64x128, .f32⟩
  | 19 => ⟨S1x4x64x64x128, .f32⟩
  | 20 => ⟨S1x4x64x64x128, .f32⟩
  | 21 => ⟨S_, .f32⟩
  | 22 => ⟨S_, .f32⟩
  | 23 => ⟨S1x4x64x64x128, .i1⟩
  | 24 => ⟨S1x4x64x64x128, .f32⟩
  | 25 => ⟨S1x4x64x64x128, .f32⟩
  | 26 => ⟨S1x4x64x64x128, .f32⟩
  | 27 => ⟨S1x4x64x1x128, .f32⟩
  | 28 => ⟨S1x4x1x64x128, .f32⟩
  | 29 => ⟨S1x4x64x64x128, .f32⟩
  | 30 => ⟨S1x4x64x64x128, .f32⟩
  | 31 => ⟨S1x4x64x64x128, .f32⟩
  | 32 => ⟨S1x4x64x64x128, .f32⟩
  | 33 => ⟨S_, .f32⟩
  | 34 => ⟨S1x4x64x64, .f32⟩
  | 35 => ⟨S1x4x64x128, .f32⟩
  | 36 => ⟨S1x4x64x128, .f32⟩
  | 37 => ⟨S1x4x1x128, .f32⟩
  | 38 => ⟨S1x4x128, .f32⟩
  | 39 => ⟨S1x4x128x1, .f32⟩
  | 40 => ⟨S1x4x128x1, .f32⟩
  | 41 => ⟨S1x4x128x128, .f32⟩
  | 42 => ⟨S1x4x128x128, .f32⟩
  | 43 => ⟨S1x4x64x128, .f32⟩
  | 44 => ⟨S1x4x64x128, .f32⟩
  | 45 => ⟨S1x4x64x128, .f32⟩
  | 46 => ⟨S1x4x64x128, .f32⟩
  | 47 => ⟨S1x4x128x128, .f32⟩
  | 48 => ⟨S1x4x128x128, .f32⟩
  | 49 => ⟨S1x1x4x64x128, .f32⟩
  | 50 => ⟨S_, .i32⟩
  | 51 => ⟨S_, .i32⟩
  | 52 => ⟨S_, .i32⟩
  | 53 => ⟨S_, .i32⟩
  | 54 => ⟨S64x1x4x64x128, .f32⟩
  | 55 => ⟨S1x1x4x128x128, .f32⟩
  | 56 => ⟨S_, .i32⟩
  | 57 => ⟨S_, .i32⟩
  | 58 => ⟨S_, .i32⟩
  | 59 => ⟨S_, .i32⟩
  | 60 => ⟨S64x1x4x128x128, .f32⟩
  | 61 => ⟨S_, .i32⟩
  | 62 => ⟨S_, .i32⟩
  | 63 => ⟨S1x64x64x4x128, .f32⟩
  | 64 => ⟨S1x4096x4x128, .f32⟩
  | 65 => ⟨S512, .f32⟩
  | 66 => ⟨S4x128, .f32⟩
  | 67 => ⟨S1x4096x4x128, .f32⟩
  | 68 => ⟨S_, .f32⟩
  | 69 => ⟨S1x4096x4, .f32⟩
  | 70 => ⟨S1x4096x4x1, .f32⟩
  | 71 => ⟨S_, .f32⟩
  | 72 => ⟨S1x4096x4x1, .f32⟩
  | 73 => ⟨S1x4096x4x1, .f32⟩
  | 74 => ⟨S_, .f32⟩
  | 75 => ⟨S1x4096x4x1, .f32⟩
  | 76 => ⟨S1x4096x4x1, .f32⟩
  | 77 => ⟨S1x4096x4x1, .f32⟩
  | 78 => ⟨S1x4096x4x128, .f32⟩
  | 79 => ⟨S1x4096x4x128, .f32⟩
  | 80 => ⟨S1x1x4x128, .f32⟩
  | 81 => ⟨S1x4096x4x128, .f32⟩
  | 82 => ⟨S1x4096x4x128, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .bf16⟩
  | 97 => ⟨S64x4x128x128, .f32⟩
  | 98 => ⟨S64x128x4x128, .f32⟩
  | 99 => ⟨S64x128x512, .f32⟩
  | 100 => ⟨S64x128x512, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call2_v0 : Ref sig .tc := ⟨.hbm, 39, rfl⟩
abbrev main_call2_call0_cst : Ref sig .tc := ⟨.hbm, 40, rfl⟩
abbrev main_call2_call0_v0 : Ref sig .tc := ⟨.hbm, 41, rfl⟩
abbrev main_call2_call0_v1 : Ref sig .tc := ⟨.hbm, 42, rfl⟩
abbrev main_call2_call0_v2 : Ref sig .tc := ⟨.hbm, 43, rfl⟩
abbrev main_call2_call0_v3 : Ref sig .tc := ⟨.hbm, 44, rfl⟩
abbrev main_call2_call0_v4 : Ref sig .tc := ⟨.hbm, 45, rfl⟩
abbrev main_call2_call0_v5 : Ref sig .tc := ⟨.hbm, 46, rfl⟩
abbrev main_call2_call0_v6 : Ref sig .tc := ⟨.hbm, 47, rfl⟩
abbrev main_call2_call0_v7 : Ref sig .tc := ⟨.hbm, 48, rfl⟩
abbrev main_call2_call0_v8 : Ref sig .tc := ⟨.hbm, 49, rfl⟩
abbrev main_call2_call0_v9 : Ref sig .tc := ⟨.hbm, 50, rfl⟩
abbrev main_call2_call0_v10 : Ref sig .tc := ⟨.hbm, 51, rfl⟩
abbrev main_call2_call0_v11 : Ref sig .tc := ⟨.hbm, 52, rfl⟩
abbrev main_call2_v1 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c : Ref sig .tc := ⟨.hbm, 76, rfl⟩
abbrev main_v45 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_0 : Ref sig .tc := ⟨.hbm, 84, rfl⟩
abbrev main_call3_v5 : Ref sig .tc := ⟨.hbm, 85, rfl⟩
abbrev main_v46 : Ref sig .tc := ⟨.hbm, 86, rfl⟩
abbrev main_v47 : Ref sig .tc := ⟨.hbm, 87, rfl⟩
abbrev main_cst_2 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_3 : Ref sig .tc := ⟨.hbm, 98, rfl⟩
abbrev main_v57 : Ref sig .tc := ⟨.hbm, 99, rfl⟩
abbrev main_cst_4 : Ref sig .tc := ⟨.hbm, 100, rfl⟩
abbrev main_v58 : Ref sig .tc := ⟨.hbm, 101, rfl⟩
abbrev main_c_5 : Ref sig .tc := ⟨.hbm, 102, rfl⟩
abbrev main_v59_0 : Ref sig .tc := ⟨.hbm, 103, rfl⟩
abbrev main_v59_1 : Ref sig .tc := ⟨.hbm, 104, rfl⟩
abbrev main_v59_2 : Ref sig .tc := ⟨.hbm, 105, rfl⟩
abbrev main_v59_3 : Ref sig .tc := ⟨.hbm, 106, rfl⟩
abbrev main_v59_4 : Ref sig .tc := ⟨.hbm, 107, rfl⟩
abbrev main_v59_5 : Ref sig .tc := ⟨.hbm, 108, rfl⟩
abbrev main_v59_6 : Ref sig .tc := ⟨.hbm, 109, rfl⟩
abbrev main_v59_7 : Ref sig .tc := ⟨.hbm, 110, rfl⟩
abbrev main_v59_8 : Ref sig .tc := ⟨.hbm, 111, rfl⟩
abbrev main_while0c_c_17 : Ref sig .tc := ⟨.hbm, 112, rfl⟩
abbrev main_while0c_v87 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_c_2 : Ref sig .tc := ⟨.hbm, 117, rfl⟩
abbrev main_while0b_call4_v0 : Ref sig .tc := ⟨.hbm, 118, rfl⟩
abbrev main_while0b_v87 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_c_2 : Ref sig .tc := ⟨.hbm, 123, rfl⟩
abbrev main_while0b_call5_v0 : Ref sig .tc := ⟨.hbm, 124, rfl⟩
abbrev main_while0b_v88 : Ref sig .tc := ⟨.hbm, 125, rfl⟩
abbrev main_while0b_call6_c : Ref sig .tc := ⟨.hbm, 126, rfl⟩
abbrev main_while0b_call6_c_0 : Ref sig .tc := ⟨.hbm, 127, rfl⟩
abbrev main_while0b_call6_c_1 : Ref sig .tc := ⟨.hbm, 128, rfl⟩
abbrev main_while0b_call6_c_2 : Ref sig .tc := ⟨.hbm, 129, rfl⟩
abbrev main_while0b_call6_v0 : Ref sig .tc := ⟨.hbm, 130, rfl⟩
abbrev main_while0b_v89 : Ref sig .tc := ⟨.hbm, 131, rfl⟩
abbrev main_while0b_call7_c : Ref sig .tc := ⟨.hbm, 132, rfl⟩
abbrev main_while0b_call7_c_0 : Ref sig .tc := ⟨.hbm, 133, rfl⟩
abbrev main_while0b_call7_c_1 : Ref sig .tc := ⟨.hbm, 134, rfl⟩
abbrev main_while0b_call7_c_2 : Ref sig .tc := ⟨.hbm, 135, rfl⟩
abbrev main_while0b_call7_v0 : Ref sig .tc := ⟨.hbm, 136, rfl⟩
abbrev main_while0b_v90 : Ref sig .tc := ⟨.hbm, 137, rfl⟩
abbrev main_while0b_call8_call0_cst : Ref sig .tc := ⟨.hbm, 138, rfl⟩
abbrev main_while0b_call8_call0_v0 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_v97 : Ref sig .tc := ⟨.hbm, 146, rfl⟩
abbrev main_while0b_v98 : Ref sig .tc := ⟨.hbm, 147, rfl⟩
abbrev main_while0b_v99 : Ref sig .tc := ⟨.hbm, 148, rfl⟩
abbrev main_while0b_cst_17 : Ref sig .tc := ⟨.hbm, 149, rfl⟩
abbrev main_while0b_call9_v0 : Ref sig .tc := ⟨.hbm, 150, rfl⟩
abbrev main_while0b_call9_v1 : Ref sig .tc := ⟨.hbm, 151, rfl⟩
abbrev main_while0b_call9_v2 : Ref sig .tc := ⟨.hbm, 152, rfl⟩
abbrev main_while0b_v100 : Ref sig .tc := ⟨.hbm, 153, rfl⟩
abbrev main_while0b_v101 : Ref sig .tc := ⟨.hbm, 154, rfl⟩
abbrev main_while0b_v102 : Ref sig .tc := ⟨.hbm, 155, rfl⟩
abbrev main_while0b_v103 : Ref sig .tc := ⟨.hbm, 156, rfl⟩
abbrev main_while0b_v104 : Ref sig .tc := ⟨.hbm, 157, rfl⟩
abbrev main_while0b_v105 : Ref sig .tc := ⟨.hbm, 158, rfl⟩
abbrev main_while0b_v106 : Ref sig .tc := ⟨.hbm, 159, rfl⟩
abbrev main_while0b_v107 : Ref sig .tc := ⟨.hbm, 160, rfl⟩
abbrev main_while0b_cst_18 : Ref sig .tc := ⟨.hbm, 161, rfl⟩
abbrev main_while0b_v108 : Ref sig .tc := ⟨.hbm, 162, rfl⟩
abbrev main_while0b_v109 : Ref sig .tc := ⟨.hbm, 163, rfl⟩
abbrev main_while0b_v110 : Ref sig .tc := ⟨.hbm, 164, rfl⟩
abbrev main_while0b_v111 : Ref sig .tc := ⟨.hbm, 165, rfl⟩
abbrev main_while0b_v112 : Ref sig .tc := ⟨.hbm, 166, rfl⟩
abbrev main_while0b_v113 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_v117 : Ref sig .tc := ⟨.hbm, 171, rfl⟩
abbrev main_while0b_v118 : Ref sig .tc := ⟨.hbm, 172, rfl⟩
abbrev main_while0b_v119 : Ref sig .tc := ⟨.hbm, 173, rfl⟩
abbrev main_while0b_v120 : Ref sig .tc := ⟨.hbm, 174, rfl⟩
abbrev main_while0b_v121 : Ref sig .tc := ⟨.hbm, 175, rfl⟩
abbrev main_while0b_v122 : Ref sig .tc := ⟨.hbm, 176, rfl⟩
abbrev main_while0b_call10_v0 : Ref sig .tc := ⟨.hbm, 177, rfl⟩
abbrev main_while0b_call10_c : Ref sig .tc := ⟨.hbm, 178, rfl⟩
abbrev main_while0b_call10_c_0 : Ref sig .tc := ⟨.hbm, 179, rfl⟩
abbrev main_while0b_call10_c_1 : Ref sig .tc := ⟨.hbm, 180, rfl⟩
abbrev main_while0b_call10_c_2 : Ref sig .tc := ⟨.hbm, 181, rfl⟩
abbrev main_while0b_v123 : Ref sig .tc := ⟨.hbm, 182, rfl⟩
abbrev main_while0b_call11_v0 : Ref sig .tc := ⟨.hbm, 183, rfl⟩
abbrev main_while0b_call11_c : Ref sig .tc := ⟨.hbm, 184, rfl⟩
abbrev main_while0b_call11_c_0 : Ref sig .tc := ⟨.hbm, 185, rfl⟩
abbrev main_while0b_call11_c_1 : Ref sig .tc := ⟨.hbm, 186, rfl⟩
abbrev main_while0b_call11_c_2 : Ref sig .tc := ⟨.hbm, 187, rfl⟩
abbrev main_while0b_v124 : Ref sig .tc := ⟨.hbm, 188, rfl⟩
abbrev main_while0b_c_19 : Ref sig .tc := ⟨.hbm, 189, rfl⟩
abbrev main_while0b_v125 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_v64 : Ref sig .tc := ⟨.hbm, 195, rfl⟩
abbrev main_cst_6 : Ref sig .tc := ⟨.hbm, 196, rfl⟩
abbrev main_v65 : Ref sig .tc := ⟨.hbm, 197, rfl⟩
abbrev main_v66 : Ref sig .tc := ⟨.hbm, 198, rfl⟩
abbrev main_cst_7 : Ref sig .tc := ⟨.hbm, 199, rfl⟩
abbrev main_v67 : Ref sig .tc := ⟨.hbm, 200, rfl⟩
abbrev main_v68 : Ref sig .tc := ⟨.hbm, 201, rfl⟩
abbrev main_cst_8 : Ref sig .tc := ⟨.hbm, 202, rfl⟩
abbrev main_v69 : Ref sig .tc := ⟨.hbm, 203, rfl⟩
abbrev main_v70 : Ref sig .tc := ⟨.hbm, 204, rfl⟩
abbrev main_v71 : Ref sig .tc := ⟨.hbm, 205, rfl⟩
abbrev main_v72 : Ref sig .tc := ⟨.hbm, 206, rfl⟩
abbrev main_v73 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩
abbrev main_v77 : Ref sig .tc := ⟨.hbm, 211, rfl⟩
abbrev main_v78 : Ref sig .tc := ⟨.hbm, 212, rfl⟩
abbrev main_call12_v0 : Ref sig .tc := ⟨.hbm, 213, rfl⟩
abbrev main_call12_v1 : Ref sig .tc := ⟨.hbm, 214, rfl⟩
abbrev main_call12_cst : Ref sig .tc := ⟨.hbm, 215, rfl⟩
abbrev main_call12_v2 : Ref sig .tc := ⟨.hbm, 216, rfl⟩
abbrev main_call12_v3 : Ref sig .tc := ⟨.hbm, 217, rfl⟩
abbrev main_call12_cst_0 : Ref sig .tc := ⟨.hbm, 218, rfl⟩
abbrev main_call12_v4 : Ref sig .tc := ⟨.hbm, 219, rfl⟩
abbrev main_call12_v5 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩

abbrev nD : Nat := 1
abbrev τ : Topo := Topo.v7x

variable {F : FTy → Type} [FloatOps F]

abbrev main_while0_count : Scf.Loop 32 := ⟨0#32, 64#32, 1#32⟩
-- ==== Kernel14.lean ====
abbrev S1x1024 : Shape := ⟨2, ![1, 1024]⟩
abbrev S1x512 : Shape := ⟨2, ![1, 512]⟩
abbrev S2x512 : Shape := ⟨2, ![2, 512]⟩
abbrev S_ : Shape := ⟨0, ![]⟩
abbrev S8x1024 : Shape := ⟨2, ![8, 1024]⟩

abbrev nBuf : Space → Nat
  | .hbm => 86
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x512, .f32⟩
  | .hbm, ⟨2, _⟩ => ⟨S2x512, .f32⟩
  | .hbm, ⟨3, _⟩ => ⟨S1x512, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x512, .f32⟩
  | .hbm, ⟨9, _⟩ => ⟨S2x512, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x512, .f32⟩
  | .hbm, ⟨16, _⟩ => ⟨S2x512, .f32⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S2x512, .f32⟩
  | .hbm, ⟨24, _⟩ => ⟨S1x512, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x512, .f32⟩
  | .hbm, ⟨32, _⟩ => ⟨S1x512, .f32⟩
  | .hbm, ⟨33, _⟩ => ⟨S1x1024, .f32⟩
  | .hbm, ⟨34, _⟩ => ⟨S8x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x512, .f32⟩
  | .hbm, ⟨39, _⟩ => ⟨S1x512, .f32⟩
  | .hbm, ⟨40, _⟩ => ⟨S1x1024, .f32⟩
  | .hbm, ⟨41, _⟩ => ⟨S8x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x512, .f32⟩
  | .hbm, ⟨46, _⟩ => ⟨S1x512, .f32⟩
  | .hbm, ⟨47, _⟩ => ⟨S1x1024, .f32⟩
  | .hbm, ⟨48, _⟩ => ⟨S8x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x512, .f32⟩
  | .hbm, ⟨53, _⟩ => ⟨S1x512, .f32⟩
  | .hbm, ⟨54, _⟩ => ⟨S1x1024, .f32⟩
  | .hbm, ⟨55, _⟩ => ⟨S8x1024, .f32⟩
  | .hbm, ⟨56, _⟩ => ⟨S8x1024, .f32⟩
  | .hbm, ⟨57, _⟩ => ⟨S8x1024, .f32⟩
  | .hbm, ⟨58, _⟩ => ⟨S8x1024, .f32⟩
  | .hbm, ⟨59, _⟩ => ⟨S1x1024, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S2x512, .f32⟩
  | .hbm, ⟨64, _⟩ => ⟨S1x512, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S2x512, .f32⟩
  | .hbm, ⟨73, _⟩ => ⟨S1x512, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x512, .f32⟩
  | .hbm, ⟨79, _⟩ => ⟨S1x512, .f32⟩
  | .hbm, ⟨80, _⟩ => ⟨S1x512, .f32⟩
  | .hbm, ⟨81, _⟩ => ⟨S2x512, .f32⟩
  | .hbm, ⟨82, _⟩ => ⟨S1x512, .f32⟩
  | .hbm, ⟨83, _⟩ => ⟨S1x1024, .f32⟩
  | .hbm, ⟨84, _⟩ => ⟨S1x1024, .f32⟩
  | .hbm, ⟨85, _⟩ => ⟨S1x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24_0 : Ref sig .tc := ⟨.hbm, 56, rfl⟩
abbrev main_v24_1 : Ref sig .tc := ⟨.hbm, 57, rfl⟩
abbrev main_v24_2 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S1x1024 : Shape := ⟨2, ![1, 1024]⟩
abbrev S1x512 : Shape := ⟨2, ![1, 512]⟩
abbrev S2x512 : Shape := ⟨2, ![2, 512]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1x1024, .f32⟩
  | 1 => ⟨S1x512, .f32⟩
  | 2 => ⟨S2x512, .f32⟩
  | 3 => ⟨S1x512, .f32⟩
  | 4 => ⟨S1x1024, .f32⟩
  | 5 => ⟨S1x1024, .f32⟩
  | 6 => ⟨S1x1024, .f32⟩
  | 7 => ⟨S1x1024, .f32⟩
  | 8 => ⟨S1x512, .f32⟩
  | 9 => ⟨S2x512, .f32⟩
  | 10 => ⟨S1x512, .f32⟩
  | 11 => ⟨S1x1024, .f32⟩
  | 12 => ⟨S1x1024, .f32⟩
  | 13 => ⟨S1x1024, .f32⟩
  | 14 => ⟨S1x1024, .f32⟩
  | 15 => ⟨S1x512, .f32⟩
  | 16 => ⟨S2x512, .f32⟩
  | 17 => ⟨S1x512, .f32⟩
  | 18 => ⟨S1x1024, .f32⟩
  | 19 => ⟨S1x1024, .f32⟩
  | 20 => ⟨S1x1024, .f32⟩
  | 21 => ⟨S1x1024, .f32⟩
  | 22 => ⟨S1x512, .f32⟩
  | 23 => ⟨S2x512, .f32⟩
  | 24 => ⟨S1x512, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S_, .f32⟩
  | 95 => ⟨S2x512, .f32⟩
  | 96 => ⟨S2x512, .f32⟩
  | 97 => ⟨S_, .f32⟩
  | 98 => ⟨S2x512, .f32⟩
  | 99 => ⟨S2x512, .f32⟩
  | 100 => ⟨S2x512, .f32⟩
  | 101 => ⟨S_, .f32⟩
  | 102 => ⟨S2x512, .f32⟩
  | 103 => ⟨S2x512, .f32⟩
  | 104 => ⟨S2x512, .f32⟩
  | 105 => ⟨S_, .f32⟩
  | 106 => ⟨S2x512, .f32⟩
  | 107 => ⟨S2x512, .f32⟩
  | 108 => ⟨S2x512, .f32⟩
  | 109 => ⟨S_, .f32⟩
  | 110 => ⟨S2x512, .f32⟩
  | 111 => ⟨S2x512, .f32⟩
  | 112 => ⟨S_, .f32⟩
  | 113 => ⟨S2x512, .f32⟩
  | 114 => ⟨S2x512, .f32⟩
  | 115 => ⟨S2x512, .f32⟩
  | 116 => ⟨S_, .f32⟩
  | 117 => ⟨S2x512, .f32⟩
  | 118 => ⟨S2x512, .f32⟩
  | 119 => ⟨S2x512, .f32⟩
  | 120 => ⟨S_, .f32⟩
  | 121 => ⟨S2x512, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S_, .f32⟩
  | _ => ⟨S1x1024, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S1x512, .f32⟩
  | 6 => ⟨S_, .f32⟩
  | 7 => ⟨S1x512, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S_, .f32⟩
  | 18 => ⟨S1x512, .f32⟩
  | 19 => ⟨S1x512, .f32⟩
  | 20 => ⟨S1x512, .f32⟩
  | 21 => ⟨S_, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x1024, .f32⟩

abbrev hbmTy0_2 (i : Nat) : BufTy := match i % 128 with
  | 0 => ⟨S_, .f32⟩
  | 1 => ⟨S1x1024, .f32⟩
  | 2 => ⟨S1x1024, .f32⟩
  | _ => ⟨S1x1024, .f32⟩

abbrev hbmTy (i : Nat) : BufTy := match i / 128 with
  | 0 => hbmTy0_0 i
  | 1 => hbmTy0_1 i
  | 2 => hbmTy0_2 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel15.lean ====
abbrev S512x1024 : Shape := ⟨2, ![512, 1024]⟩
abbrev S3x512x1024 : Shape := ⟨3, ![3, 512, 1024]⟩
abbrev S_ : Shape := ⟨0, ![]⟩
abbrev S2 : Shape := ⟨1, ![2]⟩
abbrev S1024x1024 : Shape := ⟨2, ![1024, 1024]⟩
abbrev S256x1024 : Shape := ⟨2, ![256, 1024]⟩
abbrev S3x256x1024 : Shape := ⟨3, ![3, 256, 1024]⟩
abbrev S1 : Shape := ⟨1, ![1]⟩
abbrev S1x256x1024 : Shape := ⟨3, ![1, 256, 1024]⟩

abbrev nBuf : Space → Nat
  | .hbm => 6
  | .vmem => 6
  | .smem => 1
  | _ => 0

abbrev bufTy : (tb : Table) → Fin (tcTables nBuf tb) → BufTy
  | .hbm, ⟨0, _⟩ => ⟨S512x1024, .f32⟩
  | .hbm, ⟨1, _⟩ => ⟨S3x512x1024, .f32⟩
  | .hbm, ⟨2, _⟩ => ⟨S_, .i32⟩
  | .hbm, ⟨3, _⟩ => ⟨S3x512x1024, .bf16⟩
  | .hbm, ⟨4, _⟩ => ⟨S1024x1024, .f32⟩
  | .hbm, ⟨5, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .smem, ⟨0, _⟩ => ⟨S2, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .f32⟩
  | .hbm, ⟨2, _⟩ => ⟨S1x512x1024, .f32⟩
  | .hbm, ⟨3, _⟩ => ⟨S512x1024, .f32⟩
  | .hbm, ⟨4, _⟩ => ⟨S512x1024, .f32⟩
  | .hbm, ⟨5, _⟩ => ⟨S1x512x1024, .f32⟩
  | .hbm, ⟨6, _⟩ => ⟨S512x1024, .f32⟩
  | .hbm, ⟨7, _⟩ => ⟨S512x1024, .f32⟩
  | .hbm, ⟨8, _⟩ => ⟨S1x512x1024, .f32⟩
  | .hbm, ⟨9, _⟩ => ⟨S512x1024, .f32⟩
  | .hbm, ⟨10, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel16.lean ====
abbrev S2 : Shape := ⟨1, ![2]⟩
abbrev S4x1024x1024 : Shape := ⟨3, ![4, 1024, 1024]⟩
abbrev S4x512x1024 : Shape := ⟨3, ![4, 512, 1024]⟩
abbrev S512x1024 : Shape := ⟨2, ![512, 1024]⟩
abbrev S1x256x1024 : Shape := ⟨3, ![1, 256, 1024]⟩
abbrev S1 : Shape := ⟨1, ![1]⟩
abbrev S256x1024 : Shape := ⟨2, ![256, 1024]⟩

abbrev nBuf : Space → Nat
  | .hbm => 4
  | .vmem => 8
  | .smem => 1
  | _ => 0

abbrev bufTy : (tb : Table) → Fin (tcTables nBuf tb) → BufTy
  | .hbm, ⟨0, _⟩ => ⟨S4x1024x1024, .f32⟩
  | .hbm, ⟨1, _⟩ => ⟨S4x512x1024, .bf16⟩
  | .hbm, ⟨2, _⟩ => ⟨S512x1024, .f32⟩
  | .hbm, ⟨3, _⟩ => ⟨S4x512x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S256x1024, .f32⟩
  | .local _ .vmem, ⟨5, _⟩ => ⟨S256x1024, .f32⟩
  | .local _ .vmem, ⟨6, _⟩ => ⟨S1x256x1024, .bf16⟩
  | .local _ .vmem, ⟨7, _⟩ => ⟨S1x256x1024, .bf16⟩
  | .local _ .smem, ⟨0, _⟩ => ⟨S2, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v10 : BitVec 32) : BitVec 1 :=
  let arg1 : BitVec 32 := BitVec.ofNat 32 (i 1).val
  let v11 : BitVec 1 := Scalar.cmpi .eq arg1 v10
  let v12 : BitVec 32 := Scalar.extui v11
  let c0_i32 : BitVec 32 := 0#32
  let v13 : BitVec 1 := Scalar.cmpi .ne v12 c0_i32
  v13

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![arg1.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S2 : Shape := ⟨1, ![2]⟩
abbrev S4x1024x1024 : Shape := ⟨3, ![4, 1024, 1024]⟩
abbrev S4x512x1024 : Shape := ⟨3, ![4, 512, 1024]⟩
abbrev S1x512x1024 : Shape := ⟨3, ![1, 512, 1024]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1024x1024, .f32⟩
  | .hbm, ⟨2, _⟩ => ⟨S4x512x1024, .bf16⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S1x512x1024, .f32⟩
  | .hbm, ⟨7, _⟩ => ⟨S512x1024, .f32⟩
  | .hbm, ⟨8, _⟩ => ⟨S4x512x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Du.lean ====
/- The gradient at the input of the squared-ReLU MLP: the kernel's result array, block by block, is the reference's. -/
module

public import proofs.«01_k».proof.Proof.Gen.KernelIdeal.Value
public import proofs.«01_k».proof.Proof.Gen.ReferenceIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.Du

open Cert.KernelIdeal Cert.KernelIdeal.Gen
open Idealize.ShloMosaic.Pipeline (Dat)

/-- The gradient at row `r` and column `d`: the cotangent's row against the weight's row, times twice the positive part. -/
def grad (h2 : FVec Ideal S4096x1024 .f32) (w1 : FVec Ideal S1024x4096 .f32) (w2 dff : FVec Ideal S4096x1024 .f32) :
    FVec Ideal S4096x4096 .bf16 := fun j =>
  (∑ k : Fin 1024, dff (ix2 (j 0) k) * w2 (ix2 (j 1) k))
    * (Ideal.ofBits .f32 0x40000000#32 * max (∑ k : Fin 1024, h2 (ix2 (j 0) k) * w1 (ix2 k (j 1))) 0)

variable (m : (ℓ : Loc nD τ sig) → Buf (Elt Ideal) ℓ)

/-- Each window's block index: the output's columns advance every fourth point, its rows at every point. -/
theorem idx : ∀ t : Fin cfg0.N, win0_0.index t = ![0, 0] ∧ win0_1.index t = ![t.val / 4, 0, 0]
    ∧ win0_2.index t = ![t.val % 4, t.val / 4] ∧ win0_3.index t = ![t.val % 4, t.val / 4] :=
  (by decide +kernel : ∀ t : Fin grid0.N, _)

/-- The row at which each of the body's two loads of the cotangent begins. -/
theorem off : ∀ t : Fin cfg0.N, k0_off1 (grid0.coords t) 0#32 = ![t.val % 4 * 1024, 0]
    ∧ k0_off1 (grid0.coords t) 512#32 = ![t.val % 4 * 1024 + 512, 0] :=
  (by decide +kernel : ∀ t : Fin grid0.N, _)

/-- The saved activation, as the host computes it: the positive part of the product. -/
theorem saved (c : Dev nD) (j : S4096x4096.Idx) : V m c main_v3 j
    = max (∑ k : Fin 1024, (show FVec Ideal S4096x1024 .f32 from m ((c : Thread nD τ).loc main_arg0)) (ix2 (j 0) k)
        * (show FVec Ideal S1024x4096 .f32 from m ((c : Thread nD τ).loc main_arg1)) (ix2 k (j 1))) 0 := by
  entry_read
  pointwise

theorem final (c : Dev nD) : (dats m 0 c).arrAt 3 (cfgs 0).N
    = grad (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  unfold outsAt0
  frame_out
  have o0 := congrFun (off t).1
  have o1 := congrFun (off t).2
  canon_tiles x h
  all_goals
    pointwise [k0_pay1, k0_pay2, grad]
    refine Ideal.mul_congr (Fin.sum_fin_congr fun k => ?_) (Ideal.mul_congr rfl ?_)
    · blk_point [iblk, V, idx t, o0, o1]
    · refine (saved m c _).trans ?_
      blk_point [idx t]

end Cert.Proof.Du

namespace Cert.Proof.Du

open Cert.ReferenceIdeal Cert.ReferenceIdeal.Gen

/-- The reference's composed term. -/
def ref (h2 : FVec Ideal S4096x1024 .f32) (w1 : FVec Ideal S1024x4096 .f32) (w2 dff : FVec Ideal S4096x1024 .f32) :
    FVec Ideal S4096x4096 .bf16 :=
  truncf .bf16 (select (cmpf .ogt (Host.dotGeneral dot_S4096x1024_S1024x4096_S4096x4096_1_0_0_1_n_n none h2 w1)
      (broadcastInDim S4096x4096 ![] bcast_S_S4096x4096 (constant S_ .f32 0x00000000#32)))
    (mulf (Host.dotGeneral dot_S4096x1024_S4096x1024_S4096x4096_1_1_0_0_n_n none dff w2)
      (mulf (broadcastInDim S4096x4096 ![] bcast_S_S4096x4096 (constant S_ .f32 0x40000000#32))
        (maximumf (Host.dotGeneral dot_S4096x1024_S1024x4096_S4096x4096_1_0_0_1_n_n none h2 w1)
          (broadcastInDim S4096x4096 ![] bcast_S_S4096x4096 (constant S_ .f32 0x00000000#32)))))
    (broadcastInDim S4096x4096 ![] bcast_S_S4096x4096 (constant S_ .f32 0x00000000#32))) bitsLt_bf16_f32

/-- Where the product is not positive the reference selects zero, and the formula's factor is zero there. -/
theorem ref_eq (h2 : FVec Ideal S4096x1024 .f32) (w1 : FVec Ideal S1024x4096 .f32) (w2 dff : FVec Ideal S4096x1024 .f32) :
    ref h2 w1 w2 dff = grad h2 w1 w2 dff := by
  funext j
  pointwise [ref, grad]
  split
  · rfl
  · rename_i hn
    rw [max_eq_right (not_lt.mp hn), mul_zero, mul_zero]

end Cert.Proof.Du

end
-- ==== Proof.Alg.lean ====
module

public import proofs.«01_k».proof.Defs
public import proofs.«01_k».proof.Proof.Du
public import Idealize.ShloMosaic.Lib.Claim

@[expose] public section

noncomputable section

namespace Cert.Proof

open Idealize.ShloMosaic Idealize.SL.Sem

theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem algebraic_du : Cert.algebraic_KernelIdeal_ReferenceIdeal := by
  pair_intro
  · run_from Cert.KernelIdeal.Gen.run_main m g
  · run_from Cert.ReferenceIdeal.Value.run (F := Ideal) m' g'
    exact (Du.ref_eq _ _ _ _).trans (Du.final m c).symm

end Cert.Proof

end
-- ==== Proof.Norm.lean ====
/- The root-mean-square norm over the reals: the kernel's formula for its derivative and the one of automatic differentiation. -/
module

public import Idealize.ShloMosaic.Lib.Pointwise
public import Idealize.ShloMosaic.Lib.Pipeline.ValueKit

@[expose] public section

noncomputable section

open Idealize.ShloMosaic

namespace Cert.Proof.Norm

/-- The small number under the root. -/
def ε : ℝ := 8796093 * (2 : ℝ) ^ (-43 : ℤ)

theorem ε_pos : 0 < ε := by unfold ε; positivity

theorem word_ε : Ideal.ofBits .f32 0x358637BD#32 = (ε : EReal) := by
  simp [Ideal.ofBits, Ideal.ieee, ε, -EReal.coe_mul]

theorem word_1024 : Ideal.ofBits .f32 0x44800000#32 = ((1024 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_1024th : Ideal.ofBits .f32 0x3A800000#32 = ((1 / 1024 : ℝ) : EReal) := by
  simp [Ideal.ofBits, Ideal.ieee, -EReal.coe_mul]; norm_num

theorem sum_coe {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

theorem rsqrt_coe {x : ℝ} (h : 0 < x) : Ideal.rsqrt (x : EReal) = ((1 / √x : ℝ) : EReal) := by
  rw [Ideal.rsqrt_coe, if_neg h.le.not_gt, if_neg h.ne', one_div]

/-- A value that is a real number. -/
def Real (x : EReal) : Prop := ∃ r : ℝ, x = r

theorem Real.add {x y : EReal} : Real x → Real y → Real (x + y) := by
  rintro ⟨a, rfl⟩ ⟨b, rfl⟩; exact ⟨a + b, (EReal.coe_add a b).symm⟩

theorem Real.sub {x y : EReal} : Real x → Real y → Real (x - y) := by
  rintro ⟨a, rfl⟩ ⟨b, rfl⟩; exact ⟨a - b, (EReal.coe_sub a b).symm⟩

theorem Real.mul {x y : EReal} : Real x → Real y → Real (x * y) := by
  rintro ⟨a, rfl⟩ ⟨b, rfl⟩; exact ⟨a * b, (EReal.coe_mul a b).symm⟩

theorem Real.sum {n : ℕ} {f : Fin n → EReal} (h : ∀ k, Real (f k)) : Real (∑ k, f k) := by
  choose r hr using h
  exact ⟨∑ k, r k, by simp only [hr, sum_coe]⟩

theorem Real.div {x : EReal} {y : ℝ} (hy : y ≠ 0) : Real x → Real (Ideal.div x y) := by
  rintro ⟨a, rfl⟩
  exact ⟨a * (1 / y), by rw [Ideal.div_coe hy, EReal.coe_mul]⟩

theorem word_inf : Ideal.ofBits .f32 0x7F800000#32 = (⊤ : EReal) := by
  simp [Ideal.ofBits, Ideal.ieee]

/-- Where the absolute value is below infinity the value is a real number. -/
theorem Real.of_small {s z : Shape} {x : FVec Ideal s .f32} {d : Fin z.rank → Fin s.rank} {b : z.BroadcastsInDim s d}
    (h : cmpf .olt (Host.absf x) (broadcastInDim s d b (constant (F := Ideal) z .f32 0x7F800000#32)) = fun _ => 1#1)
    (i : s.Idx) : Real (x i) := by
  have hi := congrFun h i
  revert hi
  pointwise [word_inf]
  generalize x i = y
  induction y using EReal.rec with
  | bot => exact fun h => absurd h (by simp [FloatOps.absf])
  | top => exact fun h => absurd h (by simp [FloatOps.absf])
  | coe r => exact fun _ => ⟨r, rfl⟩

/-- The mean square of `v` and the small number: what the norm takes the root of; `w` is the word of the width. -/
def ms {n : ℕ} (w : BitVec 32) (v : Fin n → EReal) : EReal :=
  Ideal.div (∑ k, v k * v k) (Ideal.ofBits .f32 w) + Ideal.ofBits .f32 0x358637BD#32

/-- The derivative at coordinate `d`, the kernel's way: the cotangent less its projection on the normalised row, scaled. -/
def back {n : ℕ} (w : BitVec 32) (v g dy : Fin n → EReal) (d : Fin n) : EReal :=
  Ideal.rsqrt (ms w v) * (dy d * g d - v d * Ideal.rsqrt (ms w v)
    * Ideal.div (∑ k, dy k * g k * (v k * Ideal.rsqrt (ms w v))) (Ideal.ofBits .f32 w))

/-- What reverse mode sends back through the mean of the squares. -/
def through {n : ℕ} (w : BitVec 32) (v g dy : Fin n → EReal) : EReal :=
  ∑ _ : Fin 1, Ideal.div ((∑ k, v k * (dy k * g k))
    * (Ideal.ofBits .f32 0xBF000000#32 * Ideal.div (Ideal.rsqrt (ms w v)) (ms w v))) (Ideal.ofBits .f32 w)

/-- The derivative as reverse mode writes it: through the scale, and twice through the mean of the squares. -/
def auto {n : ℕ} (w : BitVec 32) (v g dy : Fin n → EReal) (d : Fin n) : EReal :=
  dy d * g d * Ideal.rsqrt (ms w v) + v d * through w v g dy + through w v g dy * v d

theorem word_neg_half : Ideal.ofBits .f32 0xBF000000#32 = ((-(1 / 2) : ℝ) : EReal) := by
  simp [Ideal.ofBits, Ideal.ieee, -EReal.coe_mul, -EReal.coe_neg]; norm_num

/-- The mean square of real numbers is a positive real. -/
theorem ms_coe {n : ℕ} {w : BitVec 32} {N : ℝ} (hw : Ideal.ofBits .f32 w = (N : EReal)) (hN : 0 < N) (v : Fin n → ℝ) :
    ms w (fun k => (v k : EReal)) = ((∑ k, v k * v k) * (1 / N) + ε : ℝ) := by
  unfold ms
  rw [hw, word_ε, Ideal.div_coe hN.ne']
  simp only [← EReal.coe_mul, sum_coe, ← EReal.coe_add]

theorem ms_pos {n : ℕ} {N : ℝ} (hN : 0 < N) (v : Fin n → ℝ) : 0 < (∑ k, v k * v k) * (1 / N) + ε :=
  add_pos_of_nonneg_of_pos (mul_nonneg (Finset.sum_nonneg fun k _ => mul_self_nonneg _) (by positivity)) ε_pos

theorem Real.rsqrt_ms {n : ℕ} {w : BitVec 32} {N : ℝ} (hw : Ideal.ofBits .f32 w = (N : EReal)) (hN : 0 < N)
    {v : Fin n → EReal} (hv : ∀ k, Real (v k)) : Real (Ideal.rsqrt (ms w v)) := by
  choose r hr using hv
  obtain rfl : v = fun k => (r k : EReal) := funext hr
  exact ⟨_, by rw [ms_coe hw hN, rsqrt_coe (ms_pos hN r)]⟩

theorem Real.back {n : ℕ} {w : BitVec 32} {N : ℝ} (hw : Ideal.ofBits .f32 w = (N : EReal)) (hN : 0 < N)
    {v g dy : Fin n → EReal} (hv : ∀ k, Real (v k)) (hg : ∀ k, Real (g k)) (hd : ∀ k, Real (dy k)) (d : Fin n) :
    Real (back w v g dy d) := by
  have hr := Real.rsqrt_ms hw hN hv
  unfold Norm.back
  rw [hw]
  exact hr.mul (((hd d).mul (hg d)).sub (((hv d).mul hr).mul
    (Real.div hN.ne' (Real.sum fun k => ((hd k).mul (hg k)).mul ((hv k).mul hr)))))

/-- On real numbers the two derivatives agree: the square of the scale is the reciprocal of the mean square. -/
theorem auto_eq {n : ℕ} {w : BitVec 32} {N : ℝ} (hw : Ideal.ofBits .f32 w = (N : EReal)) (hN : 0 < N)
    {v g dy : Fin n → EReal} (hv : ∀ k, Real (v k)) (hg : ∀ k, Real (g k)) (hd : ∀ k, Real (dy k)) (d : Fin n) :
    auto w v g dy d = back w v g dy d := by
  choose v' hv' using hv
  choose g' hg' using hg
  choose y' hy' using hd
  obtain rfl : v = fun k => (v' k : EReal) := funext hv'
  obtain rfl : g = fun k => (g' k : EReal) := funext hg'
  obtain rfl : dy = fun k => (y' k : EReal) := funext hy'
  have hp := ms_pos hN v'
  unfold auto through Norm.back
  rw [ms_coe hw hN, hw, word_neg_half, rsqrt_coe hp]
  set M := (∑ k, v' k * v' k) * (1 / N) + ε
  simp only [Ideal.div_coe hN.ne', Ideal.div_coe hp.ne', ← EReal.coe_mul, sum_coe, ← EReal.coe_add, ← EReal.coe_sub,
    EReal.coe_eq_coe_iff, Finset.univ_unique, Finset.sum_const, Finset.card_singleton, one_smul]
  have hs : (1 / √M) * (1 / √M) = 1 / M := by rw [div_mul_div_comm, _root_.Real.mul_self_sqrt hp.le, one_mul]
  have e : ∑ k, y' k * g' k * (v' k * (1 / √M)) = (∑ k, v' k * (y' k * g' k)) * (1 / √M) := by
    rw [Finset.sum_mul]
    exact Finset.sum_congr rfl fun k _ => by ring
  rw [e]
  set s := ∑ k, v' k * (y' k * g' k)
  clear_value M s
  linear_combination (v' d * s * (1 / N) * (1 / √M)) * hs

theorem back_congr {n : ℕ} {w : BitVec 32} {v v' g g' y y' : Fin n → EReal} {d d' : Fin n} (hv : ∀ k, v k = v' k)
    (hg : ∀ k, g k = g' k) (hy : ∀ k, y k = y' k) (hd : d = d') : back w v g y d = back w v' g' y' d' := by
  obtain rfl := funext hv
  obtain rfl := funext hg
  obtain rfl := funext hy
  rw [hd]

/-- The 512 rows of tile `n`, half by half, of a function of the 4096 rows. -/
def halves (f : Fin 4096 → EReal) (n : ℕ) (hn : n < 8) : EReal :=
  (∑ r : Fin 256, f ⟨n * 512 + 0 + r.val, by omega⟩) + ∑ r : Fin 256, f ⟨n * 512 + 256 + r.val, by omega⟩

/-- The eight tiles hold every row once. -/
theorem sum_halves (f : Fin 4096 → EReal) : ∑ t : Fin 8, halves f t.val t.isLt = ∑ r, f r := by
  rw [Fin.sum_univ_tiles 8 512 rfl f]
  refine Fin.sum_fin_congr fun t => ?_
  rw [Fin.sum_univ_tiles 2 256 rfl, Fin.sum_univ_two]
  refine congrArg₂ (· + ·) (Fin.sum_fin_congr fun r => ?_) (Fin.sum_fin_congr fun r => ?_) <;>
    refine congrArg f (Fin.ext ?_) <;> simp <;> omega

/-- A real factor that is not negative is taken out of a sum. -/
theorem mul_sum_coe {n : ℕ} {a : ℝ} (ha : 0 ≤ a) (f : Fin n → EReal) : ∑ k, (a : EReal) * f k = (a : EReal) * ∑ k, f k := by
  induction n with
  | zero => simp
  | succ n ih =>
    rw [Fin.sum_univ_castSucc, Fin.sum_univ_castSucc, ih,
      EReal.left_distrib_of_nonneg_of_ne_top (EReal.coe_nonneg.mpr ha) (EReal.coe_ne_top a)]

end Cert.Proof.Norm

end
-- ==== Proof.HostNorm.lean ====
/- The reference's norm as its host operations write it, forward and in reverse mode, at an index. -/
module

public import proofs.«01_k».proof.Proof.Gen.Reference2Ideal
public import proofs.«01_k».proof.Proof.Norm

@[expose] public section

noncomputable section

open Idealize.ShloMosaic

namespace Cert.Proof.HostNorm

open Cert.Reference2Ideal Cert.Reference2Ideal.Gen Cert.Proof.Norm

variable (v dy : FVec Ideal S4096x1024 .f32) (g : FVec Ideal S1x1024 .f32)

/-- A row of an array, and the gain. -/
def row (r : Fin 4096) (d : Fin 1024) : EReal := v (ix2 r d)
def gain (d : Fin 1024) : EReal := g (ix2 0 d)

/-- The mean square of every row. -/
def mean : FVec Ideal S4096x1 .f32 :=
  addf (Host.divf (broadcastInDim S4096x1 ![0] bcast_S4096_S4096x1_0 (Host.reduceAdd (mulf v v) (constant S_ .f32 0x00000000#32)
      reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- The gain in every row. -/
def gains : FVec Ideal S4096x1024 .f32 :=
  broadcastInDim S4096x1024 ![0, 1] bcast_S1x1024_S4096x1024_0_1 (broadcastInDim S1x1024 ![1] bcast_S1024_S1x1024_1
    (shapeCast _ g shapeCasts_S1x1024_S1024))

/-- Every row divided by its root mean square. -/
def normed : FVec Ideal S4096x1024 .f32 :=
  mulf v (broadcastInDim S4096x1024 ![0, 1] bcast_S4096x1_S4096x1024_0_1 (Host.rsqrt (mean v)))

/-- What reverse mode sends through the mean of the squares, in every column. -/
def sent (u : FVec Ideal S4096x1024 .f32) : FVec Ideal S4096x1024 .f32 :=
  broadcastInDim S4096x1024 ![0] bcast_S4096_S4096x1024_0 (Host.reduceAdd (Host.divf (mulf (shapeCast _ (Host.reduceAdd (mulf v u)
      (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (mean v)) (mean v))))
    (broadcastInDim S4096x1 ![] bcast_S_S4096x1 (constant S_ .f32 0x44800000#32))) (constant S_ .f32 0x00000000#32)
    reducesTo_S4096x1_S4096_d1 h_S_)

/-- A gain's gradient: the sum over the rows. -/
def colsum (u : FVec Ideal S4096x1024 .f32) : FVec Ideal S1x1024 .f32 :=
  broadcastInDim S1x1024 ![1] bcast_S1024_S1x1024_1 (Host.reduceAdd (shapeCast _ (Host.reduceAdd u
    (constant S_ .f32 0x00000000#32) reducesTo_S4096x1024_S1024_d0 h_S_) shapeCasts_S1024_S1x1024) (constant S_ .f32 0x00000000#32)
    reducesTo_S1x1024_S1024_d0 h_S_)

/-- The norm's derivative in reverse mode. -/
def reverse : FVec Ideal S4096x1024 .f32 :=
  addf (addf (mulf (mulf dy (gains g)) (broadcastInDim S4096x1024 ![0, 1] bcast_S4096x1_S4096x1024_0_1 (Host.rsqrt (mean v))))
    (mulf v (sent v (mulf dy (gains g))))) (mulf (sent v (mulf dy (gains g))) v)

/-- The same, onto what the norm's input already receives. -/
def reverse_onto (z : FVec Ideal S4096x1024 .f32) : FVec Ideal S4096x1024 .f32 :=
  addf (addf (addf z (mulf (mulf dy (gains g)) (broadcastInDim S4096x1024 ![0, 1] bcast_S4096x1_S4096x1024_0_1
    (Host.rsqrt (mean v))))) (mulf v (sent v (mulf dy (gains g))))) (mulf (sent v (mulf dy (gains g))) v)

theorem mean_at (j : S4096x1.Idx) : mean v j = ms 0x44800000#32 (row v (j 0)) := by
  pointwise [mean, ms, row]

theorem gains_at (j : S4096x1024.Idx) : gains g j = gain g (j 1) := by
  pointwise [gains, gain]

theorem normed_at (j : S4096x1024.Idx) : normed v j = v j * Ideal.rsqrt (ms 0x44800000#32 (row v (j 0))) := by
  pointwise [normed, mean, ms, row]

theorem sent_at (j : S4096x1024.Idx) : sent v (mulf dy (gains g)) j
    = through 0x44800000#32 (row v (j 0)) (gain g) (row dy (j 0)) := by
  pointwise [sent, mean, through, ms, row, gain, gains]

theorem colsum_at (u : FVec Ideal S4096x1024 .f32) (j : S1x1024.Idx) : colsum u j = ∑ r : Fin 4096, u (ix2 r (j 1)) := by
  pointwise [colsum]
  simp only [Finset.univ_unique, Finset.sum_const, Finset.card_singleton, one_smul]

/-- The norm's output and its derivative in reverse mode, at an index. -/
theorem out_at (j : S4096x1024.Idx) : mulf (normed v) (gains g) j
    = v j * Ideal.rsqrt (ms 0x44800000#32 (row v (j 0))) * gain g (j 1) :=
  congrArg₂ (fun a b : EReal => a * b) (normed_at v j) (gains_at g j)

theorem reverse_at (j : S4096x1024.Idx) : reverse v dy g j
    = auto 0x44800000#32 (row v (j 0)) (gain g) (row dy (j 0)) (j 1) := by
  pointwise [reverse, auto]
  rw [sent_at, gains_at, mean_at]
  pointwise [row]

theorem reverse_onto_at (z : FVec Ideal S4096x1024 .f32) (j : S4096x1024.Idx) : reverse_onto v dy g z j
    = z j + auto 0x44800000#32 (row v (j 0)) (gain g) (row dy (j 0)) (j 1) := by
  rw [← reverse_at]
  exact (congrArg (fun a : EReal => a + _) (add_assoc _ _ _)).trans (add_assoc _ _ _)

end Cert.Proof.HostNorm

end
-- ==== Proof.Ff2.lean ====
/- The second MLP product, the norm behind it and the loss: each result of the call is the reference's derivative. -/
module

public import proofs.«01_k».proof.Proof.Gen.Kernel2Ideal.Value
public import proofs.«01_k».proof.Proof.Gen.Reference2Ideal.Run
public import proofs.«01_k».proof.Proof.HostNorm
public import Idealize.ShloMosaic.Lib.Claim

@[expose] public section

set_option maxRecDepth 16384

noncomputable section

open Idealize.ShloMosaic Idealize.ShloMosaic.TcCoe Idealize.SL.Sem

namespace Cert.Proof.Ff2

open Cert.Kernel2Ideal Cert.Kernel2Ideal.Gen Cert.Proof.Norm Cert.Proof.HostNorm
open Idealize.ShloMosaic.Pipeline (Dat)

/-- The difference from the target in one row: the residual and the normed product, less the target. -/
def err {n : ℕ} (v x t g : Fin n → EReal) (d : Fin n) : EReal :=
  x d + v d * Ideal.rsqrt (ms 0x44800000#32 v) * g d - t d

/-- The loss's derivative at the row's output. -/
def dy {n : ℕ} (v x t g : Fin n → EReal) (d : Fin n) : EReal := err v x t g d * Ideal.ofBits .f32 0x3A800000#32

/-- The row's mean squared difference. -/
def sq {n : ℕ} (v x t g : Fin n → EReal) : EReal :=
  Ideal.div (∑ d, err v x t g d * err v x t g d) (Ideal.ofBits .f32 0x44800000#32)

/-- The row's part of the gain's gradient. -/
def dg {n : ℕ} (v x t g : Fin n → EReal) (d : Fin n) : EReal := dy v x t g d * (v d * Ideal.rsqrt (ms 0x44800000#32 v))

section Arrays
variable (act : FVec Ideal S4096x4096 .f32) (w : FVec Ideal S4096x1024 .f32) (x t : FVec Ideal S4096x1024 .f32)
  (g : FVec Ideal S1x1024 .f32)

/-- A row of the product. -/
def prod (r : Fin 4096) (d : Fin 1024) : EReal := ∑ k : Fin 4096, act (ix2 r k) * w (ix2 k d)

/-- The four results as formulas of the arguments. -/
def out_dy : FVec Ideal S4096x1024 .f32 := fun j => dy (prod act w (j 0)) (row x (j 0)) (row t (j 0)) (gain g) (j 1)
def out_dff : FVec Ideal S4096x1024 .bf16 := fun j => back 0x44800000#32 (prod act w (j 0)) (gain g)
  (dy (prod act w (j 0)) (row x (j 0)) (row t (j 0)) (gain g)) (j 1)
def out_dg : FVec Ideal S1x1024 .f32 := fun j =>
  ∑ r : Fin 4096, dg (prod act w r) (row x r) (row t r) (gain g) (j 1)
def out_loss : FVec Ideal S1x128 .f32 := fun _ =>
  Ideal.ofBits .f32 0x3F000000#32 * ∑ r : Fin 4096, sq (prod act w r) (row x r) (row t r) (gain g)

end Arrays

section Payloads
variable (v6 v7 : Vec Ideal S256x1024 .f32) (v8 : Vec Ideal S1x1024 .f32) (v9 : Vec Ideal S256x4096 .bf16)
  (v11 : Vec Ideal S4096x1024 .bf16)

/-- What the body computes of its loaded blocks, at an index: both halves of a tile. -/
def bprod (r : Fin 256) (d : Fin 1024) : EReal := ∑ k : Fin 4096, v9 (ix2 r k) * v11 (ix2 k d)
def brow (r : Fin 256) (d : Fin 1024) : EReal := v6 (ix2 r d)
def bgain (d : Fin 1024) : EReal := v8 (ix2 0 d)

theorem pay_dy (j : S256x1024.Idx) : k0_pay5 v6 v7 v8 v9 v11 j
    = dy (bprod v9 v11 (j 0)) (brow v6 (j 0)) (brow v7 (j 0)) (bgain v8) (j 1) := by
  pointwise [k0_pay3, k0_pay4, k0_pay5, dy, err, ms, bprod, brow, bgain]

theorem pay_dff (j : S256x1024.Idx) : k0_pay10 v8 (k0_pay3 v9 v11) (k0_pay5 v6 v7 v8 v9 v11) j
    = back 0x44800000#32 (bprod v9 v11 (j 0)) (bgain v8)
        (dy (bprod v9 v11 (j 0)) (brow v6 (j 0)) (brow v7 (j 0)) (bgain v8)) (j 1) := by
  pointwise [k0_pay3, k0_pay4, k0_pay5, k0_pay7, k0_pay8, k0_pay10, back, dy, err, ms, bprod, brow, bgain]

theorem pay_dg (a : Vec Ideal S1x1024 .f32) (j : S1x1024.Idx) : k0_pay11 (k0_pay3 v9 v11) (k0_pay5 v6 v7 v8 v9 v11) a j
    = a j + ∑ r : Fin 256, dg (bprod v9 v11 r) (brow v6 r) (brow v7 r) (bgain v8) (j 1) := by
  pointwise [k0_pay3, k0_pay4, k0_pay5, k0_pay7, k0_pay8, k0_pay11, dg, dy, err, ms, bprod, brow, bgain]

theorem pay_loss (a : Vec Ideal S1x128 .f32) (j : S1x128.Idx) : k0_pay12 (k0_pay9 (k0_pay6 v6 v7 v8 v9 v11)) a j
    = a j + Ideal.ofBits .f32 0x3F000000#32 * ∑ r : Fin 256, sq (bprod v9 v11 r) (brow v6 r) (brow v7 r) (bgain v8) := by
  pointwise [k0_pay3, k0_pay4, k0_pay6, k0_pay9, k0_pay12, sq, err, ms, bprod, brow, bgain]

/-- The tile's second half computes the same of its own rows. -/
theorem half_dy : k0_pay15 v6 v7 v8 v9 v11 = k0_pay5 v6 v7 v8 v9 v11 := rfl
theorem half_dff : k0_pay20 v8 (k0_pay13 v9 v11) (k0_pay15 v6 v7 v8 v9 v11) (k0_pay17 v9 v11)
    = k0_pay10 v8 (k0_pay3 v9 v11) (k0_pay5 v6 v7 v8 v9 v11) := rfl
theorem half_dg (a : Vec Ideal S1x1024 .f32) : k0_pay21 (k0_pay13 v9 v11) (k0_pay15 v6 v7 v8 v9 v11) (k0_pay17 v9 v11) a
    = k0_pay11 (k0_pay3 v9 v11) (k0_pay5 v6 v7 v8 v9 v11) a := rfl
theorem half_loss (a : Vec Ideal S1x128 .f32) : k0_pay22 (k0_pay16 v6 v7 v8 v9 v11) a
    = k0_pay12 (k0_pay9 (k0_pay6 v6 v7 v8 v9 v11)) a := rfl

end Payloads

variable (m : (ℓ : Loc nD τ sig) → Buf (Elt Ideal) ℓ)

/-- Each window's block index: the row tile at its point, the weight, the gain and the two sums whole. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0]
    ∧ win0_8.index t = ![0, 0] :=
  (by decide +kernel : ∀ t : Fin grid0.N, _)

theorem dy_congr {n : ℕ} {v v' x x' t t' g g' : Fin n → EReal} {d d' : Fin n} (hv : v = v') (hx : x = x') (ht : t = t')
    (hg : g = g') (hd : d = d') : dy v x t g d = dy v' x' t' g' d' := by
  rw [hv, hx, ht, hg, hd]

/-- The blocks' rows are the arrays' rows: row `r` of the half that begins at `o` is row `512 t + o + r`. -/
theorem bprod_eq (c : Dev nD) (t : Fin cfg0.N) (o : ℕ) (h) (r : Fin 256) (R : Fin 4096) (hR : R.val = t.val * 512 + o + r.val) :
    bprod (View.ld (iblk m c 0 t) (Rect.unit ![o, 0] ![256, 4096] h)) (iblk m c 1 t) r
      = prod (m ((c : Thread nD τ).loc main_arg0)) (m ((c : Thread nD τ).loc main_arg1)) R := by
  funext d
  refine Fin.sum_fin_congr fun k => ?_
  pointwise []
  blk_point [iblk, V, idx t, hR]

theorem row_x (c : Dev nD) (t : Fin cfg0.N) (o : ℕ) (h) (r : Fin 256) (R : Fin 4096) (hR : R.val = t.val * 512 + o + r.val) :
    brow (View.ld (iblk m c 2 t) (Rect.unit ![o, 0] ![256, 1024] h)) r = row (m ((c : Thread nD τ).loc main_arg2)) R := by
  funext d
  simp only [brow, row]
  pointwise []
  blk_point [iblk, V, idx t, hR]

theorem row_t (c : Dev nD) (t : Fin cfg0.N) (o : ℕ) (h) (r : Fin 256) (R : Fin 4096) (hR : R.val = t.val * 512 + o + r.val) :
    brow (View.ld (iblk m c 3 t) (Rect.unit ![o, 0] ![256, 1024] h)) r = row (m ((c : Thread nD τ).loc main_arg3)) R := by
  funext d
  simp only [brow, row]
  pointwise []
  blk_point [iblk, V, idx t, hR]

theorem gain_eq (c : Dev nD) (t : Fin cfg0.N) : bgain (iblk m c 4 t) = gain (m ((c : Thread nD τ).loc main_arg4)) := by
  funext d
  simp only [bgain, gain]
  blk_point [iblk, V, idx t]

theorem final_dy (c : Dev nD) : (dats m 0 c).arrAt 5 (cfgs 0).N
    = out_dy (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h0 : t.val % 8 = 0
  on_goal 1 => rw [outsAt0_A m c t h0 h0]
  on_goal 2 => rw [outsAt0_B m c t h0 h0]
  all_goals
    frame_out
    canon_tiles x h
  all_goals
    simp only [half_dy, pay_dy, out_dy]
    refine dy_congr (bprod_eq m c t _ _ _ _ ?_) (row_x m c t _ _ _ _ ?_) (row_t m c t _ _ _ _ ?_) (gain_eq m c t) ?_
    all_goals
      try apply Fin.ext
      blk_simp [idx t]
      omega

theorem final_dff (c : Dev nD) : (dats m 0 c).arrAt 6 (cfgs 0).N
    = out_dff (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 8 = 0
  on_goal 1 => rw [outsAt0_A m c t h0 h0]
  on_goal 2 => rw [outsAt0_B m c t h0 h0]
  all_goals
    frame_out
    canon_tiles x h
  all_goals
    simp only [half_dff, pay_dff, out_dff]
    refine back_congr (congrFun (bprod_eq m c t _ _ _ _ ?_)) (congrFun (gain_eq m c t))
      (fun k => dy_congr (bprod_eq m c t _ _ _ _ ?_) (row_x m c t _ _ _ _ ?_) (row_t m c t _ _ _ _ ?_) (gain_eq m c t) rfl) ?_
    all_goals
      try apply Fin.ext
      blk_simp [idx t]
      omega

theorem lt_8 (t : Fin cfg0.N) : t.val < 8 := Nat.lt_of_lt_of_eq t.isLt N_0

theorem dg_congr {n : ℕ} {v v' x x' t t' g g' : Fin n → EReal} (hv : v = v') (hx : x = x') (ht : t = t')
    (hg : g = g') (d : Fin n) : dg v x t g d = dg v' x' t' g' d := by
  rw [hv, hx, ht, hg]

theorem sq_congr {n : ℕ} {v v' x x' t t' g g' : Fin n → EReal} (hv : v = v') (hx : x = x') (ht : t = t')
    (hg : g = g') : sq v x t g = sq v' x' t' g' := by
  rw [hv, hx, ht, hg]

section Sums
variable (act : FVec Ideal S4096x4096 .f32) (w : FVec Ideal S4096x1024 .f32) (x t : FVec Ideal S4096x1024 .f32)
  (g : FVec Ideal S1x1024 .f32)

/-- A row's part of the two sums. -/
def part_dg (d : Fin 1024) (r : Fin 4096) : EReal := dg (prod act w r) (row x r) (row t r) (gain g) d
def part_sq (r : Fin 4096) : EReal := sq (prod act w r) (row x r) (row t r) (gain g)

end Sums

theorem final_dg (c : Dev nD) : (dats m 0 c).arrAt 7 (cfgs 0).N
    = out_dg (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => halves (part_dg (m ((c : Thread nD τ).loc main_arg0)) (m ((c : Thread nD τ).loc main_arg1))
      (m ((c : Thread nD τ).loc main_arg2)) (m ((c : Thread nD τ).loc main_arg3)) (m ((c : Thread nD τ).loc main_arg4)) (j 1)) t.val (lt_8 t))
    (fun t h j => ?_) (fun t h j => ?_) (le_of_eq N_0) t0_7 rfl j, zero_add]
  · exact sum_halves _
  on_goal 1 => rw [outsAt0_A m c t h h]
  on_goal 2 => rw [outsAt0_B m c t h h]
  all_goals
    frame_out
    rw [half_dg, pay_dg, pay_dg, add_assoc]
    refine congrArg₂ (· + ·) ?_ (congrArg₂ (· + ·) (Fin.sum_fin_congr fun r => ?_) (Fin.sum_fin_congr fun r => ?_))
  all_goals try exact dg_congr (bprod_eq m c t _ _ _ _ rfl) (row_x m c t _ _ _ _ rfl) (row_t m c t _ _ _ _ rfl) (gain_eq m c t) _
  all_goals first | rfl | exact by pointwise [k0_pay1]

theorem final_loss (c : Dev nD) : (dats m 0 c).arrAt 8 (cfgs 0).N
    = out_loss (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t _ => Ideal.ofBits .f32 0x3F000000#32 * halves (part_sq (m ((c : Thread nD τ).loc main_arg0)) (m ((c : Thread nD τ).loc main_arg1))
      (m ((c : Thread nD τ).loc main_arg2)) (m ((c : Thread nD τ).loc main_arg3)) (m ((c : Thread nD τ).loc main_arg4))) t.val (lt_8 t))
    (fun t h j => ?_) (fun t h j => ?_) (le_of_eq N_0) t0_7 rfl j, zero_add]
  · rw [out_loss, ← sum_halves, word_half]
    exact mul_sum_coe (by norm_num) _
  on_goal 1 => rw [outsAt0_A m c t h h]
  on_goal 2 => rw [outsAt0_B m c t h h]
  all_goals
    frame_out
    rw [half_loss, pay_loss, pay_loss, add_assoc, halves, word_half,
      EReal.left_distrib_of_nonneg_of_ne_top (EReal.coe_nonneg.mpr (by norm_num)) (EReal.coe_ne_top _)]
    refine congrArg₂ (· + ·) ?_ (congrArg₂ (· + ·) (congrArg _ (Fin.sum_fin_congr fun r => ?_)) (congrArg _ (Fin.sum_fin_congr fun r => ?_)))
  all_goals try exact sq_congr (bprod_eq m c t _ _ _ _ rfl) (row_x m c t _ _ _ _ rfl) (row_t m c t _ _ _ _ rfl) (gain_eq m c t)
  all_goals first | rfl | exact by pointwise [k0_pay2]

end Cert.Proof.Ff2

namespace Cert.Proof.Ff2

open Cert.Reference2Ideal Cert.Reference2Ideal.Gen Cert.Proof.Norm Cert.Proof.HostNorm

section Terms
variable (act : FVec Ideal S4096x4096 .f32) (w : FVec Ideal S4096x1024 .f32) (x y : FVec Ideal S4096x1024 .f32)
  (g : FVec Ideal S1x1024 .f32)

/-- The reference's composed terms: the product, the difference from the target, and the four results. -/
def hprod : FVec Ideal S4096x1024 .f32 := Host.dotGeneral dot_S4096x4096_S4096x1024_S4096x1024_1_0_0_1_n_n none act w

def herr : FVec Ideal S4096x1024 .f32 := subf (addf x (mulf (normed (hprod act w)) (gains g))) y

def hdy : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32)))
      (broadcastInDim S4096 ![] bcast_S_S4096 (constant S_ .f32 0x44800000#32))))
    (mulf (broadcastInDim S4096x1024 ![] bcast_S_S4096x1024 (constant S_ .f32 0x40000000#32)) (herr act w x y g))

def hdff : FVec Ideal S4096x1024 .bf16 :=
  truncf .bf16 (reverse (hprod act w) (hdy act w x y g) g) bitsLt_bf16_f32

def hdg : FVec Ideal S1x1024 .f32 := colsum (mulf (normed (hprod act w)) (hdy act w x y g))

def hloss : FVec Ideal S1x128 .f32 :=
  broadcastInDim S1x128 ![] bcast_S_S1x128 (mulf (constant S_ .f32 0x3F000000#32) (Host.reduceAdd (Host.divf
    (Host.reduceAdd (mulf (herr act w x y g) (herr act w x y g)) (constant S_ .f32 0x00000000#32) reducesTo_S4096x1024_S4096_d1 h_S_)
    (broadcastInDim S4096 ![] bcast_S_S4096 (constant S_ .f32 0x44800000#32))) (constant S_ .f32 0x00000000#32)
    reducesTo_S4096_S_d0 h_S_))

theorem hprod_row (r : Fin 4096) : row (hprod act w) r = prod act w r := by
  funext d
  pointwise [row, hprod, prod]

theorem herr_at (r : Fin 4096) (d : Fin 1024) : herr act w x y g (ix2 r d)
    = err (prod act w r) (row x r) (row y r) (gain g) d := by
  refine (congrArg (fun a : EReal => x (ix2 r d) + a - y (ix2 r d)) (out_at _ _ _)).trans ?_
  simp only [← hprod_row]
  rfl

/-- Half the mean's share times twice the difference is the difference over the width. -/
theorem half_twice (e : EReal) : Ideal.div (Ideal.ofBits .f32 0x3F000000#32) (Ideal.ofBits .f32 0x44800000#32)
    * (Ideal.ofBits .f32 0x40000000#32 * e) = e * Ideal.ofBits .f32 0x3A800000#32 := by
  rw [word_half, word_2, word_1024, word_1024th, Ideal.div_coe (by norm_num), ← mul_assoc, ← EReal.coe_mul, ← EReal.coe_mul,
    mul_comm]
  norm_num

theorem hdy_at (r : Fin 4096) (d : Fin 1024) : hdy act w x y g (ix2 r d)
    = dy (prod act w r) (row x r) (row y r) (gain g) d := by
  refine Eq.trans ?_ (half_twice _)
  rw [← herr_at]
  pointwise [hdy]

theorem ref_dy : hdy act w x y g = out_dy act w x y g := by
  funext j
  refine Eq.trans ?_ (hdy_at act w x y g (j 0) (j 1))
  pointwise []

theorem ref_dg : hdg act w x y g = out_dg act w x y g := by
  funext j
  refine (colsum_at _ j).trans (Fin.sum_fin_congr fun r => ?_)
  refine (congrArg₂ (fun a b : EReal => a * b) (normed_at _ _) (hdy_at act w x y g r (j 1))).trans ?_
  simp only [← hprod_row]
  exact mul_comm _ _

theorem ref_loss : hloss act w x y g = out_loss act w x y g := by
  funext j
  pointwise [hloss, out_loss, sq]
  simp only [herr_at]

/-- The gradient at the product's norm: reverse mode and the kernel's formula agree on finite arguments. -/
theorem ref_dff (ha : ∀ i, Real (act i)) (hw : ∀ i, Real (w i)) (hx : ∀ i, Real (x i)) (hy : ∀ i, Real (y i))
    (hg : ∀ i, Real (g i)) : hdff act w x y g = out_dff act w x y g := by
  have hp (r : Fin 4096) (d : Fin 1024) : Real (prod act w r d) := Real.sum fun k => (ha _).mul (hw _)
  have row_eq (r : Fin 4096) (d : Fin 1024) : auto 0x44800000#32 (row (hprod act w) r) (gain g) (row (hdy act w x y g) r) d
      = back 0x44800000#32 (prod act w r) (gain g) (dy (prod act w r) (row x r) (row y r) (gain g)) d := by
    rw [hprod_row, show row (hdy act w x y g) r = _ from funext fun d => hdy_at act w x y g r d]
    exact auto_eq word_1024 (by norm_num) (hp r) (fun d => hg _) (fun d => Real.mul ((Real.add (hx _) (((hp r d).mul
      (Real.rsqrt_ms word_1024 (by norm_num) (hp r))).mul (hg _))).sub (hy _)) ⟨_, word_1024th⟩) d
  funext j
  exact (reverse_at _ _ _ j).trans (row_eq (j 0) (j 1))

end Terms

end Cert.Proof.Ff2

end
-- ==== Proof.Alg2.lean ====
module

public import proofs.«01_k».proof.Defs
public import proofs.«01_k».proof.Proof.Ff2

@[expose] public section

set_option maxRecDepth 16384

noncomputable section

namespace Cert.Proof

open Idealize.ShloMosaic Idealize.SL.Sem

theorem frame_reference2 : Cert.quiescent_Reference2Ideal := by
  intro m g _
  exact (θ_run Cert.Reference2Ideal.defs _ _).mono
    (fun r h => ⟨fun c => (h c).2.2.2.2, Idealize.ShloMosaic.sem_eq_zero_of_no_sems (by decide) r.2⟩)
    (Cert.Reference2Ideal.Value.run (F := Ideal) m g)

theorem facts_ff2 : Cert.Pre_finite_ff2.Facts := ⟨by decide, by decide, by decide⟩

variable [Cert.Pre_finite_ff2.Facts]

theorem algebraic_ff2 : Cert.algebraic_Kernel2Ideal_Reference2Ideal_pre_finite_ff2 := by
  pair_intro
  · run_from Cert.Kernel2Ideal.Gen.run_main m g
  · run_from Cert.Reference2Ideal.Value.run (F := Ideal) m' g'
    · exact (Ff2.ref_dy _ _ _ _ _).trans (Ff2.final_dy m c).symm
    · rw [Cert.Reference2Ideal.Value.res_main_v55, (hagree c).1, (hagree c).2.1, (hagree c).2.2.1, (hagree c).2.2.2.1, (hagree c).2.2.2.2]
      exact (Ff2.ref_dff _ _ _ _ _ (Norm.Real.of_small (hpre c).1) (Norm.Real.of_small (hpre c).2.1) (Norm.Real.of_small (hpre c).2.2.1)
        (Norm.Real.of_small (hpre c).2.2.2.1) (Norm.Real.of_small (hpre c).2.2.2.2)).trans (Ff2.final_dff m c).symm
    · exact (Ff2.ref_dg _ _ _ _ _).trans (Ff2.final_dg m c).symm
    · exact (Ff2.ref_loss _ _ _ _ _).trans (Ff2.final_loss m c).symm

end Cert.Proof

end
-- ==== Proof.Dh.lean ====
/- The gradient at the block's input: product, norm derivative and residual; each result of the call is the reference's derivative. -/
module

public import proofs.«01_k».proof.Proof.Gen.Kernel5Ideal.Value
public import proofs.«01_k».proof.Proof.Gen.Reference5Ideal.Run
public import proofs.«01_k».proof.Proof.HostNorm
public import Idealize.ShloMosaic.Lib.Claim

@[expose] public section

set_option maxRecDepth 16384

noncomputable section

open Idealize.ShloMosaic Idealize.ShloMosaic.TcCoe Idealize.SL.Sem

namespace Cert.Proof.Dh

open Cert.Kernel5Ideal Cert.Kernel5Ideal.Gen Cert.Proof.Norm Cert.Proof.HostNorm
open Idealize.ShloMosaic.Pipeline (Dat)

/-- A row's part of the gain's gradient. -/
def dg {n : ℕ} (v y : Fin n → EReal) (d : Fin n) : EReal := y d * (v d * Ideal.rsqrt (ms 0x44800000#32 v))

section Arrays
variable (a : FVec Ideal S4096x3584 .f32) (w : FVec Ideal S1024x3584 .f32) (z v : FVec Ideal S4096x1024 .f32)
  (g : FVec Ideal S1x1024 .f32)

/-- A row of the product, and the columns the kernel takes in one step. -/
def prod (r : Fin 4096) (d : Fin 1024) : EReal := ∑ k : Fin 3584, a (ix2 r k) * w (ix2 d k)
def piece (n : ℕ) (hn : n < 4) (r : Fin 4096) (d : Fin 1024) : EReal :=
  ∑ k : Fin 896, a (ix2 r ⟨n * 896 + k.val, by omega⟩) * w (ix2 d ⟨n * 896 + k.val, by omega⟩)

theorem prod_pieces (r : Fin 4096) (d : Fin 1024) : prod a w r d = piece a w 0 (by omega) r d + piece a w 1 (by omega) r d
    + piece a w 2 (by omega) r d + piece a w 3 (by omega) r d := by
  rw [prod, Fin.sum_univ_tiles 4 896 rfl, Fin.sum_univ_four]
  rfl

/-- The two results as formulas of the arguments. -/
def out_x : FVec Ideal S4096x1024 .f32 := fun j =>
  z (ix2 (j 0) (j 1)) + back 0x44800000#32 (row v (j 0)) (gain g) (prod a w (j 0)) (j 1)
def part_g (d : Fin 1024) (r : Fin 4096) : EReal := dg (row v r) (prod a w r) d
def out_g : FVec Ideal S1x1024 .f32 := fun j => ∑ r : Fin 4096, part_g a w v (j 1) r

end Arrays

section Payloads
variable (z v : Vec Ideal S256x1024 .f32) (g : Vec Ideal S1x1024 .f32) (a0 a1 a2 a3 : Vec Ideal S256x896 .bf16)
  (w0 w1 w2 w3 : Vec Ideal S1x1024x896 .bf16)

/-- What the body computes of its loaded blocks, at an index: both halves of a tile. -/
def bpiece (a : Vec Ideal S256x896 .bf16) (w : Vec Ideal S1x1024x896 .bf16) (r : Fin 256) (d : Fin 1024) : EReal :=
  ∑ k : Fin 896, a (ix2 r k) * w (ix3 0 d k)
def bprod (r : Fin 256) (d : Fin 1024) : EReal := bpiece a0 w0 r d + bpiece a1 w1 r d + bpiece a2 w2 r d + bpiece a3 w3 r d
def brow (r : Fin 256) (d : Fin 1024) : EReal := v (ix2 r d)
def bgain (d : Fin 1024) : EReal := g (ix2 0 d)

theorem prod_at (j : S256x1024.Idx) : k0_pay12 a0 w0 a1 w1 a2 w2 a3 w3 j
    = bprod a0 a1 a2 a3 w0 w1 w2 w3 (j 0) (j 1) := by
  pointwise [k0_pay12, bprod, bpiece]

theorem pay_x (y : FVec Ideal S256x1024 .f32) (j : S256x1024.Idx) :
    k0_pay1 z (k0_pay13 v) (k0_pay14 v) (mulf y (broadcastTo S256x1024 g broadcasts_S1x1024_S256x1024))
      (mulf (mulf y (broadcastTo S256x1024 g broadcasts_S1x1024_S256x1024)) (k0_pay14 v)) j
    = z j + back 0x44800000#32 (brow v (j 0)) (bgain g) (brow y (j 0)) (j 1) := by
  pointwise [k0_pay1, k0_pay13, k0_pay14, back, ms, brow, bgain]

theorem pay_g (y : FVec Ideal S256x1024 .f32) (b : Vec Ideal S1x1024 .f32) (j : S1x1024.Idx) :
    k0_pay2 y (k0_pay14 v) b j = b j + ∑ r : Fin 256, dg (brow v r) (brow y r) (j 1) := by
  pointwise [k0_pay2, k0_pay13, k0_pay14, dg, ms, brow]

/-- Both halves compute the same of their own rows. -/
theorem half_prod : k0_pay7 (k0_pay4 a0 w0 a1 w1 a2 w2) (k0_pay5 a3) (k0_pay6 w3) = k0_pay12 a0 w0 a1 w1 a2 w2 a3 w3 := rfl
theorem half_x (y1 : FVec Ideal S256x1024 .f32) (y2 : FVec Ideal S256x896 .bf16) (y3 : FVec Ideal S1024x896 .bf16) :
    k0_pay10 z v g y1 y2 y3
    = k0_pay1 z (k0_pay13 v) (k0_pay14 v) (mulf (k0_pay7 y1 y2 y3) (broadcastTo S256x1024 g broadcasts_S1x1024_S256x1024))
      (mulf (mulf (k0_pay7 y1 y2 y3) (broadcastTo S256x1024 g broadcasts_S1x1024_S256x1024)) (k0_pay14 v)) := rfl
theorem half_g (y1 : FVec Ideal S256x1024 .f32) (y2 : FVec Ideal S256x896 .bf16) (y3 : FVec Ideal S1024x896 .bf16)
    (b : Vec Ideal S1x1024 .f32) : k0_pay11 v y1 y2 y3 b = k0_pay2 (k0_pay7 y1 y2 y3) (k0_pay14 v) b := rfl

end Payloads

variable (m : (ℓ : Loc nD τ sig) → Buf (Elt Ideal) ℓ)

/-- Each window's block index: the row tile at its point, the weight, the gain and the sum whole. -/
theorem idx : ∀ t : Fin cfg0.N, win0_0.index t = ![t.val, 0] ∧ win0_1.index t = ![0, 0, 0]
    ∧ win0_2.index t = ![t.val, 0] ∧ win0_3.index t = ![t.val, 0] ∧ win0_4.index t = ![0, 0]
    ∧ win0_5.index t = ![t.val, 0] ∧ win0_6.index t = ![0, 0] :=
  (by decide +kernel : ∀ t : Fin grid0.N, _)

/-- The blocks' rows are the arrays' rows: row `r` of the half that begins at `o` is row `512 t + o + r`. -/
theorem piece_eq (c : Dev nD) (t : Fin cfg0.N) (o n q : ℕ) (hn : n < 4) (hq : q = n * 896) (h h') (r : Fin 256) (R : Fin 4096)
    (hR : R.val = t.val * 512 + o + r.val) (d : Fin 1024) :
    bpiece (View.ld (iblk m c 0 t) (Rect.unit ![o, q] ![256, 896] h)) (View.ld (iblk m c 1 t) (Rect.unit ![n, 0, 0] ![1, 1024, 896] h')) r d
      = piece (m ((c : Thread nD τ).loc main_arg0)) (m ((c : Thread nD τ).loc main_arg1)) n hn R d := by
  refine Fin.sum_fin_congr fun k => ?_
  pointwise []
  blk_point [iblk, V, idx t, hR]

theorem prod_eq (c : Dev nD) (t : Fin cfg0.N) (o : ℕ) (h0 h1 h2 h3 k0 k1 k2 k3) (r : Fin 256) (R : Fin 4096)
    (hR : R.val = t.val * 512 + o + r.val) :
    brow (k0_pay12
        (View.ld (iblk m c 0 t) (Rect.unit ![o, 0] ![256, 896] h0)) (View.ld (iblk m c 1 t) (Rect.unit ![0, 0, 0] ![1, 1024, 896] k0))
        (View.ld (iblk m c 0 t) (Rect.unit ![o, 896] ![256, 896] h1)) (View.ld (iblk m c 1 t) (Rect.unit ![1, 0, 0] ![1, 1024, 896] k1))
        (View.ld (iblk m c 0 t) (Rect.unit ![o, 1792] ![256, 896] h2)) (View.ld (iblk m c 1 t) (Rect.unit ![2, 0, 0] ![1, 1024, 896] k2))
        (View.ld (iblk m c 0 t) (Rect.unit ![o, 2688] ![256, 896] h3)) (View.ld (iblk m c 1 t) (Rect.unit ![3, 0, 0] ![1, 1024, 896] k3))) r
      = prod (m ((c : Thread nD τ).loc main_arg0)) (m ((c : Thread nD τ).loc main_arg1)) R := by
  funext d
  rw [prod_pieces, brow, prod_at, ix2_0, ix2_1, bprod]
  rw [piece_eq m c t o 0 0 (by omega) rfl h0 k0 r R hR, piece_eq m c t o 1 896 (by omega) rfl h1 k1 r R hR,
    piece_eq m c t o 2 1792 (by omega) rfl h2 k2 r R hR, piece_eq m c t o 3 2688 (by omega) rfl h3 k3 r R hR]

theorem row_v (c : Dev nD) (t : Fin cfg0.N) (o : ℕ) (h) (r : Fin 256) (R : Fin 4096) (hR : R.val = t.val * 512 + o + r.val) :
    brow (View.ld (iblk m c 3 t) (Rect.unit ![o, 0] ![256, 1024] h)) r = row (m ((c : Thread nD τ).loc main_arg3)) R := by
  funext d
  simp only [brow, row]
  pointwise []
  blk_point [iblk, V, idx t, hR]

theorem gain_eq (c : Dev nD) (t : Fin cfg0.N) : bgain (iblk m c 4 t) = gain (m ((c : Thread nD τ).loc main_arg4)) := by
  funext d
  simp only [bgain, gain]
  blk_point [iblk, V, idx t]

theorem final_x (c : Dev nD) : (dats m 0 c).arrAt 5 (cfgs 0).N
    = out_x (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  by_cases h0 : t.val % 8 = 0
  on_goal 1 => rw [outsAt0_A m c t h0]
  on_goal 2 => rw [outsAt0_B m c t h0]
  all_goals
    frame_out
    canon_tiles x h
  all_goals
    try simp only [half_x, half_prod]
    refine (pay_x _ _ _ _ _).trans ?_
    simp only [out_x]
    refine congrArg₂ (· + ·) ?_ (back_congr (congrFun (row_v m c t _ _ _ _ ?_)) (congrFun (gain_eq m c t))
      (congrFun (prod_eq m c t _ _ _ _ _ _ _ _ _ _ _ ?_)) ?_)
    on_goal 1 => blk_point [iblk, V, idx t]
    all_goals
      try apply Fin.ext
      blk_simp [idx t]
      omega

theorem lt_8 (t : Fin cfg0.N) : t.val < 8 := Nat.lt_of_lt_of_eq t.isLt N_0

theorem dg_congr {n : ℕ} {v v' y y' : Fin n → EReal} (hv : v = v') (hy : y = y') (d : Fin n) : dg v y d = dg v' y' d := by
  rw [hv, hy]

theorem final_g (c : Dev nD) : (dats m 0 c).arrAt 6 (cfgs 0).N
    = out_g (m ((c : Thread nD τ).loc main_arg0)) (m ((c : Thread nD τ).loc main_arg1)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => halves (part_g (m ((c : Thread nD τ).loc main_arg0)) (m ((c : Thread nD τ).loc main_arg1))
      (m ((c : Thread nD τ).loc main_arg3)) (j 1)) t.val (lt_8 t))
    (fun t h j => ?_) (fun t h j => ?_) (le_of_eq N_0) t0_7 rfl j, zero_add]
  · exact sum_halves _
  on_goal 1 => rw [outsAt0_A m c t h]
  on_goal 2 => rw [outsAt0_B m c t h]
  all_goals
    frame_out
    rw [half_g, half_prod, pay_g, pay_g, add_assoc]
    refine congrArg₂ (· + ·) ?_ (congrArg₂ (· + ·) (Fin.sum_fin_congr fun r => ?_) (Fin.sum_fin_congr fun r => ?_))
  all_goals try exact dg_congr (row_v m c t _ _ _ _ rfl) (prod_eq m c t _ _ _ _ _ _ _ _ _ _ _ rfl) _
  all_goals first | rfl | exact by pointwise [k0_pay3]

end Cert.Proof.Dh

namespace Cert.Proof.Dh

open Cert.Reference5Ideal Cert.Reference5Ideal.Gen Cert.Proof.Norm Cert.Proof.HostNorm

variable (a : FVec Ideal S4096x3584 .f32) (w : FVec Ideal S1024x3584 .f32) (z v : FVec Ideal S4096x1024 .f32)
  (g : FVec Ideal S1x1024 .f32)

/-- The reference's product and its two results. -/
def hprod : FVec Ideal S4096x1024 .f32 := Host.dotGeneral dot_S4096x3584_S1024x3584_S4096x1024_1_1_0_0_n_n none a w
def hx : FVec Ideal S4096x1024 .f32 := reverse_onto v (hprod a w) g z
def hg : FVec Ideal S1x1024 .f32 := colsum (mulf (normed v) (hprod a w))

theorem hprod_row (r : Fin 4096) : row (hprod a w) r = prod a w r := by
  funext d
  pointwise [row, hprod, prod]

theorem ref_g : hg a w v = out_g a w v := by
  funext j
  refine (colsum_at _ j).trans (Fin.sum_fin_congr fun r => ?_)
  refine (congrArg₂ (fun a b : EReal => a * b) (normed_at _ _) (congrFun (hprod_row a w r) (j 1))).trans ?_
  exact mul_comm _ _

theorem ref_x (ha : ∀ i, Real (a i)) (hw : ∀ i, Real (w i)) (hv : ∀ i, Real (v i)) (hg : ∀ i, Real (g i)) :
    hx a w z v g = out_x a w z v g := by
  have row_eq (r : Fin 4096) (d : Fin 1024) : auto 0x44800000#32 (row v r) (gain g) (row (hprod a w) r) d
      = back 0x44800000#32 (row v r) (gain g) (prod a w r) d := by
    rw [hprod_row]
    exact auto_eq word_1024 (by norm_num) (fun d => hv _) (fun d => hg _) (fun d => Real.sum fun k => (ha _).mul (hw _)) d
  funext j
  refine (reverse_onto_at _ _ _ _ j).trans (congrArg₂ (· + ·) (congrArg z (ix2_eta j).symm) (row_eq (j 0) (j 1)))

end Cert.Proof.Dh

end
-- ==== Proof.Dh2.lean ====
/- The gradient at the block's middle: product, two norm derivatives and the residual; each result of the call is the reference's derivative. -/
module

public import proofs.«01_k».proof.Proof.Gen.Kernel3Ideal.Value
public import proofs.«01_k».proof.Proof.Gen.Reference3Ideal.Run
public import proofs.«01_k».proof.Proof.Dh

@[expose] public section

set_option maxRecDepth 16384

noncomputable section

open Idealize.ShloMosaic Idealize.ShloMosaic.TcCoe Idealize.SL.Sem

namespace Cert.Proof.Dh2

open Cert.Kernel3Ideal Cert.Kernel3Ideal.Gen Cert.Proof.Norm Cert.Proof.HostNorm
open Cert.Proof.Dh (dg dg_congr brow bgain)
open Idealize.ShloMosaic.Pipeline (Dat)

section Arrays
variable (a : FVec Ideal S4096x4096 .f32) (w : FVec Ideal S1024x4096 .f32) (z x v : FVec Ideal S4096x1024 .f32)
  (p q : FVec Ideal S1x1024 .f32)

/-- A row of the product, and the columns the kernel takes in one step. -/
def prod (r : Fin 4096) (d : Fin 1024) : EReal := ∑ k : Fin 4096, a (ix2 r k) * w (ix2 d k)
def piece (n : ℕ) (hn : n < 4) (r : Fin 4096) (d : Fin 1024) : EReal :=
  ∑ k : Fin 1024, a (ix2 r ⟨n * 1024 + k.val, by omega⟩) * w (ix2 d ⟨n * 1024 + k.val, by omega⟩)

theorem prod_pieces (r : Fin 4096) (d : Fin 1024) : prod a w r d = piece a w 0 (by omega) r d + piece a w 1 (by omega) r d
    + piece a w 2 (by omega) r d + piece a w 3 (by omega) r d := by
  rw [prod, Fin.sum_univ_tiles 4 1024 rfl, Fin.sum_univ_four]
  rfl

/-- The state at the block's middle: the input and the normed mixture; and its gradient's row. -/
def mid : FVec Ideal S4096x1024 .f32 := addf x (mulf (normed v) (gains p))
def grad (r : Fin 4096) (d : Fin 1024) : EReal :=
  z (ix2 r d) + back 0x44800000#32 (row (mid x v p) r) (gain q) (prod a w r) d

/-- The four results as formulas of the arguments. -/
def out_x : FVec Ideal S4096x1024 .f32 := fun j => grad a w z x v p q (j 0) (j 1)
def out_m : FVec Ideal S4096x1024 .bf16 := fun j => back 0x44800000#32 (row v (j 0)) (gain p) (grad a w z x v p q (j 0)) (j 1)
def part_q (d : Fin 1024) (r : Fin 4096) : EReal := dg (row (mid x v p) r) (prod a w r) d
def part_p (d : Fin 1024) (r : Fin 4096) : EReal := dg (row v r) (grad a w z x v p q r) d
def out_q : FVec Ideal S1x1024 .f32 := fun j => ∑ r : Fin 4096, part_q a w x v p (j 1) r
def out_p : FVec Ideal S1x1024 .f32 := fun j => ∑ r : Fin 4096, part_p a w z x v p q (j 1) r

end Arrays

section Payloads
variable (z x v : Vec Ideal S256x1024 .f32) (p q : Vec Ideal S1x1024 .f32) (a0 a1 a2 a3 : Vec Ideal S256x1024 .bf16)
  (w0 w1 w2 w3 : Vec Ideal S1x1024x1024 .bf16) (y u : FVec Ideal S256x1024 .f32) (b : Vec Ideal S1x1024 .f32)

/-- What the body computes of its loaded blocks, at an index: both halves of a tile. -/
def bpiece (a : Vec Ideal S256x1024 .bf16) (w : Vec Ideal S1x1024x1024 .bf16) (r : Fin 256) (d : Fin 1024) : EReal :=
  ∑ k : Fin 1024, a (ix2 r k) * w (ix3 0 d k)

theorem prod_at (r : Fin 256) (d : Fin 1024) : brow (k0_pay20 a0 w0 a1 w1 a2 w2 a3 w3) r d
    = bpiece a0 w0 r d + bpiece a1 w1 r d + bpiece a2 w2 r d + bpiece a3 w3 r d := by
  pointwise [k0_pay20, bpiece, brow]

theorem pay_x (j : S256x1024.Idx) : k0_pay23 z (k0_pay19 x) q y (k0_pay21 (k0_pay19 x)) j
    = z j + back 0x44800000#32 (brow x (j 0)) (bgain q) (brow y (j 0)) (j 1) := by
  pointwise [k0_pay23, k0_pay19, k0_pay21, k0_pay22, back, ms, brow, bgain]

theorem pay_m (j : S256x1024.Idx) :
    k0_pay16 (k0_pay13 v) (k0_pay14 v) (mulf u (broadcastTo S256x1024 p broadcasts_S1x1024_S256x1024)) j
    = back 0x44800000#32 (brow v (j 0)) (bgain p) (brow u (j 0)) (j 1) := by
  pointwise [k0_pay13, k0_pay14, k0_pay16, back, ms, brow, bgain]

theorem pay_q (j : S1x1024.Idx) : k0_pay1 (k0_pay26 (k0_pay19 x) y (k0_pay21 (k0_pay19 x))) b j
    = b j + ∑ r : Fin 256, dg (brow x r) (brow y r) (j 1) := by
  pointwise [k0_pay1, k0_pay26, k0_pay22, k0_pay21, k0_pay19, dg, ms, brow]

theorem pay_p (j : S1x1024.Idx) : k0_pay18 u (k0_pay14 v) b j = b j + ∑ r : Fin 256, dg (brow v r) (brow u r) (j 1) := by
  pointwise [k0_pay18, k0_pay13, k0_pay14, dg, ms, brow]

/-- Both halves compute the same of their own rows. -/
theorem half_y : k0_pay8 (k0_pay6 a0 w0 a1 w1) (k0_pay7 a2) w2 a3 w3 = k0_pay20 a0 w0 a1 w1 a2 w2 a3 w3 := rfl
theorem half_x : k0_pay12 z (k0_pay5 x) q (k0_pay6 a0 w0 a1 w1) (k0_pay7 a2) w2 a3 w3
    = k0_pay23 z (k0_pay19 x) q (k0_pay20 a0 w0 a1 w1 a2 w2 a3 w3) (k0_pay21 (k0_pay19 x)) := rfl
theorem half_m : k0_pay15 z (k0_pay5 x) q p (k0_pay6 a0 w0 a1 w1) (k0_pay7 a2) w2 a3 w3
    = mulf (k0_pay23 z (k0_pay19 x) q (k0_pay20 a0 w0 a1 w1 a2 w2 a3 w3) (k0_pay21 (k0_pay19 x)))
      (broadcastTo S256x1024 p broadcasts_S1x1024_S256x1024) := rfl
theorem half_m' : k0_pay28 z (k0_pay19 x) v q p y (k0_pay21 (k0_pay19 x))
    = k0_pay16 (k0_pay13 v) (k0_pay14 v) (mulf (k0_pay23 z (k0_pay19 x) q y (k0_pay21 (k0_pay19 x)))
      (broadcastTo S256x1024 p broadcasts_S1x1024_S256x1024)) := rfl
theorem half_q : k0_pay17 (k0_pay11 (k0_pay5 x) (k0_pay6 a0 w0 a1 w1) (k0_pay7 a2) w2 a3 w3) b
    = k0_pay1 (k0_pay26 (k0_pay19 x) (k0_pay20 a0 w0 a1 w1 a2 w2 a3 w3) (k0_pay21 (k0_pay19 x))) b := rfl
theorem half_p : k0_pay2 (k0_pay27 z (k0_pay19 x) v q y (k0_pay21 (k0_pay19 x))) b
    = k0_pay18 (k0_pay23 z (k0_pay19 x) q y (k0_pay21 (k0_pay19 x))) (k0_pay14 v) b := rfl

end Payloads

variable (m : (ℓ : Loc nD τ sig) → Buf (Elt Ideal) ℓ)

/-- Each window's block index: the row tile at its point, the weight, the gains and the sums whole. -/
theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0]
    ∧ win0_5.index t = ![0, 0] ∧ win0_6.index t = ![0, 0] ∧ win0_7.index t = ![t.val, 0]
    ∧ win0_8.index t = ![t.val, 0] ∧ win0_9.index t = ![0, 0] ∧ win0_10.index t = ![0, 0] :=
  (by decide +kernel : ∀ t : Fin grid0.N, _)

/-- The blocks' rows are the arrays' rows: row `r` of the half that begins at `o` is row `512 t + o + r`. -/
theorem piece_eq (c : Dev nD) (t : Fin cfg0.N) (o n s : ℕ) (hn : n < 4) (hs : s = n * 1024) (h h') (r : Fin 256) (R : Fin 4096)
    (hR : R.val = t.val * 512 + o + r.val) (d : Fin 1024) :
    bpiece (View.ld (iblk m c 0 t) (Rect.unit ![o, s] ![256, 1024] h)) (View.ld (iblk m c 1 t) (Rect.unit ![n, 0, 0] ![1, 1024, 1024] h')) r d
      = piece (m ((c : Thread nD τ).loc main_arg0)) (m ((c : Thread nD τ).loc main_arg1)) n hn R d := by
  refine Fin.sum_fin_congr fun k => ?_
  pointwise []
  blk_point [iblk, V, idx t, hR]

theorem prod_eq (c : Dev nD) (t : Fin cfg0.N) (o : ℕ) (h0 h1 h2 h3 k0 k1 k2 k3) (r : Fin 256) (R : Fin 4096)
    (hR : R.val = t.val * 512 + o + r.val) :
    brow (k0_pay20
        (View.ld (iblk m c 0 t) (Rect.unit ![o, 0] ![256, 1024] h0)) (View.ld (iblk m c 1 t) (Rect.unit ![0, 0, 0] ![1, 1024, 1024] k0))
        (View.ld (iblk m c 0 t) (Rect.unit ![o, 1024] ![256, 1024] h1)) (View.ld (iblk m c 1 t) (Rect.unit ![1, 0, 0] ![1, 1024, 1024] k1))
        (View.ld (iblk m c 0 t) (Rect.unit ![o, 2048] ![256, 1024] h2)) (View.ld (iblk m c 1 t) (Rect.unit ![2, 0, 0] ![1, 1024, 1024] k2))
        (View.ld (iblk m c 0 t) (Rect.unit ![o, 3072] ![256, 1024] h3)) (View.ld (iblk m c 1 t) (Rect.unit ![3, 0, 0] ![1, 1024, 1024] k3))) r
      = prod (m ((c : Thread nD τ).loc main_arg0)) (m ((c : Thread nD τ).loc main_arg1)) R := by
  funext d
  rw [prod_pieces, prod_at]
  rw [piece_eq m c t o 0 0 (by omega) rfl h0 k0 r R hR, piece_eq m c t o 1 1024 (by omega) rfl h1 k1 r R hR,
    piece_eq m c t o 2 2048 (by omega) rfl h2 k2 r R hR, piece_eq m c t o 3 3072 (by omega) rfl h3 k3 r R hR]

theorem row_z (c : Dev nD) (t : Fin cfg0.N) (o : ℕ) (h) (r : Fin 256) (R : Fin 4096) (hR : R.val = t.val * 512 + o + r.val)
    (d : Fin 1024) : View.ld (iblk m c 2 t) (Rect.unit ![o, 0] ![256, 1024] h) (ix2 r d)
      = m ((c : Thread nD τ).loc main_arg2) (ix2 R d) := by
  blk_point [iblk, V, idx t, hR]

theorem row_v (c : Dev nD) (t : Fin cfg0.N) (o : ℕ) (h) (r : Fin 256) (R : Fin 4096) (hR : R.val = t.val * 512 + o + r.val) :
    brow (View.ld (iblk m c 4 t) (Rect.unit ![o, 0] ![256, 1024] h)) r = row (m ((c : Thread nD τ).loc main_arg4)) R := by
  funext d
  simp only [brow, row]
  pointwise []
  blk_point [iblk, V, idx t, hR]

theorem row_x (c : Dev nD) (t : Fin cfg0.N) (o : ℕ) (h) (r : Fin 256) (R : Fin 4096) (hR : R.val = t.val * 512 + o + r.val) :
    brow (View.ld (iblk m c 3 t) (Rect.unit ![o, 0] ![256, 1024] h)) r
      = row (mid (m ((c : Thread nD τ).loc main_arg3)) (m ((c : Thread nD τ).loc main_arg4)) (m ((c : Thread nD τ).loc main_arg5))) R := by
  funext d
  simp only [brow, row]
  pointwise []
  blk_point [iblk, V, idx t, hR]

theorem gain_q (c : Dev nD) (t : Fin cfg0.N) : bgain (iblk m c 5 t) = gain (m ((c : Thread nD τ).loc main_arg6)) := by
  funext d
  simp only [bgain, gain]
  blk_point [iblk, V, idx t]

theorem gain_p (c : Dev nD) (t : Fin cfg0.N) : bgain (iblk m c 6 t) = gain (m ((c : Thread nD τ).loc main_arg5)) := by
  funext d
  simp only [bgain, gain]
  blk_point [iblk, V, idx t]

/-- The loaded rows of the middle's gradient are the array's. -/
theorem grad_eq (c : Dev nD) (t : Fin cfg0.N) (o : ℕ) (h h' h0 h1 h2 h3 k0 k1 k2 k3) (r : Fin 256) (R : Fin 4096)
    (hR : R.val = t.val * 512 + o + r.val) :
    brow (k0_pay23 (View.ld (iblk m c 2 t) (Rect.unit ![o, 0] ![256, 1024] h))
        (k0_pay19 (View.ld (iblk m c 3 t) (Rect.unit ![o, 0] ![256, 1024] h'))) (iblk m c 5 t) (k0_pay20
        (View.ld (iblk m c 0 t) (Rect.unit ![o, 0] ![256, 1024] h0)) (View.ld (iblk m c 1 t) (Rect.unit ![0, 0, 0] ![1, 1024, 1024] k0))
        (View.ld (iblk m c 0 t) (Rect.unit ![o, 1024] ![256, 1024] h1)) (View.ld (iblk m c 1 t) (Rect.unit ![1, 0, 0] ![1, 1024, 1024] k1))
        (View.ld (iblk m c 0 t) (Rect.unit ![o, 2048] ![256, 1024] h2)) (View.ld (iblk m c 1 t) (Rect.unit ![2, 0, 0] ![1, 1024, 1024] k2))
        (View.ld (iblk m c 0 t) (Rect.unit ![o, 3072] ![256, 1024] h3)) (View.ld (iblk m c 1 t) (Rect.unit ![3, 0, 0] ![1, 1024, 1024] k3)))
        (k0_pay21 (k0_pay19 (View.ld (iblk m c 3 t) (Rect.unit ![o, 0] ![256, 1024] h'))))) r
      = grad (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) R := by
  funext d
  rw [brow, pay_x, ix2_0, ix2_1, grad, row_z m c t o h r R hR, row_x m c t o h' r R hR, gain_q m c t,
    prod_eq m c t o h0 h1 h2 h3 k0 k1 k2 k3 r R hR]

theorem grad_at {a : FVec Ideal S4096x4096 .f32} {w : FVec Ideal S1024x4096 .f32} {z x v : FVec Ideal S4096x1024 .f32}
    {p q : FVec Ideal S1x1024 .f32} {u : FVec Ideal S256x1024 .f32} {r : Fin 256} {R : Fin 4096}
    (hu : brow u r = grad a w z x v p q R) {d d' : Fin 1024} (hd : d = d') : u (ix2 r d) = grad a w z x v p q R d' := by
  rw [← hu, hd]
  rfl

theorem final_x (c : Dev nD) : (dats m 0 c).arrAt 7 (cfgs 0).N
    = out_x (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp
  rw [after0_7]
  by_cases h0 : t.val % 8 = 0
  on_goal 1 => rw [outsAt0_A m c t h0 h0]
  on_goal 2 => rw [outsAt0_B m c t h0 h0]
  all_goals
    frame_out
    canon_tiles x h
  all_goals
    try rw [half_x]
    rw [← ix2_eta x]
    refine grad_at (grad_eq m c t _ _ _ _ _ _ _ _ _ _ _ _ _ ?_) ?_
    all_goals
      try apply Fin.ext
      blk_simp [idx t]
      omega

theorem final_m (c : Dev nD) : (dats m 0 c).arrAt 8 (cfgs 0).N
    = out_m (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t hf y => ?_
  blk_simp
  rw [after0_8]
  by_cases h0 : t.val % 8 = 0
  on_goal 1 => rw [outsAt0_A m c t h0 h0]
  on_goal 2 => rw [outsAt0_B m c t h0 h0]
  all_goals
    frame_out
    canon_tiles x h
  all_goals
    first | rw [half_m] | rw [half_m']
    refine (pay_m _ _ _ _).trans ?_
    refine back_congr (congrFun (row_v m c t _ _ _ _ ?_)) (congrFun (gain_p m c t))
      (congrFun (grad_eq m c t _ _ _ _ _ _ _ _ _ _ _ _ _ ?_)) ?_
    all_goals
      try apply Fin.ext
      blk_simp [idx t]
      omega

theorem lt_8 (t : Fin cfg0.N) : t.val < 8 := Nat.lt_of_lt_of_eq t.isLt N_0

theorem final_q (c : Dev nD) : (dats m 0 c).arrAt 9 (cfgs 0).N
    = out_q (m ((c : Thread nD τ).loc main_arg0)) (m ((c : Thread nD τ).loc main_arg1))
        (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0)
    (fun t j => halves (part_q (m ((c : Thread nD τ).loc main_arg0)) (m ((c : Thread nD τ).loc main_arg1))
      (m ((c : Thread nD τ).loc main_arg3)) (m ((c : Thread nD τ).loc main_arg4)) (m ((c : Thread nD τ).loc main_arg5)) (j 1))
      t.val (lt_8 t))
    (fun t h j => ?_) (fun t h j => ?_) (le_of_eq N_0) t0_7 rfl j, zero_add]
  · exact sum_halves _
  on_goal 1 => rw [outsAt0_A m c t h h]
  on_goal 2 => rw [outsAt0_B m c t h h]
  all_goals
    frame_out
    rw [half_q, pay_q, pay_q, add_assoc]
    refine congrArg₂ (· + ·) ?_ (congrArg₂ (· + ·) (Fin.sum_fin_congr fun r => ?_) (Fin.sum_fin_congr fun r => ?_))
  all_goals try exact dg_congr (row_x m c t _ _ _ _ rfl) (prod_eq m c t _ _ _ _ _ _ _ _ _ _ _ rfl) _
  all_goals first | rfl | exact by pointwise [k0_pay3]

theorem final_p (c : Dev nD) : (dats m 0 c).arrAt 10 (cfgs 0).N
    = out_p (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => 0)
    (fun t j => halves (part_p (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (j 1)) t.val (lt_8 t))
    (fun t h j => ?_) (fun t h j => ?_) (le_of_eq N_0) t0_7 rfl j, zero_add]
  · exact sum_halves _
  on_goal 1 => rw [outsAt0_A m c t h h]
  on_goal 2 => rw [outsAt0_B m c t h h]
  all_goals
    frame_out
    rw [half_p, half_x, pay_p, pay_p, add_assoc]
    refine congrArg₂ (· + ·) ?_ (congrArg₂ (· + ·) (Fin.sum_fin_congr fun r => ?_) (Fin.sum_fin_congr fun r => ?_))
  all_goals try exact dg_congr (row_v m c t _ _ _ _ rfl) (grad_eq m c t _ _ _ _ _ _ _ _ _ _ _ _ _ rfl) _
  all_goals first | rfl | exact by pointwise [k0_pay4]

end Cert.Proof.Dh2

namespace Cert.Proof.Dh2

open Cert.Reference3Ideal Cert.Reference3Ideal.Gen Cert.Proof.Norm Cert.Proof.HostNorm

variable (a : FVec Ideal S4096x4096 .f32) (w : FVec Ideal S1024x4096 .f32) (z x v : FVec Ideal S4096x1024 .f32)
  (p q : FVec Ideal S1x1024 .f32)

/-- The reference's product and its four results. -/
def hprod : FVec Ideal S4096x1024 .f32 := Host.dotGeneral dot_S4096x4096_S1024x4096_S4096x1024_1_1_0_0_n_n none a w
def hx : FVec Ideal S4096x1024 .f32 := reverse_onto (mid x v p) (hprod a w) q z
def hcast : FVec Ideal S4096x1024 .f32 := shapeCast _ (hx a w z x v p q) shapeCasts_S4096x1024_S4096x1024
def hm : FVec Ideal S4096x1024 .bf16 := truncf .bf16 (reverse v (hcast a w z x v p q) p) bitsLt_bf16_f32
def hq : FVec Ideal S1x1024 .f32 := colsum (mulf (normed (mid x v p)) (hprod a w))
def hp : FVec Ideal S1x1024 .f32 := colsum (mulf (normed v) (hcast a w z x v p q))

theorem hprod_row (r : Fin 4096) : row (hprod a w) r = prod a w r := by
  funext d
  pointwise [row, hprod, prod]

theorem ref_q : hq a w x v p = out_q a w x v p := by
  funext j
  refine (colsum_at _ j).trans (Fin.sum_fin_congr fun r => ?_)
  refine (congrArg₂ (fun a b : EReal => a * b) (normed_at _ _) (congrFun (hprod_row a w r) (j 1))).trans ?_
  exact mul_comm _ _

section Finite
variable (ha : ∀ i, Real (a i)) (hw : ∀ i, Real (w i)) (hz : ∀ i, Real (z i)) (hx : ∀ i, Real (x i)) (hv : ∀ i, Real (v i))
  (hp : ∀ i, Real (p i)) (hq : ∀ i, Real (q i))

include hx hv hp in
theorem mid_real (r : Fin 4096) (d : Fin 1024) : Real (row (mid x v p) r d) := by
  rw [show row (mid x v p) r d = x (ix2 r d) + _ from congrArg (fun b : EReal => x (ix2 r d) + b) (out_at v p (ix2 r d))]
  exact (hx _).add (((hv _).mul (Real.rsqrt_ms word_1024 (by norm_num) fun k => hv _)).mul (hp _))

include ha hw hx hv hp hq in
theorem back_real (r : Fin 4096) (d : Fin 1024) : Real (back 0x44800000#32 (row (mid x v p) r) (gain q) (prod a w r) d) :=
  Real.back word_1024 (by norm_num) (mid_real x v p hx hv hp r) (fun d => hq _) (fun d => Real.sum fun k => (ha _).mul (hw _)) d

include ha hw hx hv hp hq in
theorem hx_row (r : Fin 4096) : row (Dh2.hx a w z x v p q) r = grad a w z x v p q r := by
  funext d
  refine (reverse_onto_at _ _ _ _ (ix2 r d)).trans (congrArg (fun b : EReal => z (ix2 r d) + b) ?_)
  simp only [ix2_0, ix2_1]
  rw [hprod_row]
  exact auto_eq word_1024 (by norm_num) (mid_real x v p hx hv hp r) (fun d => hq _) (fun d => Real.sum fun k => (ha _).mul (hw _)) d

theorem hcast_eq : hcast a w z x v p q = Dh2.hx a w z x v p q := by
  funext j
  pointwise [hcast]

include ha hw hx hv hp hq in
theorem ref_x : Dh2.hx a w z x v p q = out_x a w z x v p q := by
  funext j
  exact (congrArg _ (ix2_eta j).symm).trans (congrFun (hx_row a w z x v p q ha hw hx hv hp hq (j 0)) (j 1))

include ha hw hz hx hv hp hq in
theorem ref_m : hm a w z x v p q = out_m a w z x v p q := by
  have row_eq (r : Fin 4096) (d : Fin 1024) : auto 0x44800000#32 (row v r) (gain p) (row (hcast a w z x v p q) r) d
      = back 0x44800000#32 (row v r) (gain p) (grad a w z x v p q r) d := by
    rw [hcast_eq, hx_row a w z x v p q ha hw hx hv hp hq]
    exact auto_eq word_1024 (by norm_num) (fun d => hv _) (fun d => hp _)
      (fun d => (hz _).add (back_real a w x v p q ha hw hx hv hp hq r d)) d
  funext j
  exact (reverse_at _ _ _ j).trans (row_eq (j 0) (j 1))

include ha hw hx hv hp hq in
theorem ref_p : Dh2.hp a w z x v p q = out_p a w z x v p q := by
  funext j
  refine (colsum_at _ j).trans (Fin.sum_fin_congr fun r => ?_)
  refine (congrArg₂ (fun a b : EReal => a * b) (normed_at _ _) (congrFun (congrArg (fun u => row u r) (hcast_eq a w z x v p q)) (j 1))).trans ?_
  rw [hx_row a w z x v p q ha hw hx hv hp hq]
  exact mul_comm _ _

end Finite

end Cert.Proof.Dh2

end
-- ==== Proof.Alg3.lean ====
module

public import proofs.«01_k».proof.Defs
public import proofs.«01_k».proof.Proof.Dh2

@[expose] public section

set_option maxRecDepth 16384

noncomputable section

namespace Cert.Proof

open Idealize.ShloMosaic Idealize.SL.Sem

theorem frame_reference3 : Cert.quiescent_Reference3Ideal := by
  intro m g _
  exact (θ_run Cert.Reference3Ideal.defs _ _).mono
    (fun r h => ⟨fun c => (h c).2.2.2.2, Idealize.ShloMosaic.sem_eq_zero_of_no_sems (by decide) r.2⟩)
    (Cert.Reference3Ideal.Value.run (F := Ideal) m g)

theorem facts_dh2 : Cert.Pre_finite_dh2.Facts := ⟨by decide, by decide, by decide, by decide⟩

variable [Cert.Pre_finite_dh2.Facts]

set_option maxHeartbeats 4000000 in
theorem algebraic_dh2 : Cert.algebraic_Kernel3Ideal_Reference3Ideal_pre_finite_dh2 := by
  pair_intro
  · run_from Cert.Kernel3Ideal.Gen.run_main m g
  · run_from Cert.Reference3Ideal.Value.run (F := Ideal) m' g'
    · rw [Cert.Reference3Ideal.Value.res_main_v57, (hagree c).1, (hagree c).2.1, (hagree c).2.2.1, (hagree c).2.2.2.1, (hagree c).2.2.2.2.1, (hagree c).2.2.2.2.2.1, (hagree c).2.2.2.2.2.2]
      exact (Dh2.ref_x _ _ _ _ _ _ _ (Norm.Real.of_small (hpre c).1) (Norm.Real.of_small (hpre c).2.1) (Norm.Real.of_small (hpre c).2.2.2.1) (Norm.Real.of_small (hpre c).2.2.2.2.1) (Norm.Real.of_small (hpre c).2.2.2.2.2.1) (Norm.Real.of_small (hpre c).2.2.2.2.2.2)).trans (Dh2.final_x m c).symm
    · rw [Cert.Reference3Ideal.Value.res_main_v81, (hagree c).1, (hagree c).2.1, (hagree c).2.2.1, (hagree c).2.2.2.1, (hagree c).2.2.2.2.1, (hagree c).2.2.2.2.2.1, (hagree c).2.2.2.2.2.2]
      exact (Dh2.ref_m _ _ _ _ _ _ _ (Norm.Real.of_small (hpre c).1) (Norm.Real.of_small (hpre c).2.1) (Norm.Real.of_small (hpre c).2.2.1) (Norm.Real.of_small (hpre c).2.2.2.1) (Norm.Real.of_small (hpre c).2.2.2.2.1) (Norm.Real.of_small (hpre c).2.2.2.2.2.1) (Norm.Real.of_small (hpre c).2.2.2.2.2.2)).trans (Dh2.final_m m c).symm
    · exact (Dh2.ref_q _ _ _ _ _).trans (Dh2.final_q m c).symm
    · rw [Cert.Reference3Ideal.Value.res_main_v80, (hagree c).1, (hagree c).2.1, (hagree c).2.2.1, (hagree c).2.2.2.1, (hagree c).2.2.2.2.1, (hagree c).2.2.2.2.2.1, (hagree c).2.2.2.2.2.2]
      exact (Dh2.ref_p _ _ _ _ _ _ _ (Norm.Real.of_small (hpre c).1) (Norm.Real.of_small (hpre c).2.1) (Norm.Real.of_small (hpre c).2.2.2.1) (Norm.Real.of_small (hpre c).2.2.2.2.1) (Norm.Real.of_small (hpre c).2.2.2.2.2.1) (Norm.Real.of_small (hpre c).2.2.2.2.2.2)).trans (Dh2.final_p m c).symm

end Cert.Proof

end
-- ==== Proof.Dcat.lean ====
/- The gradients at the attention's and the recurrence's outputs: product, norm derivative and the row sums of every head. -/
module

public import proofs.«01_k».proof.Proof.Gen.Kernel4Ideal.Value
public import proofs.«01_k».proof.Proof.Gen.Reference4Ideal.Run
public import proofs.«01_k».proof.Proof.Norm
public import Idealize.ShloMosaic.Lib.Claim

@[expose] public section

set_option maxRecDepth 16384

noncomputable section

open Idealize.ShloMosaic Idealize.ShloMosaic.TcCoe Idealize.SL.Sem

namespace Cert.Proof.Dcat

open Cert.Kernel4Ideal Cert.Kernel4Ideal.Gen Cert.Proof.Norm
open Idealize.ShloMosaic.Pipeline (Dat)

section Payloads
variable (v t : FVec Ideal S256x512 .f32) (g : Vec Ideal S1x512 .f32) (a : Vec Ideal S256x1024 .bf16)
  (w : Vec Ideal S1x1024x1024 .bf16) (y : FVec Ideal S256x512 .f32) (b : Vec Ideal S1x512 .f32)

/-- A row of a block, and the gain. -/
def brow (r : Fin 256) (d : Fin 512) : EReal := v (ix2 r d)
def bgain (d : Fin 512) : EReal := g (ix2 0 d)

/-- A row's part of the gain's gradient. -/
def dg {n : ℕ} (v y : Fin n → EReal) (d : Fin n) : EReal := y d * (v d * Ideal.rsqrt (ms 0x44000000#32 v))

/-- A block's product with the weight, over all of the weight's rows. -/
def bprod (r : Fin 256) (d : Fin 1024) : EReal := ∑ k : Fin 1024, a (ix2 r k) * w (ix3 0 d k)

/-- The sums of two heads' columns, each in every column of its head. -/
def lanes (s : FVec Ideal S256x128 .f32) : FVec Ideal S256x128 .f32 := k0_pay12 k0_pay10 s (Scalar.ofBits .f32 0x00000000#32)

/-- The sums of all heads, two heads at a time. -/
def heads : FVec Ideal S256x512 .f32 := concatenate S256x512 1
  [⟨S256x128, lanes (extractStridedSlice S256x128 ![0, 0] t slices_S256x512_o0_0_S256x128)⟩,
   ⟨S256x128, lanes (extractStridedSlice S256x128 ![0, 128] t slices_S256x512_o0_128_S256x128)⟩,
   ⟨S256x128, lanes (extractStridedSlice S256x128 ![0, 256] t slices_S256x512_o0_256_S256x128)⟩,
   ⟨S256x128, lanes (extractStridedSlice S256x128 ![0, 384] t slices_S256x512_o0_384_S256x128)⟩]
  concatenates_S256x128_S256x128_S256x128_S256x128_S256x512_d1

theorem half_heads : k0_pay17 k0_pay10 (k0_pay12 k0_pay10 (extractStridedSlice S256x128 ![0, 0] t slices_S256x512_o0_0_S256x128)
      (Scalar.ofBits .f32 0x00000000#32)) (k0_pay13 t k0_pay10) (k0_pay14 t k0_pay10) (k0_pay15 t) (k0_pay16 t k0_pay10)
      (Scalar.ofBits .f32 0x00000000#32) = heads t := rfl

/-- The second half of a tile writes the same as the first. -/
theorem half_heads' : k0_pay34 (k0_pay28 v g y (k0_pay22 v) k0_pay23) k0_pay29 (k0_pay30 v g y (k0_pay22 v) k0_pay23)
      (k0_pay32 v g y (k0_pay22 v) k0_pay23) (k0_pay33 v g y (k0_pay22 v) k0_pay23)
    = heads (mulf (k0_pay26 v g y (k0_pay22 v) k0_pay23) v) := rfl

/-- The mask over 128 columns takes the first 64. -/
theorem low_at : ∀ l : Fin 128, IntOp.cmpi .slt (BitVec.ofNat 32 l.val) 64#32 = if l.val < 64 then 1#1 else 0#1 := by
  decide +kernel

theorem select_low (l : Fin 128) (x y : EReal) :
    Scalar.select (IntOp.cmpi .slt (BitVec.ofNat 32 l.val) 64#32) x y = if l.val < 64 then x else y := by
  rw [low_at]
  by_cases h : l.val < 64 <;> simp [h, Scalar.select]

theorem lanes_at (s : FVec Ideal S256x128 .f32) (r : Fin 256) (l : Fin 128) :
    lanes s (ix2 r l) = ∑ k : Fin 64, s (ix2 r ⟨l.val / 64 * 64 + k.val, by omega⟩) := by
  pointwise [lanes, k0_pay12, k0_pay10]
  simp only [select_low]
  rw [Fin.sum_univ_tiles 2 64 rfl, Fin.sum_univ_tiles 2 64 rfl, Fin.sum_univ_two, Fin.sum_univ_two]
  by_cases h : l.val < 64
  · have e : l.val / 64 = 0 := by omega
    simp [h, e]
  · have e : l.val / 64 = 1 := by omega
    simp [h, e]

theorem heads_at (r : Fin 256) (l : Fin 512) :
    heads t (ix2 r l) = ∑ k : Fin 64, t (ix2 r ⟨l.val / 64 * 64 + k.val, by omega⟩) := by
  pointwise [heads]
  simp only [lanes_at]
  split
  on_goal 2 => split
  on_goal 3 => split
  all_goals
    refine Fin.sum_fin_congr fun k => ?_
    pointwise []
  all_goals
    refine congrArg t (congrArg (ix2 r) (Fin.ext ?_))
    simp
    omega

theorem pay_o (j : S256x512.Idx) : k0_pay26 v g y (k0_pay22 v) k0_pay23 j
    = back 0x44000000#32 (brow v (j 0)) (bgain g) (brow y (j 0)) (j 1) := by
  pointwise [k0_pay26, k0_pay25, k0_pay24, k0_pay23, k0_pay22, back, ms, brow, bgain]

theorem pay_g (j : S1x512.Idx) : k0_pay1 (k0_pay36 (k0_pay27 v y (k0_pay22 v) k0_pay23)) (k0_pay37 b) j
    = b j + ∑ r : Fin 256, dg (brow v r) (brow y r) (j 1) := by
  pointwise [k0_pay1, k0_pay36, k0_pay37, k0_pay27, k0_pay25, k0_pay24, k0_pay23, k0_pay22, dg, ms, brow]

theorem prod_low (r : Fin 256) (d : Fin 512) : brow (k0_pay21 a w) r d = bprod a w r ⟨d.val, by omega⟩ := by
  pointwise [brow, k0_pay21, k0_pay20, bprod]

theorem prod_high (r : Fin 256) (d : Fin 512) : k0_pay35 (k0_pay20 a w) (ix2 r d) = bprod a w r ⟨512 + d.val, by omega⟩ := by
  pointwise [k0_pay35, k0_pay20, bprod]

/-- Both halves compute the same of their own rows. -/
theorem half_o : k0_pay7 v g a w = k0_pay26 v g (k0_pay21 a w) (k0_pay22 v) k0_pay23 := rfl
theorem half_t : k0_pay9 v g a w = mulf (k0_pay26 v g (k0_pay21 a w) (k0_pay22 v) k0_pay23) v := rfl
theorem half_s : k0_pay11 v g a w = extractStridedSlice S256x128 ![0, 0]
    (mulf (k0_pay26 v g (k0_pay21 a w) (k0_pay22 v) k0_pay23) v) slices_S256x512_o0_0_S256x128 := rfl
theorem half_r : k0_pay18 (k0_pay3 a w) = k0_pay35 (k0_pay20 a w) := rfl
theorem half_g : k0_pay19 (k0_pay8 v a w) b = k0_pay1 (k0_pay36 (k0_pay27 v (k0_pay21 a w) (k0_pay22 v) k0_pay23)) (k0_pay37 b) := rfl

end Payloads

section Arrays
variable (a : FVec Ideal S4096x1024 .f32) (w : FVec Ideal S1024x1024 .f32) (v : FVec Ideal S4096x512 .f32)
  (g : FVec Ideal S1x512 .f32)

def row (r : Fin 4096) (d : Fin 512) : EReal := v (ix2 r d)
def gain (d : Fin 512) : EReal := g (ix2 0 d)

/-- A row of the product; its first columns are the attention's, the others the recurrence's. -/
def prod (r : Fin 4096) (d : Fin 1024) : EReal := ∑ k : Fin 1024, a (ix2 r k) * w (ix2 d k)
def low (r : Fin 4096) (d : Fin 512) : EReal := prod a w r ⟨d.val, by omega⟩

/-- The four results as formulas of the arguments. -/
def grad (r : Fin 4096) (d : Fin 512) : EReal := back 0x44000000#32 (row v r) (gain g) (low a w r) d
def head (f h : Fin 512 → EReal) (d : Fin 512) : EReal :=
  ∑ k : Fin 64, f ⟨d.val / 64 * 64 + k.val, by omega⟩ * h ⟨d.val / 64 * 64 + k.val, by omega⟩
def high (r : Fin 4096) (d : Fin 512) : EReal := prod a w r ⟨512 + d.val, by omega⟩
def out_o : FVec Ideal S4096x512 .f32 := fun j => grad a w v g (j 0) (j 1)
def out_d : FVec Ideal S4096x512 .f32 := fun j => head (grad a w v g (j 0)) (row v (j 0)) (j 1)
def out_r : FVec Ideal S4096x512 .f32 := fun j => high a w (j 0) (j 1)
def part_g (d : Fin 512) (r : Fin 4096) : EReal := dg (row v r) (low a w r) d
def out_g : FVec Ideal S1x512 .f32 := fun j => ∑ r : Fin 4096, part_g a w v (j 1) r

end Arrays

variable (m : (ℓ : Loc nD τ sig) → Buf (Elt Ideal) ℓ)

/-- Each window's block index: the row tile at its point, the weight, the gain and the sum whole. -/
theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![t.val, 0] ∧ win0_7.index t = ![0, 0] :=
  (by decide +kernel : ∀ t : Fin grid0.N, _)

/-- The blocks' rows are the arrays' rows: row `r` of the half that begins at `o` is row `512 t + o + r`. -/
theorem bprod_eq (c : Dev nD) (t : Fin cfg0.N) (o : ℕ) (h) (r : Fin 256) (R : Fin 4096) (hR : R.val = t.val * 512 + o + r.val) :
    bprod (View.ld (iblk m c 0 t) (Rect.unit ![o, 0] ![256, 1024] h)) (iblk m c 1 t) r
      = prod (m ((c : Thread nD τ).loc main_arg0)) (m ((c : Thread nD τ).loc main_arg1)) R := by
  funext d
  refine Fin.sum_fin_congr fun k => ?_
  pointwise []
  blk_point [iblk, V, idx t, hR]

theorem low_eq (c : Dev nD) (t : Fin cfg0.N) (o : ℕ) (h) (r : Fin 256) (R : Fin 4096) (hR : R.val = t.val * 512 + o + r.val) :
    brow (k0_pay21 (View.ld (iblk m c 0 t) (Rect.unit ![o, 0] ![256, 1024] h)) (iblk m c 1 t)) r
      = low (m ((c : Thread nD τ).loc main_arg0)) (m ((c : Thread nD τ).loc main_arg1)) R := by
  funext d
  rw [prod_low, bprod_eq m c t o h r R hR]
  rfl

theorem row_v (c : Dev nD) (t : Fin cfg0.N) (o : ℕ) (h) (r : Fin 256) (R : Fin 4096) (hR : R.val = t.val * 512 + o + r.val) :
    brow (View.ld (iblk m c 2 t) (Rect.unit ![o, 0] ![256, 512] h)) r = row (m ((c : Thread nD τ).loc main_arg2)) R := by
  funext d
  simp only [brow, row]
  pointwise []
  blk_point [iblk, V, idx t, hR]

theorem gain_eq (c : Dev nD) (t : Fin cfg0.N) : bgain (iblk m c 3 t) = gain (m ((c : Thread nD τ).loc main_arg4)) := by
  funext d
  simp only [bgain, gain]
  blk_point [iblk, V, idx t]

theorem grad_eq (c : Dev nD) (t : Fin cfg0.N) (o : ℕ) (h h') (r : Fin 256) (R : Fin 4096) (hR : R.val = t.val * 512 + o + r.val) :
    brow (k0_pay26 (View.ld (iblk m c 2 t) (Rect.unit ![o, 0] ![256, 512] h)) (iblk m c 3 t)
        (k0_pay21 (View.ld (iblk m c 0 t) (Rect.unit ![o, 0] ![256, 1024] h')) (iblk m c 1 t))
        (k0_pay22 (View.ld (iblk m c 2 t) (Rect.unit ![o, 0] ![256, 512] h))) k0_pay23) r
      = grad (m ((c : Thread nD τ).loc main_arg0)) (m ((c : Thread nD τ).loc main_arg1))
          (m ((c : Thread nD τ).loc main_arg2)) (m ((c : Thread nD τ).loc main_arg4)) R := by
  funext d
  rw [brow, pay_o, ix2_0, ix2_1, grad, row_v m c t o h r R hR, gain_eq m c t, low_eq m c t o h' r R hR]

theorem at_row {f : Fin 512 → EReal} {u : FVec Ideal S256x512 .f32} {r : Fin 256}
    (hu : brow u r = f) {d d' : Fin 512} (hd : d = d') : u (ix2 r d) = f d' := by
  rw [← hu, hd]
  rfl

theorem heads_row {u v : FVec Ideal S256x512 .f32} {r : Fin 256} {f h : Fin 512 → EReal} (hu : brow u r = f) (hv : brow v r = h) :
    brow (heads (mulf u v)) r = head f h := by
  funext d
  refine (heads_at _ r d).trans (Fin.sum_fin_congr fun k => ?_)
  rw [← hu, ← hv]
  rfl

theorem high_row (c : Dev nD) (t : Fin cfg0.N) (o : ℕ) (h) (r : Fin 256) (R : Fin 4096) (hR : R.val = t.val * 512 + o + r.val) :
    brow (k0_pay35 (k0_pay20 (View.ld (iblk m c 0 t) (Rect.unit ![o, 0] ![256, 1024] h)) (iblk m c 1 t))) r
      = high (m ((c : Thread nD τ).loc main_arg0)) (m ((c : Thread nD τ).loc main_arg1)) R := by
  funext d
  rw [brow, prod_high, bprod_eq m c t o h r R hR]
  rfl

theorem final_o (c : Dev nD) : (dats m 0 c).arrAt 4 (cfgs 0).N
    = out_o (m ((c : Thread nD τ).loc main_arg0)) (m ((c : Thread nD τ).loc main_arg1)) (m ((c : Thread nD τ).loc main_arg2))
        (m ((c : Thread nD τ).loc main_arg4)) := by
  refine (dats m 0 c).arrAt_eq_of_covers 4 _ (by decide +kernel) fun t hf y => ?_
  blk_simp
  rw [after0_4]
  by_cases h0 : t.val % 8 = 0
  on_goal 1 => rw [outsAt0_A m c t h0]
  on_goal 2 => rw [outsAt0_B m c t h0]
  all_goals
    frame_out
    canon_tiles x h
  all_goals
    try rw [half_o]
    rw [← ix2_eta x]
    refine at_row (grad_eq m c t _ _ _ _ _ ?_) ?_
    all_goals
      try apply Fin.ext
      blk_simp [idx t]
      omega

theorem final_d (c : Dev nD) : (dats m 0 c).arrAt 5 (cfgs 0).N
    = out_d (m ((c : Thread nD τ).loc main_arg0)) (m ((c : Thread nD τ).loc main_arg1)) (m ((c : Thread nD τ).loc main_arg2))
        (m ((c : Thread nD τ).loc main_arg4)) := by
  refine (dats m 0 c).arrAt_eq_of_covers 5 _ (by decide +kernel) fun t hf y => ?_
  blk_simp
  rw [after0_5]
  by_cases h0 : t.val % 8 = 0
  on_goal 1 => rw [outsAt0_A m c t h0]
  on_goal 2 => rw [outsAt0_B m c t h0]
  all_goals
    frame_out
    canon_tiles x h
  all_goals
    first | rw [half_heads'] | (rw [half_t, half_s]; refine (congrFun (half_heads _) _).trans ?_)
    rw [← ix2_eta x]
    refine at_row (heads_row (grad_eq m c t _ _ _ _ _ ?_) (row_v m c t _ _ _ _ ?_)) ?_
    all_goals
      try apply Fin.ext
      blk_simp [idx t]
      omega

theorem final_r (c : Dev nD) : (dats m 0 c).arrAt 6 (cfgs 0).N
    = out_r (m ((c : Thread nD τ).loc main_arg0)) (m ((c : Thread nD τ).loc main_arg1)) := by
  refine (dats m 0 c).arrAt_eq_of_covers 6 _ (by decide +kernel) fun t hf y => ?_
  blk_simp
  rw [after0_6]
  by_cases h0 : t.val % 8 = 0
  on_goal 1 => rw [outsAt0_A m c t h0]
  on_goal 2 => rw [outsAt0_B m c t h0]
  all_goals
    frame_out
    canon_tiles x h
  all_goals
    try rw [half_r]
    rw [← ix2_eta x]
    refine at_row (high_row m c t _ _ _ _ ?_) ?_
    all_goals
      try apply Fin.ext
      blk_simp [idx t]
      omega

theorem lt_8 (t : Fin cfg0.N) : t.val < 8 := Nat.lt_of_lt_of_eq t.isLt N_0

theorem dg_congr {n : ℕ} {v v' y y' : Fin n → EReal} (hv : v = v') (hy : y = y') (d : Fin n) : dg v y d = dg v' y' d := by
  rw [hv, hy]

theorem final_g (c : Dev nD) : (dats m 0 c).arrAt 7 (cfgs 0).N
    = out_g (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0)
    (fun t j => halves (part_g (m ((c : Thread nD τ).loc main_arg0)) (m ((c : Thread nD τ).loc main_arg1))
      (m ((c : Thread nD τ).loc main_arg2)) (j 1)) t.val (lt_8 t))
    (fun t h j => ?_) (fun t h j => ?_) (le_of_eq N_0) t0_7 rfl j, zero_add]
  · exact sum_halves _
  on_goal 1 => rw [outsAt0_A m c t h]
  on_goal 2 => rw [outsAt0_B m c t h]
  all_goals
    frame_out
    rw [half_g, pay_g, pay_g, add_assoc]
    refine congrArg₂ (· + ·) ?_ (congrArg₂ (· + ·) (Fin.sum_fin_congr fun r => ?_) (Fin.sum_fin_congr fun r => ?_))
  all_goals try exact dg_congr (row_v m c t _ _ _ _ rfl) (low_eq m c t _ _ _ _ rfl) _
  all_goals first | rfl | exact by pointwise [k0_pay2]

end Cert.Proof.Dcat

namespace Cert.Proof.Dcat

open Cert.Reference4Ideal Cert.Reference4Ideal.Gen Cert.Proof.Norm

variable (a : FVec Ideal S4096x1024 .f32) (w : FVec Ideal S1024x1024 .f32) (v : FVec Ideal S4096x512 .f32)
  (g : FVec Ideal S1x512 .f32)

/-- The reference's product, its first columns, the norm's parts and the four results. -/
def hprod : FVec Ideal S4096x1024 .f32 := Host.dotGeneral dot_S4096x1024_S1024x1024_S4096x1024_1_1_0_0_n_n none a w
def hlow : FVec Ideal S4096x512 .f32 := extractStridedSlice S4096x512 ![0, 0] (hprod a w) slices_S4096x1024_S4096x512_0_0

def hmean : FVec Ideal S4096x1 .f32 :=
  addf (Host.divf (broadcastInDim S4096x1 ![0] bcast_S4096_S4096x1_0 (Host.reduceAdd (mulf v v) (constant S_ .f32 0x00000000#32)
      reducesTo_S4096x512_S4096_d1 h_S_)) (broadcastInDim S4096x1 ![] bcast_S_S4096x1 (constant S_ .f32 0x44000000#32)))
    (broadcastInDim S4096x1 ![] bcast_S_S4096x1 (constant S_ .f32 0x358637BD#32))

def hdy : FVec Ideal S4096x512 .f32 :=
  mulf (hlow a w) (broadcastInDim S4096x512 ![0, 1] bcast_S1x512_S4096x512_0_1 (broadcastInDim S1x512 ![1] bcast_S512_S1x512_1
    (shapeCast _ g shapeCasts_S1x512_S512)))

def hsent : FVec Ideal S4096x512 .f32 :=
  broadcastInDim S4096x512 ![0] bcast_S4096_S4096x512_0 (Host.reduceAdd (Host.divf (mulf (shapeCast _ (Host.reduceAdd (mulf v (hdy a w g))
      (constant S_ .f32 0x00000000#32) reducesTo_S4096x512_S4096_d1 h_S_) shapeCasts_S4096_S4096x1)
      (mulf (broadcastInDim S4096x1 ![] bcast_S_S4096x1 (constant S_ .f32 0xBF000000#32)) (Host.divf (Host.rsqrt (hmean v)) (hmean v))))
    (broadcastInDim S4096x1 ![] bcast_S_S4096x1 (constant S_ .f32 0x44000000#32))) (constant S_ .f32 0x00000000#32)
    reducesTo_S4096x1_S4096_d1 h_S_)

def hscale : FVec Ideal S4096x512 .f32 := broadcastInDim S4096x512 ![0, 1] bcast_S4096x1_S4096x512_0_1 (Host.rsqrt (hmean v))

def ho : FVec Ideal S4096x512 .f32 :=
  addf (addf (mulf (hdy a w g) (hscale v)) (mulf v (hsent a w v g))) (mulf (hsent a w v g) v)

def hd : FVec Ideal S4096x512 .f32 :=
  shapeCast _ (broadcastInDim S4096x8x64 ![0, 1] bcast_S4096x8_S4096x8x64_0_1 (Host.reduceAdd (shapeCast _ (mulf (ho a w v g) v)
    shapeCasts_S4096x512_S4096x8x64) (constant S_ .f32 0x00000000#32) reducesTo_S4096x8x64_S4096x8_d2 h_S_)) shapeCasts_S4096x8x64_S4096x512

def hr : FVec Ideal S4096x512 .f32 := extractStridedSlice S4096x512 ![0, 512] (hprod a w) slices_S4096x1024_S4096x512_0_512

def hg : FVec Ideal S1x512 .f32 :=
  broadcastInDim S1x512 ![1] bcast_S512_S1x512_1 (Host.reduceAdd (shapeCast _ (Host.reduceAdd (mulf (mulf v (hscale v)) (hlow a w))
    (constant S_ .f32 0x00000000#32) reducesTo_S4096x512_S512_d0 h_S_) shapeCasts_S512_S1x512) (constant S_ .f32 0x00000000#32)
    reducesTo_S1x512_S512_d0 h_S_)

theorem hlow_row (r : Fin 4096) (d : Fin 512) : hlow a w (ix2 r d) = low a w r d := by
  pointwise [hlow, hprod, low, prod]

theorem hsent_at (r : Fin 4096) (d : Fin 512) : hsent a w v g (ix2 r d)
    = through 0x44000000#32 (row v r) (gain g) (low a w r) := by
  pointwise [hsent, hdy, hmean, through, ms, row, gain]
  simp only [hlow_row]

theorem hscale_at (r : Fin 4096) (d : Fin 512) : hscale v (ix2 r d) = Ideal.rsqrt (ms 0x44000000#32 (row v r)) := by
  pointwise [hscale, hmean, ms, row]

theorem ho_at (r : Fin 4096) (d : Fin 512) : ho a w v g (ix2 r d)
    = auto 0x44000000#32 (row v r) (gain g) (low a w r) d := by
  pointwise [ho, hdy, auto]
  rw [hsent_at, hscale_at, hlow_row]
  rfl

theorem ref_r : hr a w = out_r a w := by
  funext j
  pointwise [hr, hprod, out_r, high, prod]

theorem hg_at (d : Fin 512) : hg a w v (ix2 0 d) = ∑ r : Fin 4096, part_g a w v d r := by
  pointwise [hg, part_g, dg]
  simp only [Finset.univ_unique, Finset.sum_const, Finset.card_singleton, one_smul, hscale_at, hlow_row]
  exact Fin.sum_fin_congr fun r => mul_comm _ _

theorem ref_g : hg a w v = out_g a w v := by
  funext j
  have e : ix2 0 (j 1) = j := (congrArg (ix2 · (j 1)) (Subsingleton.elim (α := Fin 1) 0 (j 0))).trans (ix2_eta j)
  exact (congrArg _ e.symm).trans (hg_at a w v (j 1))

theorem word_512 : Ideal.ofBits .f32 0x44000000#32 = ((512 : ℝ) : EReal) := by
  simp [Ideal.ofBits, Ideal.ieee, -EReal.coe_mul]; norm_num

section Finite
variable (ha : ∀ i, Real (a i)) (hw : ∀ i, Real (w i)) (hv : ∀ i, Real (v i)) (hg : ∀ i, Real (g i))

include ha hw hv hg in
theorem ho_row (r : Fin 4096) (d : Fin 512) : ho a w v g (ix2 r d) = grad a w v g r d :=
  (ho_at a w v g r d).trans (auto_eq word_512 (by norm_num) (fun d => hv _) (fun d => hg _)
    (fun d => Real.sum fun k => (ha _).mul (hw _)) d)

include ha hw hv hg in
theorem ref_o : ho a w v g = out_o a w v g := by
  funext j
  exact (congrArg _ (ix2_eta j).symm).trans (ho_row a w v g ha hw hv hg (j 0) (j 1))

include ha hw hv hg in
theorem hd_at (r : Fin 4096) (d : Fin 512) : hd a w v g (ix2 r d) = head (grad a w v g r) (row v r) d := by
  pointwise [hd, head]
  simp only [ho_row a w v g ha hw hv hg]
  rfl

include ha hw hv hg in
theorem ref_d : hd a w v g = out_d a w v g := by
  funext j
  exact (congrArg _ (ix2_eta j).symm).trans (hd_at a w v g ha hw hv hg (j 0) (j 1))

end Finite

end Cert.Proof.Dcat

end
-- ==== Proof.Alg4.lean ====
module

public import proofs.«01_k».proof.Defs
public import proofs.«01_k».proof.Proof.Dcat

@[expose] public section

set_option maxRecDepth 16384

noncomputable section

namespace Cert.Proof

open Idealize.ShloMosaic Idealize.SL.Sem

theorem frame_reference4 : Cert.quiescent_Reference4Ideal := by
  intro m g _
  exact (θ_run Cert.Reference4Ideal.defs _ _).mono
    (fun r h => ⟨fun c => (h c).2.2.2.2, Idealize.ShloMosaic.sem_eq_zero_of_no_sems (by decide) r.2⟩)
    (Cert.Reference4Ideal.Value.run (F := Ideal) m g)

theorem facts_dcat : Cert.Pre_finite_dcat.Facts := ⟨by decide, by decide, by decide, by decide⟩

variable [Cert.Pre_finite_dcat.Facts]

set_option maxHeartbeats 4000000 in
theorem algebraic_dcat : Cert.algebraic_Kernel4Ideal_Reference4Ideal_pre_finite_dcat := by
  pair_intro
  · run_from Cert.Kernel4Ideal.Gen.run_main m g
  · run_from Cert.Reference4Ideal.Value.run (F := Ideal) m' g'
    · rw [Cert.Reference4Ideal.Value.res_main_v41, (hagree c).1, (hagree c).2.1, (hagree c).2.2.1, (hagree c).2.2.2.2]
      exact (Dcat.ref_o _ _ _ _ (Norm.Real.of_small (hpre c).1) (Norm.Real.of_small (hpre c).2.1) (Norm.Real.of_small (hpre c).2.2.1) (Norm.Real.of_small (hpre c).2.2.2)).trans (Dcat.final_o m c).symm
    · rw [Cert.Reference4Ideal.Value.res_main_v47, (hagree c).1, (hagree c).2.1, (hagree c).2.2.1, (hagree c).2.2.2.2]
      exact (Dcat.ref_d _ _ _ _ (Norm.Real.of_small (hpre c).1) (Norm.Real.of_small (hpre c).2.1) (Norm.Real.of_small (hpre c).2.2.1) (Norm.Real.of_small (hpre c).2.2.2)).trans (Dcat.final_d m c).symm
    · exact (Dcat.ref_r _ _).trans (Dcat.final_r m c).symm
    · exact (Dcat.ref_g _ _ _).trans (Dcat.final_g m c).symm

end Cert.Proof

end
-- ==== Proof.Alg5.lean ====
module

public import proofs.«01_k».proof.Defs
public import proofs.«01_k».proof.Proof.Dh

@[expose] public section

set_option maxRecDepth 16384

noncomputable section

namespace Cert.Proof

open Idealize.ShloMosaic Idealize.SL.Sem

theorem frame_reference5 : Cert.quiescent_Reference5Ideal := by
  intro m g _
  exact (θ_run Cert.Reference5Ideal.defs _ _).mono
    (fun r h => ⟨fun c => (h c).2.2, Idealize.ShloMosaic.sem_eq_zero_of_no_sems (by decide) r.2⟩)
    (Cert.Reference5Ideal.Value.run (F := Ideal) m g)

theorem facts_dh : Cert.Pre_finite_dh.Facts := ⟨by decide, by decide, by decide, by decide⟩

variable [Cert.Pre_finite_dh.Facts]

set_option maxHeartbeats 4000000 in
theorem algebraic_dh : Cert.algebraic_Kernel5Ideal_Reference5Ideal_pre_finite_dh := by
  pair_intro
  · run_from Cert.Kernel5Ideal.Gen.run_main m g
  · run_from Cert.Reference5Ideal.Value.run (F := Ideal) m' g'
    · rw [Cert.Reference5Ideal.Value.res_main_v39, (hagree c).1, (hagree c).2.1, (hagree c).2.2.1, (hagree c).2.2.2.1, (hagree c).2.2.2.2]
      exact (Dh.ref_x _ _ _ _ _ (Norm.Real.of_small (hpre c).1) (Norm.Real.of_small (hpre c).2.1) (Norm.Real.of_small (hpre c).2.2.1) (Norm.Real.of_small (hpre c).2.2.2)).trans (Dh.final_x m c).symm
    · exact (Dh.ref_g _ _ _).trans (Dh.final_g m c).symm

end Cert.Proof

end
-- ==== Proof.Ff1.lean ====
/- The hidden layer of the squared-ReLU MLP: the activation and the positive part, block by block. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.Ff1

open Cert.Kernel6Ideal Cert.Kernel6Ideal.Gen
open Idealize.ShloMosaic.Pipeline (Dat)

section Arrays
variable (h2 : FVec Ideal S4096x1024 .f32) (w1 : FVec Ideal S1024x4096 .f32)

/-- The positive part of the product at row `r` and column `d`; the two results are its square and itself. -/
def pos (r d : Fin 4096) : EReal := max (∑ k : Fin 1024, h2 (ix2 r k) * w1 (ix2 k d)) 0
def act : FVec Ideal S4096x4096 .bf16 := fun j => pos h2 w1 (j 0) (j 1) * pos h2 w1 (j 0) (j 1)
def ru : FVec Ideal S4096x4096 .bf16 := fun j => pos h2 w1 (j 0) (j 1)

end Arrays

variable (m : (ℓ : Loc nD τ sig) → Buf (Elt Ideal) ℓ)

/-- Each window's block index: the outputs' columns advance every fourth point, their rows at every point. -/
theorem idx : ∀ t : Fin cfg0.N, win0_0.index t = ![0, 0] ∧ win0_1.index t = ![t.val / 4, 0, 0]
    ∧ win0_2.index t = ![t.val % 4, t.val / 4] ∧ win0_3.index t = ![t.val % 4, t.val / 4] :=
  (by decide +kernel : ∀ t : Fin grid0.N, _)

/-- The row at which each of the body's two loads of the rows begins. -/
theorem off : ∀ t : Fin cfg0.N, k0_off1 (grid0.coords t) 0#32 = ![t.val % 4 * 1024, 0]
    ∧ k0_off1 (grid0.coords t) 512#32 = ![t.val % 4 * 1024 + 512, 0] :=
  (by decide +kernel : ∀ t : Fin grid0.N, _)

theorem final_act (c : Dev nD) : (dats m 0 c).arrAt 2 (cfgs 0).N = act (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have o0 := congrFun (off t).1
  have o1 := congrFun (off t).2
  canon_tiles x h
  all_goals
    pointwise [k0_pay1, k0_pay2, k0_pay4, k0_pay5, act, pos]
    refine (fun {a b : EReal} (e : a = b) => congrArg (fun a : EReal => max a 0 * max a 0) e) (Fin.sum_fin_congr fun k => ?_)
    blk_point [iblk, V, idx t, o0, o1]

theorem final_ru (c : Dev nD) : (dats m 0 c).arrAt 3 (cfgs 0).N = ru (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  have o0 := congrFun (off t).1
  have o1 := congrFun (off t).2
  canon_tiles x h
  all_goals
    pointwise [k0_pay1, k0_pay3, k0_pay4, k0_pay6, ru, pos]
    refine congrArg (fun a : EReal => max a 0) (Fin.sum_fin_congr fun k => ?_)
    blk_point [iblk, V, idx t, o0, o1]

end Cert.Proof.Ff1

namespace Cert.Proof.Ff1

open Cert.Reference6Ideal Cert.Reference6Ideal.Gen

variable (h2 : FVec Ideal S4096x1024 .f32) (w1 : FVec Ideal S1024x4096 .f32)

/-- The reference's positive part and its two results. -/
def hpos : FVec Ideal S4096x4096 .f32 := maximumf (Host.dotGeneral dot_S4096x1024_S1024x4096_S4096x4096_1_0_0_1_n_n none h2 w1)
  (broadcastInDim S4096x4096 ![] bcast_S_S4096x4096 (constant S_ .f32 0x00000000#32))
def hact : FVec Ideal S4096x4096 .bf16 := truncf .bf16 (mulf (hpos h2 w1) (hpos h2 w1)) bitsLt_bf16_f32
def hru : FVec Ideal S4096x4096 .bf16 := truncf .bf16 (hpos h2 w1) bitsLt_bf16_f32

theorem ref_act : hact h2 w1 = act h2 w1 := by
  funext j
  pointwise [hact, hpos, act, pos]

theorem ref_ru : hru h2 w1 = ru h2 w1 := by
  funext j
  pointwise [hru, hpos, ru, pos]

end Cert.Proof.Ff1

end
-- ==== Proof.Alg6.lean ====
module

public import proofs.«01_k».proof.Defs
public import proofs.«01_k».proof.Proof.Ff1
public import Idealize.ShloMosaic.Lib.Claim

@[expose] public section

set_option maxRecDepth 16384

noncomputable section

namespace Cert.Proof

open Idealize.ShloMosaic Idealize.SL.Sem

theorem frame_reference6 : Cert.quiescent_Reference6Ideal := by
  intro m g _
  exact (θ_run Cert.Reference6Ideal.defs _ _).mono
    (fun r h => ⟨fun c => (h c).2.2, Idealize.ShloMosaic.sem_eq_zero_of_no_sems (by decide) r.2⟩)
    (Cert.Reference6Ideal.Value.run (F := Ideal) m g)

theorem algebraic_ff1 : Cert.algebraic_Kernel6Ideal_Reference6Ideal := by
  pair_intro
  · run_from Cert.Kernel6Ideal.Gen.run_main m g
  · run_from Cert.Reference6Ideal.Value.run (F := Ideal) m' g'
    · exact (Ff1.ref_act _ _).trans (Ff1.final_act m c).symm
    · exact (Ff1.ref_ru _ _).trans (Ff1.final_ru m c).symm

end Cert.Proof

end
-- ==== Proof.AttnNorm.lean ====
/- The norm of the attention's output: the result array, block by block, is the reference's. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Claim
public import proofs.«01_k».proof.Proof.Norm

@[expose] public section

set_option maxRecDepth 16384

noncomputable section

open Idealize.ShloMosaic Idealize.ShloMosaic.TcCoe Idealize.SL.Sem

namespace Cert.Proof.AttnNorm

open Cert.Kernel7Ideal Cert.Kernel7Ideal.Gen Cert.Proof.Norm
open Idealize.ShloMosaic.Pipeline (Dat)

/-- The normed row at column `d`: each entry over the row's root mean square, times the gain. -/
def normed (v : FVec Ideal S4096x512 .f32) (g : FVec Ideal S1x512 .f32) : FVec Ideal S4096x512 .bf16 := fun j =>
  v (ix2 (j 0) (j 1)) * Ideal.rsqrt (ms 0x44000000#32 fun k : Fin 512 => v (ix2 (j 0) k)) * g (ix2 0 (j 1))

/-- What the body computes of its loaded blocks, at an index. -/
theorem pay_at (v : Vec Ideal S512x512 .f32) (g : Vec Ideal S1x512 .f32) (j : S512x512.Idx) : k0_pay1 v g j
    = v (ix2 (j 0) (j 1)) * Ideal.rsqrt (ms 0x44000000#32 fun k : Fin 512 => v (ix2 (j 0) k)) * g (ix2 0 (j 1)) := by
  pointwise [k0_pay1, ms]

variable (m : (ℓ : Loc nD τ sig) → Buf (Elt Ideal) ℓ)

/-- Each window's block index: the row tile at its point, the gain whole. -/
theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_at _ _ _).trans ?_
  refine congrArg₂ (· * ·) (congrArg₂ (· * ·) ?_ (congrArg (fun f => Ideal.rsqrt (ms _ f)) (funext fun k => ?_))) ?_
  all_goals blk_point [iblk, V, idx t]

end Cert.Proof.AttnNorm

namespace Cert.Proof.AttnNorm

open Cert.Reference7Ideal Cert.Reference7Ideal.Gen Cert.Proof.Norm

/-- The reference's composed term. -/
def ref (v : FVec Ideal S4096x512 .f32) (g : FVec Ideal S1x512 .f32) : FVec Ideal S4096x512 .bf16 :=
  truncf .bf16 (mulf (mulf v (broadcastInDim S4096x512 ![0, 1] bcast_S4096x1_S4096x512_0_1 (Host.rsqrt (addf (Host.divf
    (broadcastInDim S4096x1 ![0] bcast_S4096_S4096x1_0 (Host.reduceAdd (mulf v v) (constant S_ .f32 0x00000000#32)
      reducesTo_S4096x512_S4096_d1 h_S_)) (broadcastInDim S4096x1 ![] bcast_S_S4096x1 (constant S_ .f32 0x44000000#32)))
    (broadcastInDim S4096x1 ![] bcast_S_S4096x1 (constant S_ .f32 0x358637BD#32))))))
    (broadcastInDim S4096x512 ![0, 1] bcast_S1x512_S4096x512_0_1 (broadcastInDim S1x512 ![1] bcast_S512_S1x512_1
      (shapeCast _ g shapeCasts_S1x512_S512)))) bitsLt_bf16_f32

theorem ref_eq (v : FVec Ideal S4096x512 .f32) (g : FVec Ideal S1x512 .f32) : ref v g = normed v g := by
  funext j
  pointwise [ref, normed, ms]

end Cert.Proof.AttnNorm

end
-- ==== Proof.Alg7.lean ====
module

public import proofs.«01_k».proof.Defs
public import proofs.«01_k».proof.Proof.AttnNorm
public import Idealize.ShloMosaic.Lib.Claim

@[expose] public section

set_option maxRecDepth 16384

noncomputable section

namespace Cert.Proof

open Idealize.ShloMosaic Idealize.SL.Sem

theorem frame_reference7 : Cert.quiescent_Reference7Ideal := by
  intro m g _
  exact (θ_run Cert.Reference7Ideal.defs _ _).mono
    (fun r h => ⟨fun c => (h c).2, Idealize.ShloMosaic.sem_eq_zero_of_no_sems (by decide) r.2⟩)
    (Cert.Reference7Ideal.Value.run (F := Ideal) m g)

theorem algebraic_attn_norm : Cert.algebraic_Kernel7Ideal_Reference7Ideal := by
  pair_intro
  · run_from Cert.Kernel7Ideal.Gen.run_main m g
  · run_from Cert.Reference7Ideal.Value.run (F := Ideal) m' g'
    exact (AttnNorm.ref_eq _ _).trans (AttnNorm.final m c).symm

end Cert.Proof

end
-- ==== Proof.Mixed.lean ====
/- The mixer's output projection, the norm after it and the norm before the MLP: each result of the call is the reference's. -/
module

public import proofs.«01_k».proof.Proof.Gen.Kernel8Ideal.Value
public import proofs.«01_k».proof.Proof.Gen.Reference8Ideal.Run
public import proofs.«01_k».proof.Proof.Dh

@[expose] public section

set_option maxRecDepth 16384

noncomputable section

open Idealize.ShloMosaic Idealize.ShloMosaic.TcCoe Idealize.SL.Sem

namespace Cert.Proof.Mixed

open Cert.Kernel8Ideal Cert.Kernel8Ideal.Gen Cert.Proof.Norm Cert.Proof.HostNorm
open Cert.Proof.Dh (brow bgain)
open Idealize.ShloMosaic.Pipeline (Dat)

section Arrays
variable (a : FVec Ideal S4096x1024 .f32) (w : FVec Ideal S1024x1024 .f32) (x : FVec Ideal S4096x1024 .f32)
  (p q : FVec Ideal S1x1024 .f32)

/-- A row over its root mean square, times the gain. -/
def over (v g : Fin 1024 → EReal) (d : Fin 1024) : EReal := v d * Ideal.rsqrt (ms 0x44800000#32 v) * g d

/-- A row of the product, of the state after the mixer, and of that state normed. -/
def prod (r : Fin 4096) (d : Fin 1024) : EReal := ∑ k : Fin 1024, a (ix2 r k) * w (ix2 k d)
def state (r : Fin 4096) (d : Fin 1024) : EReal := x (ix2 r d) + over (prod a w r) (gain p) d
def next (r : Fin 4096) (d : Fin 1024) : EReal := over (state a w x p r) (gain q) d

/-- The three results as formulas of the arguments. -/
def out_m : FVec Ideal S4096x1024 .f32 := fun j => prod a w (j 0) (j 1)
def out_x : FVec Ideal S4096x1024 .f32 := fun j => state a w x p (j 0) (j 1)
def out_h : FVec Ideal S4096x1024 .bf16 := fun j => next a w x p q (j 0) (j 1)

end Arrays

section Payloads
variable (a : Vec Ideal S256x1024 .bf16) (w : Vec Ideal S1024x1024 .bf16) (x : Vec Ideal S256x1024 .f32) (p q : Vec Ideal S1x1024 .f32)

/-- What the body computes of its loaded blocks, row by row. -/
theorem pay_m (r : Fin 256) (d : Fin 1024) : brow (k0_pay2 a w) r d = ∑ k : Fin 1024, a (ix2 r k) * w (ix2 k d) := by
  pointwise [k0_pay2, brow]

theorem pay_x (r : Fin 256) (d : Fin 1024) :
    brow (k0_pay3 x p a w) r d = x (ix2 r d) + over (brow (k0_pay2 a w) r) (bgain p) d := by
  pointwise [k0_pay3, over, ms, brow, bgain]

theorem pay_h (r : Fin 256) (d : Fin 1024) :
    k0_pay4 x p q a w (ix2 r d) = over (brow (k0_pay3 x p a w) r) (bgain q) d := by
  pointwise [k0_pay4, over, ms, brow, bgain]

/-- Both halves of a tile compute the same of their own rows. -/
theorem half_m : k0_pay5 a w = k0_pay2 a w := rfl
theorem half_x : k0_pay6 x p a w = k0_pay3 x p a w := rfl
theorem half_h : k0_pay1 (k0_pay7 x p q a w) = k0_pay4 x p q a w := rfl

end Payloads

variable (m : (ℓ : Loc nD τ sig) → Buf (Elt Ideal) ℓ)

/-- Each window's block index: the row tile at its point, the weight and the gains whole. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The blocks' rows are the arrays' rows: row `r` of the half that begins at `o` is row `512 t + o + r`. -/
theorem prod_eq (c : Dev nD) (t : Fin cfg0.N) (o : ℕ) (h) (r : Fin 256) (R : Fin 4096) (hR : R.val = t.val * 512 + o + r.val) :
    brow (k0_pay2 (View.ld (iblk m c 0 t) (Rect.unit ![o, 0] ![256, 1024] h))
      (iblk m c 1 t)) r = prod (m ((c : Thread nD τ).loc main_arg0)) (m ((c : Thread nD τ).loc main_arg1)) R := by
  funext d
  refine (pay_m _ _ r d).trans (Fin.sum_fin_congr fun k => ?_)
  pointwise []
  blk_point [iblk, V, idx t, hR]

theorem gain_eq (c : Dev nD) (t : Fin cfg0.N) : bgain (iblk m c 3 t) = gain (m ((c : Thread nD τ).loc main_arg3)) := by
  funext d
  simp only [bgain, gain]
  pointwise []
  blk_point [iblk, V, idx t]

theorem gain_eq' (c : Dev nD) (t : Fin cfg0.N) : bgain (iblk m c 4 t) = gain (m ((c : Thread nD τ).loc main_arg4)) := by
  funext d
  simp only [bgain, gain]
  pointwise []
  blk_point [iblk, V, idx t]

theorem state_eq (c : Dev nD) (t : Fin cfg0.N) (o : ℕ) (h h2) (r : Fin 256) (R : Fin 4096)
    (hR : R.val = t.val * 512 + o + r.val) :
    brow (k0_pay3 (View.ld (iblk m c 2 t) (Rect.unit ![o, 0] ![256, 1024] h2)) (iblk m c 3 t)
      (View.ld (iblk m c 0 t) (Rect.unit ![o, 0] ![256, 1024] h)) (iblk m c 1 t)) r
      = state (m ((c : Thread nD τ).loc main_arg0)) (m ((c : Thread nD τ).loc main_arg1)) (m ((c : Thread nD τ).loc main_arg2)) (m ((c : Thread nD τ).loc main_arg3)) R := by
  funext d
  rw [pay_x, prod_eq m c t o h r R hR, gain_eq m c t, state]
  refine congrArg (· + _) ?_
  pointwise []
  blk_point [iblk, V, idx t, hR]

/-- A block's entry is the entry of its row. -/
theorem at_row {u : FVec Ideal S256x1024 .f32} {r : Fin 256} {f : Fin 1024 → EReal} {g : Fin 1024 → EReal} (hu : brow u r = f)
    {d d' : Fin 1024} (hf : f = g) (hd : d = d') : u (ix2 r d) = g d' := by
  rw [← hf, ← hu, hd]
  rfl

theorem final_m (c : Dev nD) : (dats m 0 c).arrAt 5 (cfgs 0).N = out_m (m ((c : Thread nD τ).loc main_arg0)) (m ((c : Thread nD τ).loc main_arg1)) := by
  refine (dats m 0 c).arrAt_eq_of_covers 5 _ (by decide +kernel) fun t hf y => ?_
  blk_simp
  rw [after0_5]
  frame_out
  canon_tiles x h
  all_goals
    try rw [half_m]
    rw [← ix2_eta x]
    refine at_row (prod_eq m c t _ _ _ _ ?_) rfl ?_
    all_goals
      try apply Fin.ext
      blk_simp [idx t]
      omega

theorem final_x (c : Dev nD) : (dats m 0 c).arrAt 6 (cfgs 0).N = out_x (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  canon_tiles x h
  all_goals
    try rw [half_x]
    rw [← ix2_eta x]
    refine at_row (state_eq m c t _ _ _ _ _ ?_) rfl ?_
    all_goals
      try apply Fin.ext
      blk_simp [idx t]
      omega

theorem final_h (c : Dev nD) : (dats m 0 c).arrAt 7 (cfgs 0).N
    = out_h (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  canon_tiles x h
  all_goals
    try rw [half_h]
    rw [← ix2_eta x]
    refine (pay_h _ _ _ _ _ _ _).trans ((congrArg₂ (fun v g => over v g _) (state_eq m c t _ _ _ _ _ ?_) (gain_eq' m c t)).trans (congrArg (next _ _ _ _ _ _) ?_))
    all_goals
      try apply Fin.ext
      blk_simp [idx t]
      omega

end Cert.Proof.Mixed

namespace Cert.Proof.Mixed

open Cert.Reference8Ideal Cert.Reference8Ideal.Gen Cert.Proof.Norm Cert.Proof.HostNorm
open Cert.Proof.Dh (brow bgain)

variable (a : FVec Ideal S4096x1024 .f32) (w : FVec Ideal S1024x1024 .f32) (x : FVec Ideal S4096x1024 .f32)
  (p q : FVec Ideal S1x1024 .f32)

/-- The reference's product and its other two results. -/
def hprod : FVec Ideal S4096x1024 .f32 := Host.dotGeneral dot_S4096x1024_S1024x1024_S4096x1024_1_0_0_1_n_n none a w
def hstate : FVec Ideal S4096x1024 .f32 := addf x (mulf (normed (hprod a w)) (gains p))
def hnext : FVec Ideal S4096x1024 .bf16 := truncf .bf16 (mulf (normed (hstate a w x p)) (gains q)) bitsLt_bf16_f32

theorem hprod_row (r : Fin 4096) : row (hprod a w) r = prod a w r := by
  funext d
  pointwise [row, hprod, prod]

theorem hstate_row (r : Fin 4096) : row (hstate a w x p) r = state a w x p r := by
  funext d
  refine (congrArg (fun b : EReal => x (ix2 r d) + b) (out_at (hprod a w) p (ix2 r d))).trans ?_
  simp only [ix2_0, ix2_1]
  rw [hprod_row, show hprod a w (ix2 r d) = prod a w r d from congrFun (hprod_row a w r) d]
  rfl

theorem ref_m : hprod a w = out_m a w := by
  funext j
  exact (congrArg _ (ix2_eta j).symm).trans (congrFun (hprod_row a w (j 0)) (j 1))

theorem ref_x : hstate a w x p = out_x a w x p := by
  funext j
  exact (congrArg _ (ix2_eta j).symm).trans (congrFun (hstate_row a w x p (j 0)) (j 1))

theorem hnext_at (r : Fin 4096) (d : Fin 1024) : hnext a w x p q (ix2 r d) = next a w x p q r d := by
  refine (out_at (hstate a w x p) q (ix2 r d)).trans ?_
  simp only [ix2_0, ix2_1]
  rw [hstate_row, show hstate a w x p (ix2 r d) = state a w x p r d from congrFun (hstate_row a w x p r) d]
  rfl

theorem ref_h : hnext a w x p q = out_h a w x p q := by
  funext j
  exact (congrArg _ (ix2_eta j).symm).trans (hnext_at a w x p q (j 0) (j 1))

end Cert.Proof.Mixed

end
-- ==== Proof.Alg8.lean ====
module

public import proofs.«01_k».proof.Defs
public import proofs.«01_k».proof.Proof.Mixed
public import Idealize.ShloMosaic.Lib.Claim

@[expose] public section

set_option maxRecDepth 16384

noncomputable section

namespace Cert.Proof

open Idealize.ShloMosaic Idealize.SL.Sem

theorem frame_reference8 : Cert.quiescent_Reference8Ideal := by
  intro m g _
  exact (θ_run Cert.Reference8Ideal.defs _ _).mono
    (fun r h => ⟨fun c => (h c).2.2.2, Idealize.ShloMosaic.sem_eq_zero_of_no_sems (by decide) r.2⟩)
    (Cert.Reference8Ideal.Value.run (F := Ideal) m g)

theorem algebraic_mixed : Cert.algebraic_Kernel8Ideal_Reference8Ideal := by
  pair_intro
  · run_from Cert.Kernel8Ideal.Gen.run_main m g
  · run_from Cert.Reference8Ideal.Value.run (F := Ideal) m' g'
    · exact (Mixed.ref_m _ _).trans (Mixed.final_m m c).symm
    · exact (Mixed.ref_x _ _ _ _).trans (Mixed.final_x m c).symm
    · exact (Mixed.ref_h _ _ _ _ _).trans (Mixed.final_h m c).symm

end Cert.Proof

end
-- ==== Proof.NormIn.lean ====
/- The first norm and the weights' casts that ride on it: each result of the call is the reference's. -/
module

public import proofs.«01_k».proof.Proof.Gen.Kernel9Ideal.Value
public import proofs.«01_k».proof.Proof.Gen.Reference9Ideal.Run
public import proofs.«01_k».proof.Proof.Dh

@[expose] public section

set_option maxRecDepth 16384

noncomputable section

open Idealize.ShloMosaic Idealize.ShloMosaic.TcCoe Idealize.SL.Sem

namespace Cert.Proof.NormIn

open Cert.Kernel9Ideal Cert.Kernel9Ideal.Gen Cert.Proof.Norm Cert.Proof.HostNorm
open Idealize.ShloMosaic.Pipeline (Dat)

/-- The normed row at column `d`: each entry over the row's root mean square, times the gain. -/
def out_h (v : FVec Ideal S4096x1024 .f32) (g : FVec Ideal S1x1024 .f32) : FVec Ideal S4096x1024 .bf16 := fun j =>
  v (ix2 (j 0) (j 1)) * Ideal.rsqrt (ms 0x44800000#32 (row v (j 0))) * gain g (j 1)

/-- What the body computes of its loaded blocks, at an index. -/
theorem pay_h (v : Vec Ideal S512x1024 .f32) (g : Vec Ideal S1x1024 .f32) (j : S512x1024.Idx) : k0_pay1 v g j
    = v (ix2 (j 0) (j 1)) * Ideal.rsqrt (ms 0x44800000#32 fun k : Fin 1024 => v (ix2 (j 0) k)) * g (ix2 0 (j 1)) := by
  pointwise [k0_pay1, ms]

variable (m : (ℓ : Loc nD τ sig) → Buf (Elt Ideal) ℓ)

/-- Each window's block index: the row tile of each array at its point, the gain whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem final_h (c : Dev nD) : (dats m 0 c).arrAt 5 (cfgs 0).N = out_h (m ((c : Thread nD τ).loc main_arg0)) (m ((c : Thread nD τ).loc main_arg1)) := by
  refine (dats m 0 c).arrAt_eq_of_covers 5 _ (by decide +kernel) fun t hf y => ?_
  blk_simp
  rw [after0_5]
  frame_out
  refine (pay_h _ _ _).trans ?_
  refine congrArg₂ (· * ·) (congrArg₂ (· * ·) ?_ (congrArg (fun f => Ideal.rsqrt (ms _ f)) (funext fun k => ?_))) ?_
  all_goals
    try simp only [row, gain]
    blk_point [iblk, V, idx t]

theorem final_out (c : Dev nD) : (dats m 0 c).arrAt 6 (cfgs 0).N = (fun j => (m ((c : Thread nD τ).loc main_arg2)) j : FVec Ideal S256x1024 .bf16) := by
  refine (dats m 0 c).arrAt_eq_of_covers 6 _ (by decide +kernel) fun t hf y => ?_
  blk_simp
  rw [after0_6]
  frame_out
  pointwise [k0_pay2]
  blk_point [iblk, V, idx t]

theorem final_first (c : Dev nD) : (dats m 0 c).arrAt 7 (cfgs 0).N = (fun j => (m ((c : Thread nD τ).loc main_arg3)) j : FVec Ideal S1024x1024 .bf16) := by
  refine (dats m 0 c).arrAt_eq_of_covers 7 _ (by decide +kernel) fun t hf y => ?_
  blk_simp
  rw [after0_7]
  frame_out
  pointwise [k0_pay3]
  blk_point [iblk, V, idx t]

theorem final_second (c : Dev nD) : (dats m 0 c).arrAt 8 (cfgs 0).N = (fun j => (m ((c : Thread nD τ).loc main_arg4)) j : FVec Ideal S1024x1024 .bf16) := by
  refine (dats m 0 c).arrAt_eq_of_covers 8 _ (by decide +kernel) fun t hf y => ?_
  blk_simp
  rw [after0_8]
  frame_out
  pointwise [k0_pay4]
  blk_point [iblk, V, idx t]

end Cert.Proof.NormIn

namespace Cert.Proof.NormIn

open Cert.Reference9Ideal Cert.Reference9Ideal.Gen Cert.Proof.Norm Cert.Proof.HostNorm

variable (v : FVec Ideal S4096x1024 .f32) (g : FVec Ideal S1x1024 .f32)

/-- The reference's normed rows. -/
def hnorm : FVec Ideal S4096x1024 .bf16 := truncf .bf16 (mulf (normed v) (gains g)) bitsLt_bf16_f32

theorem ref_h : hnorm v g = out_h v g := by
  funext j
  exact (out_at v g j).trans (congrArg (fun i => v i * _ * _) (ix2_eta j).symm)

/-- A cast keeps each value. -/
theorem ref_cast {s : Shape} (w : FVec Ideal s .f32) : truncf .bf16 w bitsLt_bf16_f32 = (fun j => w j : FVec Ideal s .bf16) := rfl

end Cert.Proof.NormIn

end
-- ==== Proof.Alg9.lean ====
module

public import proofs.«01_k».proof.Defs
public import proofs.«01_k».proof.Proof.NormIn
public import Idealize.ShloMosaic.Lib.Claim

@[expose] public section

set_option maxRecDepth 16384

noncomputable section

namespace Cert.Proof

open Idealize.ShloMosaic Idealize.SL.Sem

theorem frame_reference9 : Cert.quiescent_Reference9Ideal := by
  intro m g _
  exact (θ_run Cert.Reference9Ideal.defs _ _).mono
    (fun r h => ⟨fun c => (h c).2.2.2.2, Idealize.ShloMosaic.sem_eq_zero_of_no_sems (by decide) r.2⟩)
    (Cert.Reference9Ideal.Value.run (F := Ideal) m g)

theorem algebraic_norm_in : Cert.algebraic_Kernel9Ideal_Reference9Ideal := by
  pair_intro
  · run_from Cert.Kernel9Ideal.Gen.run_main m g
  · run_from Cert.Reference9Ideal.Value.run (F := Ideal) m' g'
    · exact (NormIn.ref_h _ _).trans (NormIn.final_h m c).symm
    · exact (NormIn.ref_cast _).trans (NormIn.final_out m c).symm
    · exact (NormIn.ref_cast _).trans (NormIn.final_first m c).symm
    · exact (NormIn.ref_cast _).trans (NormIn.final_second m c).symm

end Cert.Proof

end
-- ==== Proof.Proj.lean ====
/- The input projection: the product, block by block. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.Proj

open Cert.Kernel10Ideal Cert.Kernel10Ideal.Gen
open Idealize.ShloMosaic.Pipeline (Dat)

/-- The product at row `r` and column `d`. -/
def prod (h : FVec Ideal S4096x1024 .f32) (w : FVec Ideal S1024x3584 .f32) : FVec Ideal S4096x3584 .f32 := fun j =>
  ∑ k : Fin 1024, h (ix2 (j 0) k) * w (ix2 k (j 1))

variable (m : (ℓ : Loc nD τ sig) → Buf (Elt Ideal) ℓ)

/-- Each window's block index: the output's columns advance every fourth point, its rows at every point. -/
theorem idx : ∀ t : Fin cfg0.N, win0_0.index t = ![0, 0] ∧ win0_1.index t = ![t.val / 4, 0, 0]
    ∧ win0_2.index t = ![t.val % 4, t.val / 4] :=
  (by decide +kernel : ∀ t : Fin grid0.N, _)

/-- The row at which each of the body's two loads of the rows begins. -/
theorem off : ∀ t : Fin cfg0.N, k0_off1 (grid0.coords t) 0#32 = ![t.val % 4 * 1024, 0]
    ∧ k0_off1 (grid0.coords t) 512#32 = ![t.val % 4 * 1024 + 512, 0] :=
  (by decide +kernel : ∀ t : Fin grid0.N, _)

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have o0 := congrFun (off t).1
  have o1 := congrFun (off t).2
  canon_tiles x h
  all_goals
    pointwise [k0_pay1, k0_pay2, prod]
    refine Fin.sum_fin_congr fun k => ?_
    blk_point [iblk, V, idx t, o0, o1]

end Cert.Proof.Proj

namespace Cert.Proof.Proj

open Cert.Reference10Ideal Cert.Reference10Ideal.Gen

/-- The reference's composed term. -/
def ref (h : FVec Ideal S4096x1024 .f32) (w : FVec Ideal S1024x3584 .f32) : FVec Ideal S4096x3584 .f32 :=
  Host.dotGeneral dot_S4096x1024_S1024x3584_S4096x3584_1_0_0_1_n_n none h w

theorem ref_eq (h : FVec Ideal S4096x1024 .f32) (w : FVec Ideal S1024x3584 .f32) : ref h w = prod h w := by
  funext j
  pointwise [ref, prod]

end Cert.Proof.Proj

end
-- ==== Proof.Alg10.lean ====
module

public import proofs.«01_k».proof.Defs
public import proofs.«01_k».proof.Proof.Proj
public import Idealize.ShloMosaic.Lib.Claim

@[expose] public section

set_option maxRecDepth 16384

noncomputable section

namespace Cert.Proof

open Idealize.ShloMosaic Idealize.SL.Sem

theorem frame_reference10 : Cert.quiescent_Reference10Ideal := by
  intro m g _
  exact (θ_run Cert.Reference10Ideal.defs _ _).mono
    (fun r h => ⟨fun c => (h c).2, Idealize.ShloMosaic.sem_eq_zero_of_no_sems (by decide) r.2⟩)
    (Cert.Reference10Ideal.Value.run (F := Ideal) m g)

theorem algebraic_proj : Cert.algebraic_Kernel10Ideal_Reference10Ideal := by
  pair_intro
  · run_from Cert.Kernel10Ideal.Gen.run_main m g
  · run_from Cert.Reference10Ideal.Value.run (F := Ideal) m' g'
    exact (Proj.ref_eq _ _).trans (Proj.final m c).symm

end Cert.Proof

end
-- ==== Proof.Wgrad.lean ====
/- A weight gradient: the product over the rows, one block of columns per point, in both formats. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.Wgrad

open Cert.Kernel11Ideal Cert.Kernel11Ideal.Gen
open Idealize.ShloMosaic.Pipeline (Dat)

section Arrays
variable (a : FVec Ideal S4096x1024 .f32) (b : FVec Ideal S4096x4096 .f32)

/-- The product over the rows at weight row `r` and column `d` of block `n`; the two results are it in either format. -/
def prod (n : Fin 4) (r d : Fin 1024) : EReal := ∑ k : Fin 4096, a (ix2 k r) * b (ix2 k ⟨n.val * 1024 + d.val, by omega⟩)
def wide : FVec Ideal S4x1024x1024 .f32 := fun j => prod a b (j 0) (j 1) (j 2)
def narrow : FVec Ideal S4x1024x1024 .bf16 := fun j => prod a b (j 0) (j 1) (j 2)

end Arrays

variable (m : (ℓ : Loc nD τ sig) → Buf (Elt Ideal) ℓ)

/-- Each window's block index: the left operand whole, the right one's columns and the outputs' blocks at their points. -/
theorem idx : ∀ t : Fin cfg0.N, win0_0.index t = ![0, 0] ∧ win0_1.index t = ![0, t.val]
    ∧ win0_2.index t = ![t.val, 0, 0] ∧ win0_3.index t = ![t.val, 0, 0] :=
  (by decide +kernel : ∀ t : Fin grid0.N, _)

theorem final_wide (c : Dev nD) : (dats m 0 c).arrAt 2 (cfgs 0).N = wide (m ((c : Thread nD τ).loc main_arg0)) (m ((c : Thread nD τ).loc main_arg1)) := by
  refine (dats m 0 c).arrAt_eq_of_covers 2 _ (by decide +kernel) fun t hf y => ?_
  blk_simp
  rw [after0_2]
  frame_out
  canon_tiles x h
  all_goals
    pointwise [k0_pay1, k0_pay2, k0_pay4, k0_pay5, wide, prod]
    refine Fin.sum_fin_congr fun k => ?_
    blk_point [iblk, V, idx t]

theorem final_narrow (c : Dev nD) : (dats m 0 c).arrAt 3 (cfgs 0).N = narrow (m ((c : Thread nD τ).loc main_arg0)) (m ((c : Thread nD τ).loc main_arg1)) := by
  refine (dats m 0 c).arrAt_eq_of_covers 3 _ (by decide +kernel) fun t hf y => ?_
  blk_simp
  rw [after0_3]
  frame_out
  canon_tiles x h
  all_goals
    pointwise [k0_pay1, k0_pay3, k0_pay4, k0_pay6, narrow, prod]
    refine Fin.sum_fin_congr fun k => ?_
    blk_point [iblk, V, idx t]

end Cert.Proof.Wgrad

namespace Cert.Proof.Wgrad

open Cert.Reference11Ideal Cert.Reference11Ideal.Gen

variable (a : FVec Ideal S4096x1024 .f32) (b : FVec Ideal S4096x4096 .f32)

/-- The reference's two results. -/
def hwide : FVec Ideal S4x1024x1024 .f32 := transpose S4x1024x1024 [1, 0, 2] (shapeCast _ (Host.dotGeneral
  dot_S1024x4096_S4096x4096_S1024x4096_1_0_0_1_n_n none (transpose S1024x4096 [1, 0] a transposes_S4096x1024_S1024x4096_1_0) b)
  shapeCasts_S1024x4096_S1024x4x1024) transposes_S1024x4x1024_S4x1024x1024_1_0_2
def hnarrow : FVec Ideal S4x1024x1024 .bf16 := truncf .bf16 (hwide a b) bitsLt_bf16_f32

theorem ref_wide : hwide a b = wide a b := by
  funext j
  pointwise [hwide, wide, prod]

theorem ref_narrow : hnarrow a b = narrow a b := by
  funext j
  pointwise [hnarrow, hwide, narrow, prod]

end Cert.Proof.Wgrad

end
-- ==== Proof.Alg11.lean ====
module

public import proofs.«01_k».proof.Defs
public import proofs.«01_k».proof.Proof.Wgrad
public import Idealize.ShloMosaic.Lib.Claim

@[expose] public section

set_option maxRecDepth 16384

noncomputable section

namespace Cert.Proof

open Idealize.ShloMosaic Idealize.SL.Sem

theorem frame_reference11 : Cert.quiescent_Reference11Ideal := by
  intro m g _
  exact (θ_run Cert.Reference11Ideal.defs _ _).mono
    (fun r h => ⟨fun c => (h c).2.2, Idealize.ShloMosaic.sem_eq_zero_of_no_sems (by decide) r.2⟩)
    (Cert.Reference11Ideal.Value.run (F := Ideal) m g)

theorem algebraic_wgrad : Cert.algebraic_Kernel11Ideal_Reference11Ideal := by
  pair_intro
  · run_from Cert.Kernel11Ideal.Gen.run_main m g
  · run_from Cert.Reference11Ideal.Value.run (F := Ideal) m' g'
    · exact (Wgrad.ref_wide _ _).trans (Wgrad.final_wide m c).symm
    · exact (Wgrad.ref_narrow _ _).trans (Wgrad.final_narrow m c).symm

end Cert.Proof

end
-- ==== Proof.Adam.lean ====
/- The optimiser's step: the update and both moments, block by block. -/
module

public import proofs.«01_k».proof.Proof.Gen.Kernel12Ideal.Value
public import proofs.«01_k».proof.Proof.Gen.Reference12Ideal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.Adam

open Cert.Kernel12Ideal Cert.Kernel12Ideal.Gen
open Idealize.ShloMosaic.Pipeline (Dat)

section Arrays
variable (w g m v : FVec Ideal S1024x1024 .f32)

/-- The two moments, and the update, as formulas of the weight, its gradient and the moments before. -/
def first : FVec Ideal S1024x1024 .f32 := fun j => Ideal.ofBits .f32 0x3F666666#32 * m j + Ideal.ofBits .f32 0x3DCCCCCD#32 * g j
def second : FVec Ideal S1024x1024 .f32 := fun j =>
  Ideal.ofBits .f32 0x3F7FBE77#32 * v j + Ideal.ofBits .f32 0x3A83126F#32 * (g j * g j)
def update : FVec Ideal S1024x1024 .f32 := fun j => Ideal.ofBits .f32 0xBA83126F#32
  * (Ideal.div (Ideal.div (first g m j) (Ideal.ofBits .f32 0x3F26BD02#32))
      (Ideal.sqrt (Ideal.div (second g v j) (Ideal.ofBits .f32 0x3C231ACC#32)) + Ideal.ofBits .f32 0x322BCC77#32)
    + Ideal.ofBits .f32 0x3C23D70A#32 * w j)

end Arrays

variable (m : (ℓ : Loc nD τ sig) → Buf (Elt Ideal) ℓ)

/-- Each window's block index: the row tile at its point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem final_update (c : Dev nD) : (dats m 0 c).arrAt 4 (cfgs 0).N
    = update (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, update, first, second]
  blk_point [iblk, V, idx t]

theorem final_first (c : Dev nD) : (dats m 0 c).arrAt 5 (cfgs 0).N = first (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, first]
  blk_point [iblk, V, idx t]

theorem final_second (c : Dev nD) : (dats m 0 c).arrAt 6 (cfgs 0).N = second (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay2, second]
  blk_point [iblk, V, idx t]

end Cert.Proof.Adam

namespace Cert.Proof.Adam

open Cert.Reference12Ideal Cert.Reference12Ideal.Gen

variable (w g m v : FVec Ideal S1024x1024 .f32)

/-- The reference's three results; `every` is a scalar in every entry. -/
def every (b : BitVec 32) : FVec Ideal S1024x1024 .f32 := broadcastInDim S1024x1024 ![] bcast_S_S1024x1024 (constant S_ .f32 b)
def hfirst : FVec Ideal S1024x1024 .f32 := addf (mulf (every 0x3F666666#32) m) (mulf (every 0x3DCCCCCD#32) g)
def hsecond : FVec Ideal S1024x1024 .f32 := addf (mulf (every 0x3F7FBE77#32) v) (mulf (every 0x3A83126F#32) (mulf g g))
def hupdate : FVec Ideal S1024x1024 .f32 := mulf (every 0xBA83126F#32) (addf (Host.divf
  (Host.divf (hfirst g m) (every 0x3F26BD02#32)) (addf (Host.sqrt (Host.divf (hsecond g v) (every 0x3C231ACC#32))) (every 0x322BCC77#32)))
  (mulf (every 0x3C23D70A#32) w))

theorem ref_first : hfirst g m = first g m := by
  funext j
  pointwise [hfirst, every, first]

theorem ref_second : hsecond g v = second g v := by
  funext j
  pointwise [hsecond, every, second]

theorem ref_update : hupdate w g m v = update w g m v := by
  funext j
  pointwise [hupdate, hfirst, hsecond, every, update, first, second]

end Cert.Proof.Adam

end
-- ==== Proof.Alg12.lean ====
module

public import proofs.«01_k».proof.Defs
public import proofs.«01_k».proof.Proof.Adam
public import Idealize.ShloMosaic.Lib.Claim

@[expose] public section

set_option maxRecDepth 16384

noncomputable section

namespace Cert.Proof

open Idealize.ShloMosaic Idealize.SL.Sem

theorem frame_reference12 : Cert.quiescent_Reference12Ideal := by
  intro m g _
  exact (θ_run Cert.Reference12Ideal.defs _ _).mono
    (fun r h => ⟨fun c => (h c).2.2.2, Idealize.ShloMosaic.sem_eq_zero_of_no_sems (by decide) r.2⟩)
    (Cert.Reference12Ideal.Value.run (F := Ideal) m g)

theorem algebraic_adam : Cert.algebraic_Kernel12Ideal_Reference12Ideal := by
  pair_intro
  · run_from Cert.Kernel12Ideal.Gen.run_main m g
  · run_from Cert.Reference12Ideal.Value.run (F := Ideal) m' g'
    · exact (Adam.ref_update _ _ _ _).trans (Adam.final_update m c).symm
    · exact (Adam.ref_first _ _).trans (Adam.final_first m c).symm
    · exact (Adam.ref_second _ _).trans (Adam.final_second m c).symm

end Cert.Proof

end
-- ==== Proof.Hgrn.lean ====
/- The gated recurrence over the reals: gates, decays, the state before every chunk and the outputs of a chunk. -/
module

public import proofs.«01_k».proof.Proof.Norm

@[expose] public section

noncomputable section

open Idealize.ShloMosaic

namespace Cert.Proof.Hgrn

open Cert.Proof.Norm

/-- The logistic function. -/
def σ (y : ℝ) : ℝ := 1 / (1 + Real.exp (-y))

theorem σ_pos (y : ℝ) : 0 < σ y := by unfold σ; positivity

theorem σ_lt_one (y : ℝ) : σ y < 1 := by
  unfold σ
  rw [div_lt_one (by positivity)]
  linarith [Real.exp_pos (-y)]

/-- An array's entries as real numbers, zero outside the array. -/
def re {M N : ℕ} (x : FVec Ideal ⟨2, ![M, N]⟩ .f32) (r c : ℕ) : ℝ :=
  if h : r < M ∧ c < N then (x (ix2 ⟨r, h.1⟩ ⟨c, h.2⟩)).toReal else 0

theorem re_at {M N : ℕ} {x : FVec Ideal ⟨2, ![M, N]⟩ .f32} (hx : ∀ i, Real (x i)) (r : Fin M) (c : Fin N) :
    x (ix2 r c) = (re x r.val c.val : EReal) := by
  obtain ⟨y, hy⟩ := hx (ix2 r c)
  rw [re, dif_pos ⟨r.isLt, c.isLt⟩, hy]
  rfl

section Recurrence

variable (X L : ℕ → ℕ → ℝ)

/-- The lower bound of a channel's forget gate. -/
def lb (c : ℕ) : ℝ := 1 / (1 + Real.exp (L 1 c - L 0 c))

theorem lb_pos (c : ℕ) : 0 < lb L c := by unfold lb; positivity

theorem lb_lt_one (c : ℕ) : lb L c < 1 := by
  unfold lb
  rw [div_lt_one (by positivity)]
  linarith [Real.exp_pos (L 1 c - L 0 c)]

/-- The query. -/
def q (r c : ℕ) : ℝ := X r (1536 + c) * σ (X r (1536 + c))

/-- The forget gate. -/
def f (r c : ℕ) : ℝ := lb L c + (1 - lb L c) * σ (X r (2048 + c))

theorem f_pos (r c : ℕ) : 0 < f X L r c := by
  have h1 := lb_pos L c
  have h2 := lb_lt_one L c
  have h3 := σ_pos (X r (2048 + c))
  unfold f
  have := mul_pos (sub_pos.mpr h2) h3
  linarith

/-- The key. -/
def k (r c : ℕ) : ℝ := 1 - f X L r c

/-- The value. -/
def v (r c : ℕ) : ℝ := X r (2560 + c)

/-- The running sum of the gate's logarithm inside chunk `n`. -/
def b (n t c : ℕ) : ℝ := ∑ s : Fin 64, if s.val ≤ t then Real.log (f X L (64 * n + s.val) c) else 0

/-- The state before chunk `n`: value `d` against channel `c`. -/
def state : ℕ → ℕ → ℕ → ℝ
  | 0 => fun _ _ => 0
  | n + 1 => fun d c => state n d c * Real.exp (b X L n 63 c)
      + ∑ s : Fin 64, v X (64 * n + s.val) (c / 128 * 128 + d)
        * (k X L (64 * n + s.val) c * Real.exp (b X L n 63 c - b X L n s.val c))

/-- How much row `s` of a chunk weighs at row `t`, in the head that starts at channel `h`. -/
def weight (n t s h : ℕ) : ℝ :=
  if s ≤ t then ∑ i : Fin 128, q X (64 * n + t) (h + i.val) * k X L (64 * n + s) (h + i.val)
    * Real.exp (b X L n t (h + i.val) - b X L n s (h + i.val)) else 0

/-- The output of row `t` of chunk `n`: value `d` of the head that starts at channel `h`. -/
def out (n t h d : ℕ) : ℝ :=
  ∑ i : Fin 128, q X (64 * n + t) (h + i.val) * Real.exp (b X L n t (h + i.val)) * state X L n d (h + i.val)
    + ∑ s : Fin 64, weight X L n t s.val h * v X (64 * n + s.val) (h + d)

end Recurrence

/-! ## The operations on real numbers -/

theorem div_real {x y : ℝ} (hy : y ≠ 0) : Ideal.div (x : EReal) (y : EReal) = ((x / y : ℝ) : EReal) := by
  rw [Ideal.div_coe hy, ← EReal.coe_mul, mul_one_div]

theorem log_real {x : ℝ} (hx : 0 < x) : Ideal.log (x : EReal) = (Real.log x : EReal) := by
  rw [Ideal.log_coe, if_neg (not_le.mpr hx)]

theorem word_128 : Ideal.ofBits .f32 0x43000000#32 = ((128 : ℝ) : EReal) := by
  simp [Ideal.ofBits, Ideal.ieee, -EReal.coe_mul]; norm_num

theorem word_neg_inf : Ideal.ofBits .f32 0xFF800000#32 = (⊥ : EReal) := by
  simp [Ideal.ofBits, Ideal.ieee]

/-- The logistic function as both programs write it. -/
theorem logistic_real (y : ℝ) :
    Ideal.div 1 (1 + Ideal.exp (-(y : EReal))) = (σ y : EReal) := by
  rw [← EReal.coe_neg, Ideal.exp_coe, ← EReal.coe_one, ← EReal.coe_add, div_real (by positivity)]
  rfl

/-- `log (e^x + e^y)` as the host writes it. -/
theorem logaddexp_real (x y : ℝ) :
    max (x : EReal) y + Ideal.log1p (Ideal.exp (-(max ((x : EReal) - y) (-((x : EReal) - y)))))
      = (Real.log (Real.exp x + Real.exp y) : EReal) := by
  have key : ∀ {a c : ℝ}, c ≤ a → (a : EReal) + Ideal.log (1 + Ideal.exp (-((a - c : ℝ) : EReal)))
      = (Real.log (Real.exp a + Real.exp c) : EReal) := by
    intro a c _
    rw [← EReal.coe_neg, Ideal.exp_coe, ← EReal.coe_one, ← EReal.coe_add, log_real (by positivity), ← EReal.coe_add]
    congr 1
    rw [show Real.exp a + Real.exp c = Real.exp a * (1 + Real.exp (-(a - c))) by
      rw [mul_add, mul_one, ← Real.exp_add]; congr 2; ring]
    rw [Real.log_mul (by positivity) (by positivity), Real.log_exp]
  unfold Ideal.log1p
  rw [← EReal.coe_sub, ← EReal.coe_neg]
  rcases le_total y x with h | h
  · rw [max_eq_left (EReal.coe_le_coe_iff.mpr h), max_eq_left (EReal.coe_le_coe_iff.mpr (by linarith))]
    exact key h
  · rw [max_eq_right (EReal.coe_le_coe_iff.mpr h), max_eq_right (EReal.coe_le_coe_iff.mpr (by linarith)), add_comm (Real.exp x),
      show -(x - y) = y - x by ring]
    exact key h

/-- The logarithm of the forget gate as the problem writes it. -/
theorem log_gate {l : ℝ} (h0 : 0 < l) (h1 : l < 1) (y : ℝ) :
    Real.log (Real.exp (Real.log l) + Real.exp (Real.log (1 - l) + -Real.log (Real.exp (-y) + Real.exp 0)))
      = Real.log (l + (1 - l) * σ y) := by
  have h2 : 0 < 1 - l := by linarith
  rw [Real.exp_log h0, Real.exp_add, Real.exp_log h2, Real.exp_neg, Real.exp_log (by positivity), Real.exp_zero, σ, one_div,
    add_comm (Real.exp (-y))]

/-- A softmax of two numbers, first of them, over any shift. -/
theorem softmax_real (x y z : ℝ) :
    Real.exp (x - z) / (Real.exp (x - z) + Real.exp (y - z)) = 1 / (1 + Real.exp (y - x)) := by
  rw [div_eq_div_iff (by positivity) (by positivity), mul_add, one_mul, mul_one, ← Real.exp_add]
  congr 2
  ring

end Cert.Proof.Hgrn

end
-- ==== Proof.HgrnWin.lean ====
/- Running sums: a float sum over windows that reach back to the first row, read as a sum over the rows up to one. -/
module

public import proofs.«01_k».proof.Proof.Hgrn

@[expose] public section

set_option maxRecDepth 16384

noncomputable section

open Idealize.ShloMosaic

namespace Cert.Proof.HgrnWin

theorem foldl_sum {n : ℕ} (F : Fin n → EReal) (v : EReal) : (List.finRange n).foldl (fun r i => r + F i) v = v + ∑ i, F i := by
  have e : ∀ (l : List (Fin n)) (v : EReal), l.foldl (fun r i => r + F i) v = v + (l.map F).sum := by
    intro l
    induction l with
    | nil => intro v; simp
    | cons a l ih => intro v; rw [List.foldl_cons, ih, List.map_cons, List.sum_cons, add_assoc]
  rw [e, Fin.sum_univ_def]

/-- A float sum over windows as a sum over the window's own indices. -/
theorem window_sum {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = init (Shape.Idx.first hu)
      + ∑ p : (⟨s.rank, window⟩ : Shape).Idx,
        (if hin : ∀ a, lo a ≤ (j (a.cast h.1.symm)).val * strides a + (p a).val
            ∧ (j (a.cast h.1.symm)).val * strides a + (p a).val - lo a < s.size a
          then x (fun a => ⟨(j (a.cast h.1.symm)).val * strides a + (p a).val - lo a, (hin a).2⟩) else init (Shape.Idx.first hu)) := by
  refine (foldl_sum _ _).trans (congrArg _ ?_)
  refine Eq.trans (Finset.sum_congr rfl fun n _ => ?_) (Equiv.sum_comp (⟨s.rank, window⟩ : Shape).rowMajor.symm _)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans ?_
    symm
    exact dif_pos hin
  · refine (dif_neg hin).trans ?_
    symm
    exact dif_neg hin

/-- A sum over the 64 places of a window that ends at row `t` is the sum over the rows up to `t`. -/
theorem sum_back (g : Fin 64 → EReal) (t : Fin 64) :
    (∑ w : Fin 64, if h : 63 ≤ t.val + w.val then g ⟨t.val + w.val - 63, by omega⟩ else 0)
      = ∑ s : Fin 64, if s.val ≤ t.val then g s else 0 := by
  have e : ∀ w : Fin 64, (if h : 63 ≤ t.val + w.val then g ⟨t.val + w.val - 63, by omega⟩ else 0)
      = if 63 ≤ t.val + w.val then g ⟨t.val + w.val - 63, by omega⟩ else 0 := fun w => by split <;> rfl
  rw [Finset.sum_congr rfl fun w _ => e w, ← Finset.sum_filter, ← Finset.sum_filter]
  refine Finset.sum_bij' (fun w _ => ⟨t.val + w.val - 63, by omega⟩)
    (fun s hs => ⟨63 + s.val - t.val, by have := (Finset.mem_filter.mp hs).2; omega⟩) ?_ ?_ ?_ ?_ ?_
  · intro w hw
    exact Finset.mem_filter.mpr ⟨Finset.mem_univ _, by show t.val + w.val - 63 ≤ t.val; omega⟩
  · intro s hs
    have := (Finset.mem_filter.mp hs).2
    exact Finset.mem_filter.mpr ⟨Finset.mem_univ _, by show 63 ≤ t.val + (63 + s.val - t.val); omega⟩
  · intro w hw
    have := (Finset.mem_filter.mp hw).2
    exact Fin.ext (by show 63 + (t.val + w.val - 63) - t.val = w.val; omega)
  · intro s hs
    have := (Finset.mem_filter.mp hs).2
    exact Fin.ext (by show t.val + (63 + s.val - t.val) - 63 = s.val; omega)
  · intro w hw
    rfl

/-- The running sum along the rows of a chunk. -/
theorem sums_at (g : FVec Ideal ⟨4, ![1, 4, 64, 128]⟩ .f32) (init : FVec Ideal ⟨0, ![]⟩ .f32) (hu : 0 < (⟨0, ![]⟩ : Shape).numel)
    (h : (⟨4, ![1, 4, 64, 128]⟩ : Shape).ReduceWindows ![1, 1, 64, 1] ![1, 1, 1, 1] ![0, 0, 63, 0] ![0, 0, 0, 0] ⟨4, ![1, 4, 64, 128]⟩)
    (h0 : init (Shape.Idx.first hu) = 0) (a : Fin 1) (b : Fin 4) (t : Fin 64) (i : Fin 128) :
    Host.reduceWindowAdd (s := ⟨4, ![1, 4, 64, 128]⟩) (t := ⟨4, ![1, 4, 64, 128]⟩) ![1, 1, 64, 1] ![1, 1, 1, 1] ![0, 0, 63, 0] ![0, 0, 0, 0]
      g init h hu (ix4 a b t i) = ∑ s : Fin 64, if s.val ≤ t.val then g (ix4 a b s i) else 0 := by
  rw [window_sum, h0, zero_add]
  refine (sum_idx4 (n0 := 1) (n1 := 1) (n2 := 64) (n3 := 1) _).trans ?_
  rw [← sum_back (fun s => g (ix4 a b s i)) t]
  simp only [Fin.sum_univ_one, Finset.univ_unique, Finset.sum_singleton]
  refine Finset.sum_congr rfl fun w _ => ?_
  by_cases hw : 63 ≤ t.val + w.val
  · rw [dif_pos hw, dif_pos (show _ from fun k => by
      fin_cases k
      · exact ⟨Nat.zero_le _, by show a.val * 1 + 0 - 0 < 1; omega⟩
      · exact ⟨Nat.zero_le _, by show b.val * 1 + 0 - 0 < 4; omega⟩
      · exact ⟨by show 63 ≤ t.val * 1 + w.val; omega, by show t.val * 1 + w.val - 63 < 64; omega⟩
      · exact ⟨Nat.zero_le _, by show i.val * 1 + 0 - 0 < 128; omega⟩)]
    refine congrArg g (funext fun k => Fin.ext ?_)
    fin_cases k
    · show a.val * 1 + 0 - 0 = a.val; omega
    · show b.val * 1 + 0 - 0 = b.val; omega
    · show t.val * 1 + w.val - 63 = t.val + w.val - 63; omega
    · show i.val * 1 + 0 - 0 = i.val; omega
  · rw [dif_neg hw, dif_neg (fun hin => hw (by have := (hin (2 : Fin 4)).1; change 63 ≤ t.val * 1 + w.val at this; omega))]

/-- The first row of a running sum along two rows. -/
theorem first_at (g : FVec Ideal ⟨2, ![2, 512]⟩ .f32) (init : FVec Ideal ⟨0, ![]⟩ .f32) (hu : 0 < (⟨0, ![]⟩ : Shape).numel)
    (h : (⟨2, ![2, 512]⟩ : Shape).ReduceWindows ![2, 1] ![1, 1] ![1, 0] ![0, 0] ⟨2, ![2, 512]⟩)
    (h0 : init (Shape.Idx.first hu) = 0) (c : Fin 512) :
    Host.reduceWindowAdd (s := ⟨2, ![2, 512]⟩) (t := ⟨2, ![2, 512]⟩) ![2, 1] ![1, 1] ![1, 0] ![0, 0] g init h hu (ix2 0 c) = g (ix2 0 c) := by
  rw [window_sum, h0, zero_add]
  refine (sum_idx2 (n0 := 2) (n1 := 1) _).trans ?_
  simp only [Fin.sum_univ_one, Fin.sum_univ_two, Finset.univ_unique, Finset.sum_singleton]
  rw [dif_neg (fun hin => by have := (hin (0 : Fin 2)).1; change 1 ≤ 0 * 1 + 0 at this; omega), zero_add, dif_pos (show _ from fun k => by
      fin_cases k
      · exact ⟨by show 1 ≤ 0 * 1 + 1; omega, by show 0 * 1 + 1 - 1 < 2; omega⟩
      · exact ⟨Nat.zero_le _, by show c.val * 1 + 0 - 0 < 512; omega⟩)]
  refine congrArg g (funext fun k => Fin.ext ?_)
  fin_cases k
  · rfl
  · show c.val * 1 + 0 - 0 = c.val; omega

end Cert.Proof.HgrnWin

end
-- ==== Proof.HgrnGate.lean ====
/- The gated recurrence's reference before its loop: lower bounds, gates, keys, queries and values, on real numbers. -/
module

public import proofs.«01_k».proof.Proof.Gen.Reference13Ideal.Run
public import Idealize.ShloMosaic.Lib.Pointwise
public import proofs.«01_k».proof.Proof.HgrnWin

@[expose] public section

set_option maxRecDepth 16384

noncomputable section

open Idealize.ShloMosaic Idealize.ShloMosaic.TcCoe Idealize.SL.Sem

namespace Cert.Proof.HgrnGate

open Cert.Reference13Ideal Cert.Reference13Ideal.Gen Cert.Proof.Norm Cert.Proof.Hgrn Cert.Proof.HgrnWin

section Terms

variable (x : FVec Ideal S4096x3584 .f32) (l : FVec Ideal S2x512 .f32)

/-- The exponentials of the logits, shifted by their larger one. -/
def hexp : FVec Ideal S2x512 .f32 :=
  Host.exp (subf l (broadcastInDim S2x512 ![0, 1] bcast_S1x512_S2x512_0_1 (broadcastInDim S1x512 ![1] bcast_S512_S1x512_1
    (maximumf (broadcastInDim S512 ![] bcast_S_S512 (constant S_ .f32 0xFF800000#32))
      (Host.reduce FloatOps.maximumf l (constant S_ .f32 0xFF800000#32) reducesTo_S2x512_S512_d0 h_S_)))))

/-- The softmax over the two rows. -/
def hsoft : FVec Ideal S2x512 .f32 :=
  Host.divf (hexp l) (broadcastInDim S2x512 ![0, 1] bcast_S1x512_S2x512_0_1 (broadcastInDim S1x512 ![1] bcast_S512_S1x512_1
    (Host.reduceAdd (hexp l) (constant S_ .f32 0x00000000#32) reducesTo_S2x512_S512_d0 h_S_)))

/-- The lower bounds. -/
def hlow : FVec Ideal S4x128 .f32 :=
  shapeCast S4x128 (shapeCast S512 (extractStridedSlice S1x512 ![0, 0] (Host.reduceWindowAdd ![2, 1] ![1, 1] ![1, 0] ![0, 0] (hsoft l)
    (broadcastInDim S_ ![] bcast_S_S_ (constant S_ .f32 0x00000000#32)) reduceWindows_S2x512_S2x512_w2s1p1_0_w1s1p0_0 h_S_)
    slices_S2x512_S1x512_0_0) shapeCasts_S1x512_S512) shapeCasts_S512_S4x128

/-- The logistic unit. -/
def hsilu (y : FVec Ideal S4096x512 .f32) : FVec Ideal S4096x512 .f32 :=
  mulf y (Host.divf (broadcastInDim S4096x512 ![] bcast_S_S4096x512 (constant S_ .f32 0x3F800000#32))
    (addf (broadcastInDim S4096x512 ![] bcast_S_S4096x512 (constant S_ .f32 0x3F800000#32)) (Host.exp (Host.negf y))))

/-- `log (e^y + e^z)`, entry by entry. -/
def hlae (y z : FVec Ideal S1x4096x4x128 .f32) : FVec Ideal S1x4096x4x128 .f32 :=
  select (cmpf .une (subf y z) (subf y z)) (addf y z)
    (addf (maximumf y z) (Host.log1p (Host.exp (Host.negf (Host.absf (subf y z))))))

def hzero : FVec Ideal S1x4096x4x128 .f32 := broadcastInDim S1x4096x4x128 ![] bcast_S_S1x4096x4x128 (constant S_ .f32 0x00000000#32)

/-- A channel's number at every row. -/
def hwide (y : FVec Ideal S4x128 .f32) : FVec Ideal S1x4096x4x128 .f32 :=
  broadcastInDim S1x4096x4x128 ![0, 1, 2, 3] bcast_S1x1x4x128_S1x4096x4x128_0_1_2_3
    (broadcastInDim S1x1x4x128 ![2, 3] bcast_S4x128_S1x1x4x128_2_3 y)

/-- The logarithm of the forget gate. -/
def hlogf : FVec Ideal S1x4096x4x128 .f32 :=
  hlae (hwide (Host.log (hlow l))) (addf (hwide (Host.log1p (Host.negf (hlow l)))) (Host.negf (hlae (Host.negf
    (shapeCast S1x4096x4x128 (extractStridedSlice S4096x512 ![0, 2048] x slices_S4096x3584_S4096x512_0_2048) shapeCasts_S4096x512_S1x4096x4x128)) hzero)))

def hq : FVec Ideal S1x4096x4x128 .f32 :=
  shapeCast S1x4096x4x128 (hsilu (extractStridedSlice S4096x512 ![0, 1536] x slices_S4096x3584_S4096x512_0_1536)) shapeCasts_S4096x512_S1x4096x4x128

def hk : FVec Ideal S1x4096x4x128 .f32 := Host.negf (Host.expm1 (hlogf x l))

def hv : FVec Ideal S1x4096x4x128 .f32 :=
  shapeCast S1x4096x4x128 (extractStridedSlice S4096x512 ![0, 2560] x slices_S4096x3584_S4096x512_0_2560) shapeCasts_S4096x512_S1x4096x4x128

/-- The rows chunk by chunk, head by head. -/
def hchunks (y : FVec Ideal S1x4096x4x128 .f32) : FVec Ideal S64x1x4x64x128 .f32 :=
  transpose S64x1x4x64x128 [1, 0, 3, 2, 4] (shapeCast S1x64x64x4x128 y shapeCasts_S1x4096x4x128_S1x64x64x4x128)
    transposes_S1x64x64x4x128_S64x1x4x64x128_1_0_3_2_4

/-- Which rows a row may see. -/
def hmask : IVec S64x64x1 1 :=
  broadcastInDim S64x64x1 ![0, 1] bcast_S64x64_S64x64x1_0_1 (select (cmpi .sge (addi (iotaInDim S64x64 32 0)
      (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)))

end Terms

theorem word_le (t r : Fin 64) :
    IntOp.cmpi .sge (IntOp.addi (BitVec.ofNat 32 t.val) 0#32) (BitVec.ofNat 32 r.val) = if r.val ≤ t.val then 1#1 else 0#1 := by
  revert t r
  decide +kernel

theorem hmask_at (t r : Fin 64) : hmask (ix3 t r 0) = if r.val ≤ t.val then 1#1 else 0#1 := by
  pointwise [hmask]
  rw [word_le]
  split <;> rfl

section Reals

variable {x : FVec Ideal S4096x3584 .f32} {l : FVec Ideal S2x512 .f32} {X L : ℕ → ℕ → ℝ}
  (hx : ∀ (r : Fin 4096) (c : Fin 3584), x (ix2 r c) = (X r.val c.val : EReal))
  (hl : ∀ (r : Fin 2) (c : Fin 512), l (ix2 r c) = (L r.val c.val : EReal))

theorem fold_two (g : Fin 2 → EReal) (z : EReal) : Finset.univ.fold max z g = max (g 0) (max (g 1) z) := rfl

include hl in
theorem hexp_at (r : Fin 2) (c : Fin 512) : hexp l (ix2 r c) = (Real.exp (L r.val c.val - max (L 0 c.val) (L 1 c.val)) : EReal) := by
  pointwise [hexp]
  rw [fold_two (fun r => l (ix2 r c)), word_neg_inf]
  simp only [hl]
  rw [max_eq_left (bot_le : (⊥ : EReal) ≤ _), max_eq_right (bot_le : (⊥ : EReal) ≤ _), ← EReal.coe_strictMono.monotone.map_max, ← EReal.coe_sub, Ideal.exp_coe]
  rfl

include hl in
theorem hlow_at (h : Fin 4) (i : Fin 128) : hlow l (ix2 h i) = (lb L (128 * h.val + i.val) : EReal) := by
  pointwise [hlow]
  refine (first_at (hsoft l) _ h_S_ _ (by pointwise []) _).trans ?_
  pointwise [hsoft, hexp_at hl]
  rw [Fin.sum_univ_two, ← EReal.coe_add]
  refine (div_real (by positivity)).trans ?_
  rw [Nat.mul_comm 128]
  exact congrArg _ (softmax_real _ _ _)

theorem hsilu_at {y : FVec Ideal S4096x512 .f32} {Y : ℕ → ℕ → ℝ} (hy : ∀ (r : Fin 4096) (c : Fin 512), y (ix2 r c) = (Y r.val c.val : EReal))
    (r : Fin 4096) (c : Fin 512) : hsilu y (ix2 r c) = ((Y r.val c.val * σ (Y r.val c.val) : ℝ) : EReal) := by
  pointwise [hsilu, hy]
  rw [logistic_real, ← EReal.coe_mul]

theorem hlae_at {y z : FVec Ideal S1x4096x4x128 .f32} (j : S1x4096x4x128.Idx) {a c : ℝ} (hy : y j = (a : EReal)) (hz : z j = (c : EReal)) :
    hlae y z j = (Real.log (Real.exp a + Real.exp c) : EReal) := by
  rw [← logaddexp_real]
  pointwise [hlae, hy, hz]
  rw [if_neg (fun h => h rfl)]
  rfl

include hx hl in
theorem hlogf_at (r : Fin 4096) (h : Fin 4) (i : Fin 128) :
    hlogf x l (ix4 0 r h i) = (Real.log (f X L r.val (128 * h.val + i.val)) : EReal) := by
  have e : hlow l (ix2 h i) = (lb L (128 * h.val + i.val) : EReal) := hlow_at hl h i
  have h0 := lb_pos L (128 * h.val + i.val)
  have h1 := lb_lt_one L (128 * h.val + i.val)
  have e1 : hwide (Host.log (hlow l)) (ix4 0 r h i) = (Real.log (lb L (128 * h.val + i.val)) : EReal) := by
    pointwise [hwide, e]
    exact log_real h0
  have e2 : hwide (Host.log1p (Host.negf (hlow l))) (ix4 0 r h i) = (Real.log (1 - lb L (128 * h.val + i.val)) : EReal) := by
    pointwise [hwide, e]
    rw [← EReal.coe_neg]
    refine Eq.trans ?_ (log_real (sub_pos.mpr h1))
    rw [sub_eq_add_neg, EReal.coe_add, EReal.coe_one]
    rfl
  have e3 : hlae (Host.negf (shapeCast S1x4096x4x128 (extractStridedSlice S4096x512 ![0, 2048] x slices_S4096x3584_S4096x512_0_2048)
      shapeCasts_S4096x512_S1x4096x4x128)) hzero (ix4 0 r h i)
        = (Real.log (Real.exp (-X r.val (2048 + (128 * h.val + i.val))) + Real.exp 0) : EReal) := by
    refine hlae_at _ ?_ ?_
    · pointwise [hx]
      rw [← EReal.coe_neg, Nat.mul_comm h.val]
    · pointwise [hzero]
      exact EReal.coe_zero.symm
  refine (hlae_at _ e1 ?_).trans (congrArg _ (log_gate h0 h1 _))
  pointwise []
  rw [e2, e3, ← EReal.coe_neg, ← EReal.coe_add]

include hx hl in
theorem hk_at (r : Fin 4096) (h : Fin 4) (i : Fin 128) : hk x l (ix4 0 r h i) = (k X L r.val (128 * h.val + i.val) : EReal) := by
  pointwise [hk, hlogf_at hx hl]
  rw [Ideal.exp_coe, Real.exp_log (f_pos X L _ _), ← EReal.coe_one, ← EReal.coe_sub, ← EReal.coe_neg, neg_sub]
  rfl

include hx in
theorem hq_at (r : Fin 4096) (h : Fin 4) (i : Fin 128) : hq x (ix4 0 r h i) = (q X r.val (128 * h.val + i.val) : EReal) := by
  pointwise [hq]
  refine (hsilu_at (Y := fun r c => X r (1536 + c)) (fun r c => by pointwise [hx]) r ⟨h.val * 128 + i.val, by omega⟩).trans ?_
  rw [Nat.mul_comm 128]
  rfl

include hx in
theorem hv_at (r : Fin 4096) (h : Fin 4) (i : Fin 128) : hv x (ix4 0 r h i) = (v X r.val (128 * h.val + i.val) : EReal) := by
  pointwise [hv, hx]
  rw [Nat.mul_comm 128]
  rfl

theorem hchunks_at (y : FVec Ideal S1x4096x4x128 .f32) (n : Fin 64) (h : Fin 4) (t : Fin 64) (i : Fin 128) :
    hchunks y (ix5 n 0 h t i) = y (ix4 0 ⟨64 * n.val + t.val, by omega⟩ h i) := by
  pointwise [hchunks]
  simp only [Nat.mul_comm]

end Reals

end Cert.Proof.HgrnGate

end
-- ==== Proof.HgrnEnt.lean ====
/- The gated recurrence's reference before its loop: what the carried arrays start from. -/
module

public import proofs.«01_k».proof.Proof.HgrnGate

@[expose] public section

set_option maxRecDepth 16384

noncomputable section

open Idealize.ShloMosaic Idealize.ShloMosaic.TcCoe Idealize.SL.Sem
open Idealize.ShloMosaic.StableHlo Idealize.ShloMosaic.Tactic

namespace Cert.Proof.HgrnEnt

open Cert.Reference13Ideal Cert.Reference13Ideal.Gen Cert.Reference13Ideal.Value Cert.Proof.HgrnGate

/-- The state before the first chunk. -/
def hstart : FVec Ideal S1x4x128x128 .f32 := broadcastInDim S1x4x128x128 ![] bcast_S_S1x4x128x128 (constant S_ .f32 0x00000000#32)

variable (m : (ℓ : Loc nD τ sig) → Buf (Elt Ideal) ℓ) (c : Dev nD)

set_option maxHeartbeats 4000000 in
theorem entry_q : entryContents preI m c (Proc.devRef .tc main_v59_0) = hchunks (hq (m ((c : Thread nD τ).loc main_arg0))) := by
  unfold hchunks hq hsilu
  simp only [entryContents, preI, afterL_cons, afterL_nil, hostOps0, hostOps0_1, hostOps0_2, hostOps0_3, hostOps0_4, hostOps0_5, hostOps0_6, hostOps0_7, hostOps0_8]
  after_results_entrywise []

set_option maxHeartbeats 4000000 in
theorem entry_k : entryContents preI m c (Proc.devRef .tc main_v59_1) = hchunks (hk (m ((c : Thread nD τ).loc main_arg0)) (m ((c : Thread nD τ).loc main_arg1))) := by
  unfold hchunks hk hlogf hlae hwide hlow hsoft hexp hzero
  simp only [entryContents, preI, afterL_cons, afterL_nil, hostOps0, hostOps0_1, hostOps0_2, hostOps0_3, hostOps0_4, hostOps0_5, hostOps0_6, hostOps0_7, hostOps0_8]
  after_results_entrywise []

set_option maxHeartbeats 4000000 in
theorem entry_v : entryContents preI m c (Proc.devRef .tc main_v59_2) = hchunks (hv (m ((c : Thread nD τ).loc main_arg0))) := by
  unfold hchunks hv
  simp only [entryContents, preI, afterL_cons, afterL_nil, hostOps0, hostOps0_1, hostOps0_2, hostOps0_3, hostOps0_4, hostOps0_5, hostOps0_6, hostOps0_7, hostOps0_8]
  after_results_entrywise []

set_option maxHeartbeats 4000000 in
theorem entry_g : entryContents preI m c (Proc.devRef .tc main_v59_3) = hchunks (hlogf (m ((c : Thread nD τ).loc main_arg0)) (m ((c : Thread nD τ).loc main_arg1))) := by
  unfold hchunks hlogf hlae hwide hlow hsoft hexp hzero
  simp only [entryContents, preI, afterL_cons, afterL_nil, hostOps0, hostOps0_1, hostOps0_2, hostOps0_3, hostOps0_4, hostOps0_5, hostOps0_6, hostOps0_7, hostOps0_8]
  after_results_entrywise []

set_option maxHeartbeats 4000000 in
theorem entry_mask : entryContents preI m c (Proc.devRef .tc main_v59_4) = hmask := by
  unfold hmask
  simp only [entryContents, preI, afterL_cons, afterL_nil, hostOps0, hostOps0_1, hostOps0_2, hostOps0_3, hostOps0_4, hostOps0_5, hostOps0_6, hostOps0_7, hostOps0_8]
  after_results_entrywise []

set_option maxHeartbeats 4000000 in
theorem entry_state : entryContents preI m c (Proc.devRef .tc main_v59_6) = hstart := by
  unfold hstart
  simp only [entryContents, preI, afterL_cons, afterL_nil, hostOps0, hostOps0_1, hostOps0_2, hostOps0_3, hostOps0_4, hostOps0_5, hostOps0_6, hostOps0_7, hostOps0_8]
  after_results_entrywise []

end Cert.Proof.HgrnEnt

end
-- ==== Proof.HgrnTrip.lean ====
/- The gated recurrence's reference: one trip of its loop over the chunks, on real numbers. -/
module

public import proofs.«01_k».proof.Proof.Gen.Reference13Ideal.Run
public import Idealize.ShloMosaic.Lib.Pointwise
public import Idealize.ShloMosaic.Lib.DynamicIndex
public import proofs.«01_k».proof.Proof.HgrnWin

@[expose] public section

set_option maxRecDepth 16384

noncomputable section

open Idealize.ShloMosaic Idealize.ShloMosaic.TcCoe Idealize.SL.Sem

namespace Cert.Proof.HgrnTrip

open Cert.Reference13Ideal Cert.Reference13Ideal.Gen Cert.Proof.Norm Cert.Proof.Hgrn Cert.Proof.HgrnWin

/-! ## The operations of a trip -/

/-- The chunk that the counter names. -/
def piece (x : FVec Ideal S64x1x4x64x128 .f32) (w : IVec S_ 32) : FVec Ideal S1x4x64x128 .f32 :=
  shapeCast S1x4x64x128 (Host.dynamicSlice S1x1x4x64x128 x (fun k => (((![w, constantI S_ 32 0#32, constantI S_ 32 0#32,
    constantI S_ 32 0#32, constantI S_ 32 0#32] : Fin 5 → (⟨S_, .i32⟩ : BufTy).Contents (Elt Ideal))) k (Shape.Idx.first h_S_)).toInt)
    sliceFits_S64x1x4x64x128_S1x1x4x64x128) shapeCasts_S1x1x4x64x128_S1x4x64x128

/-- The running sum of a chunk's rows. -/
def sums (x : FVec Ideal S1x4x64x128 .f32) : FVec Ideal S1x4x64x128 .f32 :=
  Host.reduceWindowAdd ![1, 1, 64, 1] ![1, 1, 1, 1] ![0, 0, 63, 0] ![0, 0, 0, 0] x (broadcastInDim S_ ![] bcast_S_S_
    (constant S_ .f32 0x00000000#32)) reduceWindows_S1x4x64x128_S1x4x64x128_w1s1p0_0_w1s1p0_0_w64s1p63_0_w1s1p0_0 h_S_

/-- A chunk's last row. -/
def last (x : FVec Ideal S1x4x64x128 .f32) : FVec Ideal S1x4x1x128 .f32 :=
  extractStridedSlice S1x4x1x128 ![0, 0, 63, 0] x slices_S1x4x64x128_S1x4x1x128_0_0_63_0

variable (Q K V B : FVec Ideal S1x4x64x128 .f32) (s : FVec Ideal S1x4x128x128 .f32) (M : IVec S64x64x1 1)

/-- The state after the chunk. -/
def carry : FVec Ideal S1x4x128x128 .f32 :=
  addf (mulf (broadcastInDim S1x4x128x128 ![0, 1, 2, 3] bcast_S1x4x128x1_S1x4x128x128_0_1_2_3 (Host.exp (broadcastInDim S1x4x128x1 ![0, 1, 2]
    bcast_S1x4x128_S1x4x128x1_0_1_2 (shapeCast S1x4x128 (last B) shapeCasts_S1x4x1x128_S1x4x128)))) s)
    (Host.dotGeneral dot_S1x4x64x128_S1x4x64x128_S1x4x128x128_2_2_3_3_01_01 none (mulf K (Host.exp (subf
      (broadcastInDim S1x4x64x128 ![0, 1, 2, 3] bcast_S1x4x1x128_S1x4x64x128_0_1_2_3 (last B)) B))) V)

/-- Row `t` of a chunk against every row. -/
def atRow (x : FVec Ideal S1x4x64x128 .f32) : FVec Ideal S1x4x64x64x128 .f32 :=
  broadcastInDim S1x4x64x64x128 ![0, 1, 2, 3, 4] bcast_S1x4x64x1x128_S1x4x64x64x128_0_1_2_3_4
    (broadcastInDim S1x4x64x1x128 ![0, 1, 2, 4] bcast_S1x4x64x128_S1x4x64x1x128_0_1_2_4 x)

/-- Every row of a chunk, at row `t`. -/
def ofRow (x : FVec Ideal S1x4x64x128 .f32) : FVec Ideal S1x4x64x64x128 .f32 :=
  broadcastInDim S1x4x64x64x128 ![0, 1, 2, 3, 4] bcast_S1x4x1x64x128_S1x4x64x64x128_0_1_2_3_4
    (broadcastInDim S1x4x1x64x128 ![0, 1, 3, 4] bcast_S1x4x64x128_S1x4x1x64x128_0_1_3_4 x)

/-- What the rows up to a row weigh at it. -/
def weights : FVec Ideal S1x4x64x64 .f32 :=
  Host.reduceAdd (mulf (mulf (atRow Q) (ofRow K)) (Host.exp (select
    (broadcastInDim S1x4x64x64x128 ![2, 3, 4] bcast_S64x64x1_S1x4x64x64x128_2_3_4 M) (subf (atRow B) (ofRow B))
    (broadcastInDim S1x4x64x64x128 ![] bcast_S_S1x4x64x64x128 (id (constant S_ .f32 0xFF800000#32))))))
    (constant S_ .f32 0x00000000#32) reducesTo_S1x4x64x64x128_S1x4x64x64_d4 h_S_

/-- The chunk's output. -/
def outs : FVec Ideal S1x4x64x128 .f32 :=
  addf (Host.dotGeneral dot_S1x4x64x128_S1x4x128x128_S1x4x64x128_3_2_2_3_01_01 none (mulf Q (Host.exp B)) s)
    (Host.dotGeneral dot_S1x4x64x64_S1x4x64x128_S1x4x64x128_3_2_2_3_01_01 none (weights Q K B M) V)

/-- A chunk's start, axis by axis. -/
theorem start_at {w : IVec S_ 32} {n : ℕ} (hn : n < 64) (hw : w = fun _ => BitVec.ofNat 32 n) (k : Fin 5) :
    (((![w, constantI S_ 32 0#32, constantI S_ 32 0#32, constantI S_ 32 0#32, constantI S_ 32 0#32] :
      Fin 5 → (⟨S_, .i32⟩ : BufTy).Contents (Elt Ideal))) k (Shape.Idx.first h_S_)).toInt = (((![n, 0, 0, 0, 0] : Fin 5 → ℕ) k : ℕ) : ℤ) := by
  subst hw
  fin_cases k
  · exact toInt_ofNat_of_lt (show n < 2 ^ 31 by omega)
  all_goals rfl

theorem clamp_at {u : Shape} (hu : u.rank = 5) (start : Fin 5 → ℤ) (s : Fin 5 → ℕ) {n : ℕ} (hs : ∀ k, start k = (((![n, 0, 0, 0, 0] : Fin 5 → ℕ) k : ℕ) : ℤ))
    (hle : ∀ k : Fin 5, (![n, 0, 0, 0, 0] : Fin 5 → ℕ) k + u.size (k.cast hu.symm) ≤ s k) (k : Fin 5) :
    Host.clampedStart ⟨5, s⟩ u hu start k = (![n, 0, 0, 0, 0] : Fin 5 → ℕ) k :=
  Host.clampedStart_of_le (s := ⟨5, s⟩) (t := u) hu start k _ (hs k) (hle k)

theorem fits {n : ℕ} (hn : n < 64) (k : Fin 5) :
    (![n, 0, 0, 0, 0] : Fin 5 → ℕ) k + S1x1x4x64x128.size (k.cast rfl) ≤ (![64, 1, 4, 64, 128] : Fin 5 → ℕ) k := by
  fin_cases k
  · show n + 1 ≤ 64; omega
  · show 0 + 1 ≤ 1; omega
  · show 0 + 4 ≤ 4; omega
  · show 0 + 64 ≤ 64; omega
  · show 0 + 128 ≤ 128; omega

theorem piece_at (x : FVec Ideal S64x1x4x64x128 .f32) {w : IVec S_ 32} {n : ℕ} (hn : n < 64) (hw : w = fun _ => BitVec.ofNat 32 n)
    (a : Fin 1) (h : Fin 4) (t : Fin 64) (i : Fin 128) : piece x w (ix4 a h t i) = x (ix5 ⟨n, hn⟩ 0 h t i) := by
  have e := clamp_at (u := S1x1x4x64x128) rfl _ ![64, 1, 4, 64, 128] (start_at hn hw) (fits hn)
  pointwise [piece]
  refine congrArg x (funext fun k => Fin.ext ?_)
  fin_cases k
  · exact e 0
  · exact e 1
  · exact (congrArg (· + h.val) (e 2)).trans (Nat.zero_add _)
  · exact (congrArg (· + t.val) (e 3)).trans (Nat.zero_add _)
  · exact (congrArg (· + i.val) (e 4)).trans (Nat.zero_add _)

/-! ## A trip on real numbers -/

theorem select_one (x y : EReal) : Scalar.select (1#1) x y = x := rfl
theorem select_zero (x y : EReal) : Scalar.select (0#1) x y = y := rfl
theorem constant_bot : constant (F := Ideal) S_ .f32 0xFF800000#32 ix0 = (⊥ : EReal) := word_neg_inf

section Trip

variable {Q K V B s M} {X L : ℕ → ℕ → ℝ} {n : ℕ}

theorem sums_real {g : FVec Ideal S1x4x64x128 .f32}
    (hg : ∀ (h : Fin 4) (t : Fin 64) (i : Fin 128), g (ix4 0 h t i) = (Real.log (f X L (64 * n + t.val) (128 * h.val + i.val)) : EReal))
    (h : Fin 4) (t : Fin 64) (i : Fin 128) : sums g (ix4 0 h t i) = (b X L n t.val (128 * h.val + i.val) : EReal) := by
  refine (sums_at g _ h_S_ _ (by pointwise []) 0 h t i).trans ?_
  unfold b
  rw [← sum_coe]
  refine Finset.sum_congr rfl fun r _ => ?_
  by_cases hr : r.val ≤ t.val
  · rw [if_pos hr, if_pos hr, hg]
  · rw [if_neg hr, if_neg hr, EReal.coe_zero]

variable (hQ : ∀ (h : Fin 4) (t : Fin 64) (i : Fin 128), Q (ix4 0 h t i) = (q X (64 * n + t.val) (128 * h.val + i.val) : EReal))
  (hK : ∀ (h : Fin 4) (t : Fin 64) (i : Fin 128), K (ix4 0 h t i) = (k X L (64 * n + t.val) (128 * h.val + i.val) : EReal))
  (hV : ∀ (h : Fin 4) (t : Fin 64) (i : Fin 128), V (ix4 0 h t i) = (v X (64 * n + t.val) (128 * h.val + i.val) : EReal))
  (hB : ∀ (h : Fin 4) (t : Fin 64) (i : Fin 128), B (ix4 0 h t i) = (b X L n t.val (128 * h.val + i.val) : EReal))
  (hs : ∀ (h : Fin 4) (i d : Fin 128), s (ix4 0 h i d) = (state X L n d.val (128 * h.val + i.val) : EReal))
  (hM : ∀ t r : Fin 64, M (ix3 t r 0) = if r.val ≤ t.val then 1#1 else 0#1)

include hK hV hB hs in
theorem carry_at (h : Fin 4) (i d : Fin 128) :
    carry K V B s (ix4 0 h i d) = (state X L (n + 1) d.val (128 * h.val + i.val) : EReal) := by
  have e : state X L (n + 1) d.val (128 * h.val + i.val) = Real.exp (b X L n 63 (128 * h.val + i.val)) * state X L n d.val (128 * h.val + i.val)
      + ∑ r : Fin 64, k X L (64 * n + r.val) (128 * h.val + i.val)
        * Real.exp (b X L n 63 (128 * h.val + i.val) - b X L n r.val (128 * h.val + i.val)) * v X (64 * n + r.val) (128 * h.val + d.val) := by
    rw [state]
    beta_reduce
    rw [show (128 * h.val + i.val) / 128 * 128 = 128 * h.val by omega, mul_comm (state X L n _ _)]
    exact congrArg _ (Finset.sum_congr rfl fun r _ => mul_comm _ _)
  rw [e]
  pointwise [carry, last]
  simp only [hK, hV, hB, hs, ← EReal.coe_sub, Ideal.exp_coe]
  simp only [← EReal.coe_mul, sum_coe, ← EReal.coe_add]
  rfl

include hQ hK hB hM in
theorem weights_at (h : Fin 4) (t r : Fin 64) : weights Q K B M (ix4 0 h t r) = (weight X L n t.val r.val (128 * h.val) : EReal) := by
  unfold weight
  pointwise [weights, atRow, ofRow]
  simp only [hQ, hK, hB, hM]
  by_cases hr : r.val ≤ t.val
  · simp only [if_pos hr]
    simp only [select_one, ← EReal.coe_sub, Ideal.exp_coe]
    simp only [← EReal.coe_mul, sum_coe]
  · simp only [if_neg hr, select_zero, id_eq, constant_bot, Ideal.exp_bot, mul_zero, Finset.sum_const_zero, EReal.coe_zero]

include hQ hK hV hB hs hM in
theorem outs_at (h : Fin 4) (t : Fin 64) (d : Fin 128) : outs Q K V B s M (ix4 0 h t d) = (out X L n t.val (128 * h.val) d.val : EReal) := by
  unfold out
  pointwise [outs]
  simp only [hQ, hV, hB, hs, weights_at hQ hK hB hM, Ideal.exp_coe]
  simp only [← EReal.coe_mul, sum_coe, ← EReal.coe_add]

end Trip

end Cert.Proof.HgrnTrip

end
-- ==== Proof.HgrnLoop.lean ====
/- The gated recurrence's reference: its loop over the chunks, trip by trip. -/
module

public import proofs.«01_k».proof.Proof.HgrnTrip

@[expose] public section

set_option maxRecDepth 16384

noncomputable section

open Idealize.ShloMosaic Idealize.ShloMosaic.TcCoe Idealize.SL.Sem
open Idealize.ShloMosaic.StableHlo

namespace Cert.Proof.HgrnLoop

open Cert.Reference13Ideal Cert.Reference13Ideal.Gen Cert.Reference13Ideal.Value Cert.Proof.Norm Cert.Proof.Hgrn Cert.Proof.HgrnTrip

/-! ## An update of one chunk -/

/-- A row of chunks after an update at chunk `n`: the update there, the row as it was elsewhere. -/
theorem put_at {p : ℕ} (x : FVec Ideal ⟨5, ![64, 1, 4, p, 128]⟩ .f32) (u : FVec Ideal ⟨5, ![1, 1, 4, p, 128]⟩ .f32) {n : ℕ} (hn : n < 64)
    {start : Fin 5 → ℤ} (hs : ∀ k, start k = (((![n, 0, 0, 0, 0] : Fin 5 → ℕ) k : ℕ) : ℤ))
    (hf : (⟨5, ![64, 1, 4, p, 128]⟩ : Shape).Slices (fun _ => 0) ⟨5, ![1, 1, 4, p, 128]⟩) (r : Fin 64) (h : Fin 4) (t : Fin p) (i : Fin 128) :
    Host.dynamicUpdateSlice x u start hf (ix5 r 0 h t i) = if r.val = n then u (ix5 0 0 h t i) else x (ix5 r 0 h t i) := by
  have e := clamp_at (u := ⟨5, ![1, 1, 4, p, 128]⟩) hf.1 start ![64, 1, 4, p, 128] hs (by
    intro k
    fin_cases k
    · show n + 1 ≤ 64; omega
    · show 0 + 1 ≤ 1; omega
    · show 0 + 4 ≤ 4; omega
    · show 0 + p ≤ p; omega
    · show 0 + 128 ≤ 128; omega)
  have e0 := e 0
  have e1 := e 1
  have e2 := e 2
  have e3 := e 3
  have e4 := e 4
  rw [Host.dynamicUpdateSlice_apply]
  by_cases hr : r.val = n
  · rw [if_pos hr]
    refine (dif_pos ?_).trans (congrArg u ?_)
    · intro k
      rw [e k]
      fin_cases k
      · show n ≤ r.val ∧ r.val < n + 1; omega
      · show 0 ≤ 0 ∧ 0 < 0 + 1; omega
      · exact ⟨Nat.zero_le _, (h.isLt.trans_eq (Nat.zero_add 4).symm)⟩
      · exact ⟨Nat.zero_le _, (t.isLt.trans_eq (Nat.zero_add p).symm)⟩
      · exact ⟨Nat.zero_le _, (i.isLt.trans_eq (Nat.zero_add 128).symm)⟩
    · funext k
      refine Fin.ext ?_
      fin_cases k
      · exact (congrArg (r.val - ·) e0).trans (show r.val - n = 0 by omega)
      · exact (congrArg (0 - ·) e1)
      · exact (congrArg (h.val - ·) e2).trans (Nat.sub_zero _)
      · exact (congrArg (t.val - ·) e3).trans (Nat.sub_zero _)
      · exact (congrArg (i.val - ·) e4).trans (Nat.sub_zero _)
  · rw [if_neg hr]
    refine dif_neg fun hin => hr ?_
    have h0 := hin 0
    rw [e0] at h0
    have h1 : n ≤ r.val ∧ r.val < n + 1 := h0
    omega

/-! ## The carried arrays -/

section Carried
variable (V : Valuation τ sig (Elt Ideal))

abbrev aq : FVec Ideal S64x1x4x64x128 .f32 := V (Proc.devRef .tc main_v59_0)
abbrev ak : FVec Ideal S64x1x4x64x128 .f32 := V (Proc.devRef .tc main_v59_1)
abbrev av : FVec Ideal S64x1x4x64x128 .f32 := V (Proc.devRef .tc main_v59_2)
abbrev ag : FVec Ideal S64x1x4x64x128 .f32 := V (Proc.devRef .tc main_v59_3)
abbrev am : IVec S64x64x1 1 := V (Proc.devRef .tc main_v59_4)
abbrev an : IVec S_ 32 := V (Proc.devRef .tc main_v59_5)
abbrev ast : FVec Ideal S1x4x128x128 .f32 := V (Proc.devRef .tc main_v59_6)
abbrev ao : FVec Ideal S64x1x4x64x128 .f32 := V (Proc.devRef .tc main_v59_7)
abbrev asts : FVec Ideal S64x1x4x128x128 .f32 := V (Proc.devRef .tc main_v59_8)

/-- What the carried arrays hold before trip `n`. -/
structure At (X L : ℕ → ℕ → ℝ) (n : ℕ) : Prop where
  q : ∀ (r : Fin 64) (h : Fin 4) (t : Fin 64) (i : Fin 128), aq V (ix5 r 0 h t i) = (q X (64 * r.val + t.val) (128 * h.val + i.val) : EReal)
  k : ∀ (r : Fin 64) (h : Fin 4) (t : Fin 64) (i : Fin 128), ak V (ix5 r 0 h t i) = (k X L (64 * r.val + t.val) (128 * h.val + i.val) : EReal)
  v : ∀ (r : Fin 64) (h : Fin 4) (t : Fin 64) (i : Fin 128), av V (ix5 r 0 h t i) = (v X (64 * r.val + t.val) (128 * h.val + i.val) : EReal)
  g : ∀ (r : Fin 64) (h : Fin 4) (t : Fin 64) (i : Fin 128),
    ag V (ix5 r 0 h t i) = (Real.log (f X L (64 * r.val + t.val) (128 * h.val + i.val)) : EReal)
  mask : ∀ t r : Fin 64, am V (ix3 t r 0) = if r.val ≤ t.val then 1#1 else 0#1
  count : an V = fun _ => BitVec.ofNat 32 n
  state : ∀ (h : Fin 4) (i d : Fin 128), ast V (ix4 0 h i d) = (state X L n d.val (128 * h.val + i.val) : EReal)
  o : ∀ (r : Fin 64), r.val < n → ∀ (h : Fin 4) (t : Fin 64) (d : Fin 128),
    ao V (ix5 r 0 h t d) = (out X L r.val t.val (128 * h.val) d.val : EReal)
  states : ∀ (r : Fin 64), r.val < n → ∀ (h : Fin 4) (i d : Fin 128),
    asts V (ix5 r 0 h i d) = (Hgrn.state X L r.val d.val (128 * h.val + i.val) : EReal)

end Carried

variable {V : Valuation τ sig (Elt Ideal)} {X L : ℕ → ℕ → ℝ} {n : ℕ}

theorem next_o : ao (STEP V) = Host.dynamicUpdateSlice (ao V) (broadcastInDim S1x1x4x64x128 ![1, 2, 3, 4] bcast_S1x4x64x128_S1x1x4x64x128_1_2_3_4
    (outs (piece (aq V) (an V)) (piece (ak V) (an V)) (piece (av V) (an V)) (sums (piece (ag V) (an V))) (ast V) (am V)))
    (fun k => (((![an V, constantI S_ 32 0#32, constantI S_ 32 0#32, constantI S_ 32 0#32, constantI S_ 32 0#32] :
      Fin 5 → (⟨S_, .i32⟩ : BufTy).Contents (Elt Ideal))) k (Shape.Idx.first h_S_)).toInt)
    updateFits_S64x1x4x64x128_S1x1x4x64x128 := STEP_main_v59_7 V

theorem next_states : asts (STEP V) = Host.dynamicUpdateSlice (asts V) (broadcastInDim S1x1x4x128x128 ![1, 2, 3, 4]
    bcast_S1x4x128x128_S1x1x4x128x128_1_2_3_4 (ast V))
    (fun k => (((![an V, constantI S_ 32 0#32, constantI S_ 32 0#32, constantI S_ 32 0#32, constantI S_ 32 0#32] :
      Fin 5 → (⟨S_, .i32⟩ : BufTy).Contents (Elt Ideal))) k (Shape.Idx.first h_S_)).toInt)
    updateFits_S64x1x4x128x128_S1x1x4x128x128 := STEP_main_v59_8 V

theorem next_state : ast (STEP V) = carry (piece (ak V) (an V)) (piece (av V) (an V)) (sums (piece (ag V) (an V))) (ast V) := STEP_main_v59_6 V

theorem wide_o (y : FVec Ideal S1x4x64x128 .f32) (h : Fin 4) (t : Fin 64) (d : Fin 128) :
    broadcastInDim S1x1x4x64x128 ![1, 2, 3, 4] bcast_S1x4x64x128_S1x1x4x64x128_1_2_3_4 y (ix5 0 0 h t d) = y (ix4 0 h t d) := by
  pointwise []

theorem wide_states (y : FVec Ideal S1x4x128x128 .f32) (h : Fin 4) (i d : Fin 128) :
    broadcastInDim S1x1x4x128x128 ![1, 2, 3, 4] bcast_S1x4x128x128_S1x1x4x128x128_1_2_3_4 y (ix5 0 0 h i d) = y (ix4 0 h i d) := by
  pointwise []

theorem At.next (a : At V X L n) (hn : n < 64) : At (STEP V) X L (n + 1) := by
  have hQ : ∀ (h : Fin 4) (t : Fin 64) (i : Fin 128), piece (aq V) (an V) (ix4 0 h t i) = (Hgrn.q X (64 * n + t.val) (128 * h.val + i.val) : EReal) :=
    fun h t i => (piece_at _ hn a.count 0 h t i).trans (a.q ⟨n, hn⟩ h t i)
  have hK : ∀ (h : Fin 4) (t : Fin 64) (i : Fin 128), piece (ak V) (an V) (ix4 0 h t i) = (Hgrn.k X L (64 * n + t.val) (128 * h.val + i.val) : EReal) :=
    fun h t i => (piece_at _ hn a.count 0 h t i).trans (a.k ⟨n, hn⟩ h t i)
  have hV : ∀ (h : Fin 4) (t : Fin 64) (i : Fin 128), piece (av V) (an V) (ix4 0 h t i) = (Hgrn.v X (64 * n + t.val) (128 * h.val + i.val) : EReal) :=
    fun h t i => (piece_at _ hn a.count 0 h t i).trans (a.v ⟨n, hn⟩ h t i)
  have hB : ∀ (h : Fin 4) (t : Fin 64) (i : Fin 128), sums (piece (ag V) (an V)) (ix4 0 h t i) = (b X L n t.val (128 * h.val + i.val) : EReal) :=
    sums_real fun h t i => (piece_at _ hn a.count 0 h t i).trans (a.g ⟨n, hn⟩ h t i)
  refine ⟨fun r h t i => (congrFun (STEP_main_v59_0 V) _).trans (a.q r h t i), fun r h t i => (congrFun (STEP_main_v59_1 V) _).trans (a.k r h t i),
    fun r h t i => (congrFun (STEP_main_v59_2 V) _).trans (a.v r h t i), fun r h t i => (congrFun (STEP_main_v59_3 V) _).trans (a.g r h t i),
    fun t r => (congrFun (STEP_main_v59_4 V) _).trans (a.mask t r), ?_, ?_, ?_, ?_⟩
  · refine (STEP_main_v59_5 V).trans ?_
    show (fun j => IntOp.addi (an V j) 1#32) = _
    rw [a.count]
    funext j
    exact (BitVec.ofNat_add n 1).symm
  · intro h i d
    rw [next_state]
    exact carry_at hK hV hB a.state h i d
  · intro r hr h t d
    rw [next_o, put_at _ _ hn (start_at hn a.count) _ r h t d]
    split
    · next e =>
      rw [e]
      refine (wide_o _ h t d).trans ?_
      exact outs_at hQ hK hV hB a.state a.mask h t d
    · next e => exact a.o r (by omega) h t d
  · intro r hr h i d
    rw [next_states, put_at _ _ hn (start_at hn a.count) _ r h i d]
    split
    · next e =>
      rw [e]
      refine (wide_states _ h i d).trans ?_
      exact a.state h i d
    · next e => exact a.states r (by omega) h i d

theorem At.iter (a : At V X L 0) : ∀ n, n ≤ 64 → At (STEP^[n] V) X L n
  | 0, _ => a
  | n + 1, hn => by
    rw [Function.iterate_succ_apply']
    exact (a.iter n (by omega)).next (by omega)

end Cert.Proof.HgrnLoop

end
-- ==== Proof.HgrnKer.lean ====
/- The kernel's gated recurrence at an index: one chunk's gates, decays, outputs and next state over the reals. -/
module

public import proofs.«01_k».proof.Proof.Gen.Kernel13Ideal.Skeleton
public import proofs.«01_k».proof.Proof.Hgrn

@[expose] public section

set_option maxRecDepth 16384

noncomputable section

open Idealize.ShloMosaic Idealize.ShloMosaic.TcCoe Idealize.SL.Sem

namespace Cert.Proof.HgrnKer

open Cert.Kernel13Ideal Cert.Kernel13Ideal.Gen Cert.Proof.Norm Cert.Proof.Hgrn

/-- A head's outputs as the kernel groups them: the decays around the middle of the chunk cancel. -/
theorem head_real (X L : ℕ → ℕ → ℝ) (n t h d : ℕ) :
    ∑ i : Fin 128, ((q X (64 * n + t) (h + i.val) * Real.exp (b X L n t (h + i.val)) : ℝ) : EReal) * (state X L n d (h + i.val) : EReal)
      + ∑ s : Fin 64, (if s.val ≤ t then ∑ i : Fin 128,
          ((q X (64 * n + t) (h + i.val) * Real.exp (b X L n t (h + i.val) - b X L n 32 (h + i.val)) : ℝ) : EReal)
            * ((k X L (64 * n + s.val) (h + i.val) * Real.exp (b X L n 32 (h + i.val) - b X L n s.val (h + i.val)) : ℝ) : EReal)
          else 0) * (X (64 * n + s.val) (2560 + (h + d)) : EReal)
      = (out X L n t h d : EReal) := by
  have w : ∀ s : ℕ, (if s ≤ t then ∑ i : Fin 128,
          ((q X (64 * n + t) (h + i.val) * Real.exp (b X L n t (h + i.val) - b X L n 32 (h + i.val)) : ℝ) : EReal)
            * ((k X L (64 * n + s) (h + i.val) * Real.exp (b X L n 32 (h + i.val) - b X L n s (h + i.val)) : ℝ) : EReal)
          else 0) = (weight X L n t s h : EReal) := by
    intro s
    unfold weight
    by_cases hst : s ≤ t
    · rw [if_pos hst, if_pos hst]
      simp only [← EReal.coe_mul, sum_coe]
      refine congrArg _ (Finset.sum_congr rfl fun i _ => ?_)
      rw [mul_mul_mul_comm, ← Real.exp_add, sub_add_sub_cancel]
    · rw [if_neg hst, if_neg hst, EReal.coe_zero]
  simp only [w]
  simp only [← EReal.coe_mul, sum_coe, ← EReal.coe_add]
  rfl

variable {X L : ℕ → ℕ → ℝ} {n : ℕ}

theorem lb_at {l : Vec Ideal S2x512 .f32} (hl : ∀ (r : Fin 2) (c : Fin 512), l (ix2 r c) = (L r.val c.val : EReal)) (c : Fin 512) :
    k0_pay2 l (ix2 0 c) = (lb L c.val : EReal) := by
  pointwise [k0_pay2, hl]
  rw [← EReal.coe_sub, Ideal.exp_coe, ← EReal.coe_one, ← EReal.coe_add, div_real (by positivity)]
  rfl

theorem word_sge (t s : Fin 64) :
    IntOp.cmpi .sge (BitVec.ofNat 32 t.val) (BitVec.ofNat 32 s.val) = if s.val ≤ t.val then 1#1 else 0#1 := by
  revert t s
  decide +kernel

theorem tri_at (t s : Fin 64) : k0_pay4 (F := Ideal) (ix2 t s) = ((if s.val ≤ t.val then 1 else 0 : ℝ) : EReal) := by
  pointwise [k0_pay4, k0_pay3]
  rw [word_sge t s]
  by_cases h : s.val ≤ t.val
  · rw [if_pos h, if_pos h]; simp [FloatOps.sitofp]
  · rw [if_neg h, if_neg h]; simp [FloatOps.sitofp]

theorem tril_at (t s : Fin 64) (x y : EReal) : Scalar.select (k0_pay3 (ix2 t s)) x y = if s.val ≤ t.val then x else y := by
  pointwise [k0_pay3]
  rw [word_sge t s]
  by_cases h : s.val ≤ t.val
  · rw [if_pos h, if_pos h]; rfl
  · rw [if_neg h, if_neg h]; rfl

section Chunk

variable {l : Vec Ideal S2x512 .f32} {xq xf xv : Vec Ideal S64x512 .f32}
  (hl : ∀ (r : Fin 2) (c : Fin 512), l (ix2 r c) = (L r.val c.val : EReal))
  (hq : ∀ (t : Fin 64) (c : Fin 512), xq (ix2 t c) = (X (64 * n + t.val) (1536 + c.val) : EReal))
  (hf : ∀ (t : Fin 64) (c : Fin 512), xf (ix2 t c) = (X (64 * n + t.val) (2048 + c.val) : EReal))
  (hv : ∀ (t : Fin 64) (c : Fin 512), xv (ix2 t c) = (X (64 * n + t.val) (2560 + c.val) : EReal))

include hq in
theorem q_at (t : Fin 64) (c : Fin 512) : k0_pay5 xq (ix2 t c) = (q X (64 * n + t.val) c.val : EReal) := by
  pointwise [k0_pay5, hq]
  rw [zero_sub, logistic_real, ← EReal.coe_mul]
  rfl

include hf in
theorem sig_at (t : Fin 64) (c : Fin 512) : k0_pay6 xf (ix2 t c) = (σ (X (64 * n + t.val) (2048 + c.val)) : EReal) := by
  pointwise [k0_pay6, hf]
  rw [zero_sub, logistic_real]

include hl hf in
theorem f_at (t : Fin 64) (c : Fin 512) :
    k0_pay8 (k0_pay2 l) (k0_pay6 xf) (k0_pay7 l) (ix2 t c) = (f X L (64 * n + t.val) c.val : EReal) := by
  pointwise [k0_pay8, k0_pay7, lb_at hl, sig_at hf]
  rw [← EReal.coe_one, ← EReal.coe_sub, ← EReal.coe_mul, ← EReal.coe_add]
  rfl

include hl hf in
theorem k_at (t : Fin 64) (c : Fin 512) :
    k0_pay9 (k0_pay2 l) (k0_pay6 xf) (k0_pay7 l) (ix2 t c) = (k X L (64 * n + t.val) c.val : EReal) := by
  pointwise [k0_pay9, f_at hl hf]
  rw [← EReal.coe_one, ← EReal.coe_sub]
  rfl

include hl hf in
theorem b_at (t : Fin 64) (c : Fin 512) :
    k0_pay10 (k0_pay2 l) k0_pay4 (k0_pay6 xf) (k0_pay7 l) (ix2 t c) = (b X L n t.val c.val : EReal) := by
  pointwise [k0_pay10, f_at hl hf, tri_at]
  simp only [log_real (f_pos X L _ _), ← EReal.coe_sub, ← EReal.coe_mul, sum_coe, ← EReal.coe_add, sub_self, mul_zero,
    Finset.sum_const_zero, add_zero, ite_mul, one_mul, zero_mul]
  rfl

include hl hq hf in
theorem qe_at (t : Fin 64) (c : Fin 512) :
    k0_pay13 (k0_pay2 l) k0_pay4 (k0_pay5 xq) (k0_pay6 xf) (k0_pay7 l) (ix2 t c)
      = ((q X (64 * n + t.val) c.val * Real.exp (b X L n t.val c.val) : ℝ) : EReal) := by
  pointwise [k0_pay13, b_at hl hf, q_at hq]
  rw [Ideal.exp_coe, ← EReal.coe_mul]

include hl hf in
theorem kh_at (t : Fin 64) (c : Fin 512) :
    k0_pay14 (k0_pay2 l) k0_pay4 (k0_pay6 xf) (k0_pay7 l) (ix2 t c)
      = ((k X L (64 * n + t.val) c.val * Real.exp (b X L n 63 c.val - b X L n t.val c.val) : ℝ) : EReal) := by
  pointwise [k0_pay14, k0_pay12, b_at hl hf, k_at hl hf]
  rw [← EReal.coe_sub, Ideal.exp_coe, ← EReal.coe_mul]

include hl hq hf in
theorem qt_at (t : Fin 64) (c : Fin 512) :
    k0_pay15 (k0_pay2 l) k0_pay4 (k0_pay5 xq) (k0_pay6 xf) (k0_pay7 l) (ix2 t c)
      = ((q X (64 * n + t.val) c.val * Real.exp (b X L n t.val c.val - b X L n 32 c.val) : ℝ) : EReal) := by
  pointwise [k0_pay15, k0_pay11, b_at hl hf, q_at hq]
  rw [← EReal.coe_sub, Ideal.exp_coe, ← EReal.coe_mul]

include hl hf in
theorem kt_at (t : Fin 64) (c : Fin 512) :
    k0_pay16 (k0_pay2 l) k0_pay4 (k0_pay6 xf) (k0_pay7 l) (ix2 t c)
      = ((k X L (64 * n + t.val) c.val * Real.exp (b X L n 32 c.val - b X L n t.val c.val) : ℝ) : EReal) := by
  pointwise [k0_pay16, k0_pay11, b_at hl hf, k_at hl hf]
  rw [← EReal.coe_sub, Ideal.exp_coe, ← EReal.coe_mul]

variable (l xq xf xv) in
/-- A chunk's outputs from the state before it. -/
def outs (st : FVec Ideal S128x512 .f32) : FVec Ideal S64x512 .f32 :=
  k0_pay21 k0_pay3 (k0_pay13 (k0_pay2 l) k0_pay4 (k0_pay5 xq) (k0_pay6 xf) (k0_pay7 l))
    (k0_pay15 (k0_pay2 l) k0_pay4 (k0_pay5 xq) (k0_pay6 xf) (k0_pay7 l)) (k0_pay16 (k0_pay2 l) k0_pay4 (k0_pay6 xf) (k0_pay7 l))
    (k0_pay17 xv) (k0_pay18 st) (k0_pay19 (k0_pay2 l) k0_pay3 k0_pay4 (k0_pay5 xq) (k0_pay6 xf) (k0_pay7 l))
    (k0_pay20 (k0_pay2 l) k0_pay4 (k0_pay5 xq) (k0_pay6 xf) (k0_pay7 l))

variable (l xf xv) in
/-- The state after a chunk from the state before it. -/
def next (st : FVec Ideal S128x512 .f32) : FVec Ideal S128x512 .f32 :=
  k0_pay23 st (k0_pay12 (k0_pay2 l) k0_pay4 (k0_pay6 xf) (k0_pay7 l)) (k0_pay14 (k0_pay2 l) k0_pay4 (k0_pay6 xf) (k0_pay7 l)) (k0_pay17 xv)

variable {st : FVec Ideal S128x512 .f32} (hs : ∀ (d : Fin 128) (c : Fin 512), st (ix2 d c) = (state X L n d.val c.val : EReal))

include hl hf hv hs in
theorem next_at (d : Fin 128) (c : Fin 512) : next l xf xv st (ix2 d c) = (state X L (n + 1) d.val c.val : EReal) := by
  unfold next
  pointwise [k0_pay23, k0_pay12, k0_pay17, b_at hl hf, kh_at hl hf, hv, hs]
  have e : ∀ h, h = c.val / 128 * 128 →
      ∑ s : Fin 64, ((X (64 * n + s.val) (2560 + (h + d.val)) : ℝ) : EReal)
        * ((k X L (64 * n + s.val) c.val * Real.exp (b X L n 63 c.val - b X L n s.val c.val) : ℝ) : EReal)
      = ((∑ s : Fin 64, v X (64 * n + s.val) (c.val / 128 * 128 + d.val)
        * (k X L (64 * n + s.val) c.val * Real.exp (b X L n 63 c.val - b X L n s.val c.val)) : ℝ) : EReal) := by
    rintro h rfl
    simp only [← EReal.coe_mul, sum_coe]
    rfl
  have split : ∀ x : EReal, x = ((∑ s : Fin 64, v X (64 * n + s.val) (c.val / 128 * 128 + d.val)
        * (k X L (64 * n + s.val) c.val * Real.exp (b X L n 63 c.val - b X L n s.val c.val)) : ℝ) : EReal) →
      (state X L n d.val c.val : EReal) * Ideal.exp (b X L n 63 c.val) + x = (state X L (n + 1) d.val c.val : EReal) := by
    rintro x rfl
    rw [Ideal.exp_coe, ← EReal.coe_mul, ← EReal.coe_add]
    rfl
  have hc := c.isLt
  refine split _ ?_
  by_cases h0 : c.val < 128
  · rw [dif_pos h0]
    exact (by simpa only [zero_add] using e 0 (by omega))
  rw [dif_neg h0]
  by_cases h1 : c.val - 128 < 128
  · rw [dif_pos h1, show 128 + (c.val - 128) = c.val by omega]
    exact e 128 (by omega)
  rw [dif_neg h1]
  by_cases h2 : c.val - 128 - 128 < 128
  · rw [dif_pos h2, show 256 + (c.val - 128 - 128) = c.val by omega]
    exact e 256 (by omega)
  rw [dif_neg h2, show 384 + (c.val - 128 - 128 - 128) = c.val by omega]
  exact e 384 (by omega)

include hl hq hf hv hs in
theorem outs_at (t : Fin 64) (c : Fin 512) :
    outs l xq xf xv st (ix2 t c) = (out X L n t.val (c.val / 128 * 128) (c.val % 128) : EReal) := by
  unfold outs
  pointwise [k0_pay21, k0_pay19, k0_pay20, k0_pay17, k0_pay18, qe_at hl hq hf, qt_at hl hq hf, kt_at hl hf, tril_at, hv, hs]
  have hc := c.isLt
  by_cases h0 : c.val < 128
  · rw [dif_pos h0, show c.val / 128 * 128 = 0 by omega, show c.val % 128 = c.val by omega]
    exact (by simpa only [zero_add] using head_real X L n t.val 0 c.val)
  rw [dif_neg h0]
  by_cases h1 : c.val - 128 < 128
  · rw [dif_pos h1, show c.val / 128 * 128 = 128 by omega, show c.val % 128 = c.val - 128 by omega]
    exact head_real X L n t.val 128 _
  rw [dif_neg h1]
  by_cases h2 : c.val - 128 - 128 < 128
  · rw [dif_pos h2, show c.val / 128 * 128 = 256 by omega, show c.val % 128 = c.val - 128 - 128 by omega]
    exact head_real X L n t.val 256 _
  rw [dif_neg h2, show c.val / 128 * 128 = 384 by omega, show c.val % 128 = c.val - 128 - 128 - 128 by omega]
  exact head_real X L n t.val 384 _

end Chunk

end Cert.Proof.HgrnKer

end
-- ==== Proof.HgrnOut.lean ====
module

public import proofs.«01_k».proof.Proof.Gen.Kernel13Ideal.Value
public import proofs.«01_k».proof.Proof.HgrnKer

set_option maxRecDepth 16384

@[expose] public section
noncomputable section

namespace Cert.Proof.HgrnOut

open Cert.Kernel13Ideal Cert.Kernel13Ideal.Gen Cert.Proof.Hgrn Cert.Proof.HgrnKer
open Idealize.ShloMosaic Idealize.ShloMosaic.TcCoe Idealize.SL.Sem
open Idealize.ShloMosaic.Pipeline (Dat)

theorem rows_in (i : ℕ) (h : i < 8) : ∀ a : Fin 2, (![64 * i, 0] : Fin 2 → ℕ) a + (![64, 512] : Fin 2 → ℕ) a ≤ S512x512.size a := by
  intro a
  fin_cases a
  · show 64 * i + 64 ≤ 512
    omega
  · show 0 + 512 ≤ 512
    omega

/-- The rows of chunk `i` of a block. -/
def cut (x : Vec Ideal S512x512 .f32) (i : ℕ) (h : i < 8) : Vec Ideal S64x512 .f32 :=
  View.ld x (Rect.unit ![64 * i, 0] ![64, 512] (rows_in i h))

theorem cut_at (x : Vec Ideal S512x512 .f32) (i : ℕ) (h : i < 8) (t : Fin 64) (c : Fin 512) :
    cut x i h (ix2 t c) = x (ix2 ⟨64 * i + t.val, by omega⟩ c) := by
  unfold cut
  refine congrArg x ?_
  funext a
  fin_cases a
  · exact Fin.ext (by simp [Rect.unit, Nat.add_comm])
  · exact Fin.ext (by simp [Rect.unit])

/-- The state after `n` chunks of a block. -/
def chain (l : Vec Ideal S2x512 .f32) (xf xv : Vec Ideal S512x512 .f32) (s : FVec Ideal S128x512 .f32) :
    (n : ℕ) → n ≤ 8 → FVec Ideal S128x512 .f32
  | 0, _ => s
  | n + 1, h => next l (cut xf n h) (cut xv n h) (chain l xf xv s n (Nat.le_of_succ_le h))

section Steps
variable (l : Vec Ideal S2x512 .f32) (xq xf xv : Vec Ideal S64x512 .f32) (s : FVec Ideal S128x512 .f32)

/-- The later chunks of a point take the same step as the first. -/
theorem next_1 : k0_pay42 s (k0_pay30 (k0_pay2 l) k0_pay4 (k0_pay25 (k0_pay2 l) xf)) (k0_pay32 (k0_pay2 l) k0_pay4 (k0_pay25 (k0_pay2 l) xf))
    (k0_pay35 xv) = next l xf xv s := by sl_kernel_rfl

theorem next_2 : k0_pay62 s (k0_pay50 k0_pay4 (k0_pay44 (k0_pay2 l) xf) (k0_pay45 (k0_pay2 l)))
    (k0_pay52 k0_pay4 (k0_pay44 (k0_pay2 l) xf) (k0_pay45 (k0_pay2 l))) (k0_pay55 xv) = next l xf xv s := by sl_kernel_rfl

theorem next_3 : k0_pay79 s (k0_pay68 k0_pay4 (k0_pay64 (k0_pay2 l) xf)) (k0_pay70 k0_pay4 (k0_pay64 (k0_pay2 l) xf)) (k0_pay73 xv)
    = next l xf xv s := by sl_kernel_rfl

theorem next_4 : k0_pay97 s (k0_pay85 k0_pay4 (k0_pay81 (k0_pay2 l) xf))
    (k0_pay87 k0_pay4 (k0_pay81 (k0_pay2 l) xf) (FloatOps.ofBits FTy.f32 1065353216#32)) (k0_pay90 xv) = next l xf xv s := by sl_kernel_rfl

theorem next_5 : k0_pay116 s (k0_pay104 k0_pay4 (k0_pay99 (k0_pay2 l) xf)) (k0_pay106 k0_pay4 (k0_pay99 (k0_pay2 l) xf) k0_pay100)
    (k0_pay109 xv) = next l xf xv s := by sl_kernel_rfl

theorem next_6 : k0_pay133 s (k0_pay122 k0_pay4 (k0_pay118 (k0_pay2 l) xf))
    (k0_pay124 k0_pay4 (k0_pay118 (k0_pay2 l) xf) (k0_pay119 (k0_pay2 l) xf)) (k0_pay127 xv) = next l xf xv s := by sl_kernel_rfl

theorem next_7 : k0_pay149 s (k0_pay139 k0_pay4 (k0_pay135 (k0_pay2 l) xf))
    (k0_pay141 k0_pay4 (k0_pay135 (k0_pay2 l) xf) (k0_pay136 (k0_pay2 l) xf)) (k0_pay144 xv) = next l xf xv s :=
  (show _ = shapeCast S128x512 (next l xf xv s) shapeCasts_S128x512_S128x512 by sl_kernel_rfl).trans (shapeCast_self _ _)

end Steps

variable (m : (ℓ : Loc nD τ sig) → Buf (Elt Ideal) ℓ)

/-- The state a point starts from: zero at a block row's first point, else what the point before left. -/
theorem scr_B (c : Dev nD) (t : Fin cfg0.N) (h0 : ¬t.val % 8 = 0) :
    (outsAt0 m c t.val t.isLt).2.2.2
      = chain (iblk m c 4 t) (iblk m c 1 t) (iblk m c 2 t) (outsAt0 m c (t.val - 1) (by omega)).2.2.2 8 le_rfl := by
  rw [outsAt0_B m c t h0]
  frame_out
  rw [(Memref.isWhole_whole _).read_unread]
  rw [next_1, next_2, next_3, next_4, next_5, next_6, next_7]
  rfl

theorem scr_A (c : Dev nD) (t : Fin cfg0.N) (h0 : t.val % 8 = 0) :
    (outsAt0 m c t.val t.isLt).2.2.2
      = chain (iblk m c 4 t) (iblk m c 1 t) (iblk m c 2 t) k0_pay1 8 le_rfl := by
  rw [outsAt0_A m c t h0]
  frame_out
  rw [next_1, next_2, next_3, next_4, next_5, next_6, next_7]
  rfl

/-- Chunk `i`'s outputs and the state before it, at a point that starts from the state `s`. -/
def tile (c : Dev nD) (t : Fin cfg0.N) (s : FVec Ideal S128x512 .f32) (i : ℕ) (h : i < 8) : FVec Ideal S64x512 .f32 :=
  outs (iblk m c 4 t) (cut (iblk m c 0 t) i h) (cut (iblk m c 1 t) i h) (cut (iblk m c 2 t) i h)
    (chain (iblk m c 4 t) (iblk m c 1 t) (iblk m c 2 t) s i h.le)

/-- The state before chunk `i` as it is written out. -/
def kept (c : Dev nD) (t : Fin cfg0.N) (s : FVec Ideal S128x512 .f32) (i : ℕ) (h : i < 8) : FVec Ideal S1x128x512 .bf16 :=
  k0_pay22 (k0_pay18 (chain (iblk m c 4 t) (iblk m c 1 t) (iblk m c 2 t) s i h.le))

/-- The normed and gated outputs of a point from its outputs. -/
def gated (c : Dev nD) (t : Fin cfg0.N) (o : FVec Ideal S512x512 .f32) : FVec Ideal S512x512 .bf16 :=
  k0_pay155 (k0_pay150 o) (iblk m c 3 t) (k0_pay151 o) (k0_pay152 o) (k0_pay153 o) (k0_pay154 o) (iblk m c 5 t)

theorem whole (C : Vec Ideal S512x512 .f32) :
    (View.ld C (Rect.unit ![0, 0] ![512, 512] inb_S512x512_S512x512_0_0) : Vec Ideal S512x512 .f32) = C := by
  funext j
  refine congrArg C (funext fun a => ?_)
  fin_cases a
  · exact Fin.ext (by simp [Rect.unit])
  · exact Fin.ext (by simp [Rect.unit])

theorem o_A (c : Dev nD) (t : Fin cfg0.N) (h0 : t.val % 8 = 0) (V : S512x512.Idx → EReal)
    (hV : ∀ (i : ℕ) (h : i < 8) (y : S512x512.Idx) (x : S64x512.Idx), (y 0).val = 64 * i + (x 0).val → (y 1).val = (x 1).val →
      tile m c t k0_pay1 i h x = V y) (y : S512x512.Idx) : (outsAt0 m c t.val t.isLt).1 y = V y := by
  rw [outsAt0_A m c t h0]
  frame_out
  rw [next_1, next_2, next_3, next_4, next_5, next_6]
  canon_tiles x hx
  · exact (show _ = tile m c t k0_pay1 7 _ x by sl_kernel_rfl).trans (hV 7 (by decide) y x (by omega) hx1)
  · exact (show _ = tile m c t k0_pay1 6 _ x by sl_kernel_rfl).trans (hV 6 (by decide) y x (by omega) hx1)
  · exact (show _ = tile m c t k0_pay1 5 _ x by sl_kernel_rfl).trans (hV 5 (by decide) y x (by omega) hx1)
  · exact (show _ = tile m c t k0_pay1 4 _ x by sl_kernel_rfl).trans (hV 4 (by decide) y x (by omega) hx1)
  · exact (show _ = tile m c t k0_pay1 3 _ x by sl_kernel_rfl).trans (hV 3 (by decide) y x (by omega) hx1)
  · exact (show _ = tile m c t k0_pay1 2 _ x by sl_kernel_rfl).trans (hV 2 (by decide) y x (by omega) hx1)
  · exact (show _ = tile m c t k0_pay1 1 _ x by sl_kernel_rfl).trans (hV 1 (by decide) y x (by omega) hx1)
  · exact (show _ = tile m c t k0_pay1 0 _ x by sl_kernel_rfl).trans (hV 0 (by decide) y x (by omega) hx1)

theorem st_A (c : Dev nD) (t : Fin cfg0.N) (h0 : t.val % 8 = 0) (V : S8x128x512.Idx → EReal)
    (hV : ∀ (i : ℕ) (h : i < 8) (y : S8x128x512.Idx) (x : S1x128x512.Idx), (y 0).val = i + (x 0).val → (y 1).val = (x 1).val →
      (y 2).val = (x 2).val → kept m c t k0_pay1 i h x = V y) (y : S8x128x512.Idx) : (outsAt0 m c t.val t.isLt).2.2.1 y = V y := by
  rw [outsAt0_A m c t h0]
  frame_out
  rw [next_1, next_2, next_3, next_4, next_5, next_6]
  canon_tiles x hx
  · exact (show _ = kept m c t k0_pay1 7 _ x by sl_kernel_rfl).trans (hV 7 (by decide) y x (by omega) hx1 hx2)
  · exact (show _ = kept m c t k0_pay1 6 _ x by sl_kernel_rfl).trans (hV 6 (by decide) y x (by omega) hx1 hx2)
  · exact (show _ = kept m c t k0_pay1 5 _ x by sl_kernel_rfl).trans (hV 5 (by decide) y x (by omega) hx1 hx2)
  · exact (show _ = kept m c t k0_pay1 4 _ x by sl_kernel_rfl).trans (hV 4 (by decide) y x (by omega) hx1 hx2)
  · exact (show _ = kept m c t k0_pay1 3 _ x by sl_kernel_rfl).trans (hV 3 (by decide) y x (by omega) hx1 hx2)
  · exact (show _ = kept m c t k0_pay1 2 _ x by sl_kernel_rfl).trans (hV 2 (by decide) y x (by omega) hx1 hx2)
  · exact (show _ = kept m c t k0_pay1 1 _ x by sl_kernel_rfl).trans (hV 1 (by decide) y x (by omega) hx1 hx2)
  · exact (show _ = kept m c t k0_pay1 0 _ x by sl_kernel_rfl).trans (hV 0 (by decide) y x (by omega) hx1 hx2)

theorem rec_A (c : Dev nD) (t : Fin cfg0.N) (h0 : t.val % 8 = 0) :
    (outsAt0 m c t.val t.isLt).2.1 = gated m c t (outsAt0 m c t.val t.isLt).1 := by
  rw [outsAt0_A m c t h0]
  frame_out
  rw [View.readCov_eq_canon']
  generalize View.canon (Val := Elt Ideal) _ = C
  exact congrArg (gated m c t) (whole C)

theorem o_B (c : Dev nD) (t : Fin cfg0.N) (h0 : ¬t.val % 8 = 0) (V : S512x512.Idx → EReal)
    (hV : ∀ (i : ℕ) (h : i < 8) (y : S512x512.Idx) (x : S64x512.Idx), (y 0).val = 64 * i + (x 0).val → (y 1).val = (x 1).val →
      tile m c t (outsAt0 m c (t.val - 1) (by omega)).2.2.2 i h x = V y) (y : S512x512.Idx) : (outsAt0 m c t.val t.isLt).1 y = V y := by
  rw [outsAt0_B m c t h0]
  frame_out
  simp only [(Memref.isWhole_whole _).read_unread]
  rw [next_1, next_2, next_3, next_4, next_5, next_6]
  canon_tiles x hx
  · exact (show _ = tile m c t _ 7 _ x by sl_kernel_rfl).trans (hV 7 (by decide) y x (by omega) hx1)
  · exact (show _ = tile m c t _ 6 _ x by sl_kernel_rfl).trans (hV 6 (by decide) y x (by omega) hx1)
  · exact (show _ = tile m c t _ 5 _ x by sl_kernel_rfl).trans (hV 5 (by decide) y x (by omega) hx1)
  · exact (show _ = tile m c t _ 4 _ x by sl_kernel_rfl).trans (hV 4 (by decide) y x (by omega) hx1)
  · exact (show _ = tile m c t _ 3 _ x by sl_kernel_rfl).trans (hV 3 (by decide) y x (by omega) hx1)
  · exact (show _ = tile m c t _ 2 _ x by sl_kernel_rfl).trans (hV 2 (by decide) y x (by omega) hx1)
  · exact (show _ = tile m c t _ 1 _ x by sl_kernel_rfl).trans (hV 1 (by decide) y x (by omega) hx1)
  · exact (show _ = tile m c t _ 0 _ x by sl_kernel_rfl).trans (hV 0 (by decide) y x (by omega) hx1)

theorem st_B (c : Dev nD) (t : Fin cfg0.N) (h0 : ¬t.val % 8 = 0) (V : S8x128x512.Idx → EReal)
    (hV : ∀ (i : ℕ) (h : i < 8) (y : S8x128x512.Idx) (x : S1x128x512.Idx), (y 0).val = i + (x 0).val → (y 1).val = (x 1).val →
      (y 2).val = (x 2).val → kept m c t (outsAt0 m c (t.val - 1) (by omega)).2.2.2 i h x = V y) (y : S8x128x512.Idx) : (outsAt0 m c t.val t.isLt).2.2.1 y = V y := by
  rw [outsAt0_B m c t h0]
  frame_out
  simp only [(Memref.isWhole_whole _).read_unread]
  rw [next_1, next_2, next_3, next_4, next_5, next_6]
  canon_tiles x hx
  · exact (show _ = kept m c t _ 7 _ x by sl_kernel_rfl).trans (hV 7 (by decide) y x (by omega) hx1 hx2)
  · exact (show _ = kept m c t _ 6 _ x by sl_kernel_rfl).trans (hV 6 (by decide) y x (by omega) hx1 hx2)
  · exact (show _ = kept m c t _ 5 _ x by sl_kernel_rfl).trans (hV 5 (by decide) y x (by omega) hx1 hx2)
  · exact (show _ = kept m c t _ 4 _ x by sl_kernel_rfl).trans (hV 4 (by decide) y x (by omega) hx1 hx2)
  · exact (show _ = kept m c t _ 3 _ x by sl_kernel_rfl).trans (hV 3 (by decide) y x (by omega) hx1 hx2)
  · exact (show _ = kept m c t _ 2 _ x by sl_kernel_rfl).trans (hV 2 (by decide) y x (by omega) hx1 hx2)
  · exact (show _ = kept m c t _ 1 _ x by sl_kernel_rfl).trans (hV 1 (by decide) y x (by omega) hx1 hx2)
  · exact (show _ = kept m c t _ 0 _ x by sl_kernel_rfl).trans (hV 0 (by decide) y x (by omega) hx1 hx2)

theorem rec_B (c : Dev nD) (t : Fin cfg0.N) (h0 : ¬t.val % 8 = 0) :
    (outsAt0 m c t.val t.isLt).2.1 = gated m c t (outsAt0 m c t.val t.isLt).1 := by
  rw [outsAt0_B m c t h0]
  frame_out
  rw [View.readCov_eq_canon']
  generalize View.canon (Val := Elt Ideal) _ = C
  exact congrArg (gated m c t) (whole C)

end Cert.Proof.HgrnOut
end
-- ==== Proof.HgrnFin.lean ====
/- The gated recurrence's call: its three results as formulas of the arguments. -/
module

public import proofs.«01_k».proof.Proof.HgrnOut

@[expose] public section

set_option maxRecDepth 16384

noncomputable section

open Idealize.ShloMosaic Idealize.ShloMosaic.TcCoe Idealize.SL.Sem

namespace Cert.Proof.HgrnFin

open Cert.Kernel13Ideal Cert.Kernel13Ideal.Gen Cert.Proof.Norm Cert.Proof.Hgrn Cert.Proof.HgrnKer Cert.Proof.HgrnOut
open Idealize.ShloMosaic.Pipeline (Dat)

section Formulas
variable (X L : ℕ → ℕ → ℝ)

/-- The output of row `r` at channel `c`. -/
def orow (r c : ℕ) : ℝ := out X L (r / 64) (r % 64) (c / 128 * 128) (c % 128)

/-- The output over its head's root mean square, times the gain, times the gate. -/
def grow (G : Fin 512 → EReal) (r : ℕ) (c : Fin 512) : EReal :=
  (orow X L r c.val : EReal)
    * Ideal.rsqrt (Ideal.div (∑ i : Fin 128, (orow X L r (c.val / 128 * 128 + i.val) : EReal) * (orow X L r (c.val / 128 * 128 + i.val) : EReal))
        (Ideal.ofBits .f32 0x43000000#32) + Ideal.ofBits .f32 0x358637BD#32)
    * G c * ((X r (3072 + c.val) * σ (X r (3072 + c.val)) : ℝ) : EReal)

def out_o : FVec Ideal S4096x512 .f32 := fun j => (orow X L (j 0).val (j 1).val : EReal)
def out_st : FVec Ideal S64x128x512 .bf16 := fun j => (state X L (j 0).val (j 1).val (j 2).val : EReal)
def out_rec (G : Fin 512 → EReal) : FVec Ideal S4096x512 .bf16 := fun j => grow X L G (j 0).val (j 1)

variable {X L} {n : ℕ} {l : Vec Ideal S2x512 .f32} {xq xf xv : Vec Ideal S512x512 .f32} {s : FVec Ideal S128x512 .f32}
  (hl : ∀ (r : Fin 2) (c : Fin 512), l (ix2 r c) = (L r.val c.val : EReal))
  (hq : ∀ (r : Fin 512) (c : Fin 512), xq (ix2 r c) = (X (512 * n + r.val) (1536 + c.val) : EReal))
  (hf : ∀ (r : Fin 512) (c : Fin 512), xf (ix2 r c) = (X (512 * n + r.val) (2048 + c.val) : EReal))
  (hv : ∀ (r : Fin 512) (c : Fin 512), xv (ix2 r c) = (X (512 * n + r.val) (2560 + c.val) : EReal))
  (hs : ∀ (d : Fin 128) (c : Fin 512), s (ix2 d c) = (state X L (8 * n) d.val c.val : EReal))

theorem cut_real {o : ℕ} {x : Vec Ideal S512x512 .f32} (hx : ∀ (r : Fin 512) (c : Fin 512), x (ix2 r c) = (X (512 * n + r.val) (o + c.val) : EReal))
    (i : ℕ) (h : i < 8) (t : Fin 64) (c : Fin 512) : cut x i h (ix2 t c) = (X (64 * (8 * n + i) + t.val) (o + c.val) : EReal) := by
  rw [cut_at, hx]
  congr 2
  show 512 * n + (64 * i + t.val) = _
  omega

include hl hf hv hs in
theorem chain_at (i : ℕ) (h : i ≤ 8) (d : Fin 128) (c : Fin 512) :
    chain l xf xv s i h (ix2 d c) = (state X L (8 * n + i) d.val c.val : EReal) := by
  induction i generalizing d c with
  | zero => exact hs d c
  | succ i ih => exact next_at hl (cut_real hf i h) (cut_real hv i h) (ih (Nat.le_of_succ_le h)) d c

include hl hq hf hv hs in
theorem outs_real (i : ℕ) (h : i < 8) (t : Fin 64) (c : Fin 512) :
    outs l (cut xq i h) (cut xf i h) (cut xv i h) (chain l xf xv s i h.le) (ix2 t c) = (orow X L (512 * n + (64 * i + t.val)) c.val : EReal) := by
  rw [outs_at hl (cut_real hq i h) (cut_real hf i h) (cut_real hv i h) (chain_at hl hf hv hs i h.le)]
  unfold orow
  rw [show (512 * n + (64 * i + t.val)) / 64 = 8 * n + i by omega, show (512 * n + (64 * i + t.val)) % 64 = t.val by omega]

end Formulas

variable (m : (ℓ : Loc nD τ sig) → Buf (Elt Ideal) ℓ) (c : Dev nD)

def X (c : Dev nD) : ℕ → ℕ → ℝ := re (m ((c : Thread nD τ).loc main_arg0))
def L (c : Dev nD) : ℕ → ℕ → ℝ := re (m ((c : Thread nD τ).loc main_arg1))

/-- Each window's block index: the rows at its point, the lower bounds and the gain whole. -/
theorem idx : ∀ t : Fin cfg0.N, win0_0.index t = ![t.val, 3] ∧ win0_1.index t = ![t.val, 4] ∧ win0_2.index t = ![t.val, 5]
    ∧ win0_3.index t = ![t.val, 6] ∧ win0_4.index t = ![0, 0] ∧ win0_5.index t = ![0, 0] ∧ win0_6.index t = ![t.val, 0]
    ∧ win0_7.index t = ![t.val, 0] ∧ win0_8.index t = ![t.val, 0, 0] :=
  (by decide +kernel : ∀ t : Fin grid0.N, _)

variable {m} {c} (hX : ∀ i, Real (m ((c : Thread nD τ).loc main_arg0) i)) (hL : ∀ i, Real (m ((c : Thread nD τ).loc main_arg1) i))

include hL in
theorem blk_l (t : Fin cfg0.N) (r : Fin 2) (d : Fin 512) : iblk m c 4 t (ix2 r d) = (L m c r.val d.val : EReal) := by
  refine Eq.trans ?_ (re_at hL r d)
  blk_point [iblk, V, idx t]

include hX in
theorem blk_q (t : Fin cfg0.N) (r : Fin 512) (d : Fin 512) : iblk m c 0 t (ix2 r d) = (X m c (512 * t.val + r.val) (1536 + d.val) : EReal) := by
  have ht : t.val < 8 := t.isLt
  refine Eq.trans ?_ (re_at hX ⟨512 * t.val + r.val, by omega⟩ ⟨1536 + d.val, by omega⟩)
  blk_point [iblk, V, idx t]

include hX in
theorem blk_f (t : Fin cfg0.N) (r : Fin 512) (d : Fin 512) : iblk m c 1 t (ix2 r d) = (X m c (512 * t.val + r.val) (2048 + d.val) : EReal) := by
  have ht : t.val < 8 := t.isLt
  refine Eq.trans ?_ (re_at hX ⟨512 * t.val + r.val, by omega⟩ ⟨2048 + d.val, by omega⟩)
  blk_point [iblk, V, idx t]

include hX in
theorem blk_v (t : Fin cfg0.N) (r : Fin 512) (d : Fin 512) : iblk m c 2 t (ix2 r d) = (X m c (512 * t.val + r.val) (2560 + d.val) : EReal) := by
  have ht : t.val < 8 := t.isLt
  refine Eq.trans ?_ (re_at hX ⟨512 * t.val + r.val, by omega⟩ ⟨2560 + d.val, by omega⟩)
  blk_point [iblk, V, idx t]

include hX in
theorem blk_g (t : Fin cfg0.N) (r : Fin 512) (d : Fin 512) : iblk m c 3 t (ix2 r d) = (X m c (512 * t.val + r.val) (3072 + d.val) : EReal) := by
  have ht : t.val < 8 := t.isLt
  refine Eq.trans ?_ (re_at hX ⟨512 * t.val + r.val, by omega⟩ ⟨3072 + d.val, by omega⟩)
  blk_point [iblk, V, idx t]

/-- The gain of a channel. -/
def gain (g : FVec Ideal S1x512 .f32) (d : Fin 512) : EReal := g (ix2 0 d)

theorem blk_gain (t : Fin cfg0.N) (d : Fin 512) : iblk m c 5 t (ix2 (0 : Fin 1) d) = gain (m ((c : Thread nD τ).loc main_arg2)) d := by
  unfold gain
  blk_point [iblk, V, idx t]

/-- The state that a point starts from: zero at the first point, after it what the point before left. -/
def start (m : (ℓ : Loc nD τ sig) → Buf (Elt Ideal) ℓ) (c : Dev nD) (t : Fin cfg0.N) : FVec Ideal S128x512 .f32 :=
  if t.val % 8 = 0 then k0_pay1 else (outsAt0 m c (t.val - 1) (by omega)).2.2.2

theorem scr_eq (t : Fin cfg0.N) :
    (outsAt0 m c t.val t.isLt).2.2.2 = chain (iblk m c 4 t) (iblk m c 1 t) (iblk m c 2 t) (start m c t) 8 le_rfl := by
  unfold start
  by_cases h0 : t.val % 8 = 0
  · rw [if_pos h0, scr_A m c t h0]
  · rw [if_neg h0, scr_B m c t h0]

include hX hL in
theorem start_at (n : ℕ) : ∀ (h : n < cfg0.N) (d : Fin 128) (x : Fin 512),
    start m c ⟨n, h⟩ (ix2 d x) = (state (X m c) (L m c) (8 * n) d.val x.val : EReal) := by
  induction n with
  | zero =>
    intro h d x
    unfold start
    rw [if_pos (by rfl)]
    pointwise [k0_pay1]
    exact EReal.coe_zero.symm
  | succ n ih =>
    intro h d x
    have hn : n + 1 < 8 := h
    unfold start
    rw [if_neg (by show ¬(n + 1) % 8 = 0; omega)]
    refine (congrFun (scr_eq (m := m) (c := c) ⟨n, by omega⟩) (ix2 d x)).trans ?_
    exact chain_at (n := n) (blk_l hL _) (blk_f hX ⟨n, by omega⟩) (blk_v hX ⟨n, by omega⟩) (ih (by omega)) 8 le_rfl d x

include hX hL in
theorem tile_at (t : Fin cfg0.N) (i : ℕ) (h : i < 8) (x : S64x512.Idx) :
    tile m c t (start m c t) i h x = (orow (X m c) (L m c) (512 * t.val + (64 * i + (x 0).val)) (x 1).val : EReal) :=
  (congrArg _ (ix2_eta x).symm).trans
    (outs_real (n := t.val) (blk_l hL t) (blk_q hX t) (blk_f hX t) (blk_v hX t) (start_at hX hL t.val t.isLt) i h (x 0) (x 1))

include hX hL in
theorem kept_at (t : Fin cfg0.N) (i : ℕ) (h : i < 8) (x : S1x128x512.Idx) :
    kept m c t (start m c t) i h x = (state (X m c) (L m c) (8 * t.val + i) (x 1).val (x 2).val : EReal) := by
  refine Eq.trans ?_ (chain_at (n := t.val) (blk_l hL t) (blk_f hX t) (blk_v hX t) (start_at hX hL t.val t.isLt) i h.le (x 1) (x 2))
  unfold kept
  pointwise [k0_pay22, k0_pay18]

include hX hL in
theorem o_at (t : Fin cfg0.N) (y : S512x512.Idx) :
    (outsAt0 m c t.val t.isLt).1 y = (orow (X m c) (L m c) (512 * t.val + (y 0).val) (y 1).val : EReal) := by
  have e : ∀ (i : ℕ) (h : i < 8) (y : S512x512.Idx) (x : S64x512.Idx), (y 0).val = 64 * i + (x 0).val → (y 1).val = (x 1).val →
      tile m c t (start m c t) i h x = (orow (X m c) (L m c) (512 * t.val + (y 0).val) (y 1).val : EReal) := by
    intro i h y x h0 h1
    rw [h0, h1]
    exact tile_at hX hL t i h x
  unfold start at e
  by_cases h0 : t.val % 8 = 0
  · simp only [if_pos h0] at e
    exact o_A m c t h0 _ e y
  · simp only [if_neg h0] at e
    exact o_B m c t h0 _ e y

include hX hL in
theorem st_at (t : Fin cfg0.N) (y : S8x128x512.Idx) :
    (outsAt0 m c t.val t.isLt).2.2.1 y = (state (X m c) (L m c) (8 * t.val + (y 0).val) (y 1).val (y 2).val : EReal) := by
  have e : ∀ (i : ℕ) (h : i < 8) (y : S8x128x512.Idx) (x : S1x128x512.Idx), (y 0).val = i + (x 0).val → (y 1).val = (x 1).val →
      (y 2).val = (x 2).val →
      kept m c t (start m c t) i h x = (state (X m c) (L m c) (8 * t.val + (y 0).val) (y 1).val (y 2).val : EReal) := by
    intro i h y x h0 h1 h2
    have hx : (x 0).val < 1 := (x 0).isLt
    rw [show (y 0).val = i by omega, h1, h2]
    exact kept_at hX hL t i h x
  unfold start at e
  by_cases h0 : t.val % 8 = 0
  · simp only [if_pos h0] at e
    exact st_A m c t h0 _ e y
  · simp only [if_neg h0] at e
    exact st_B m c t h0 _ e y

include hX hL in
theorem rec_at (t : Fin cfg0.N) (r d : Fin 512) :
    (outsAt0 m c t.val t.isLt).2.1 (ix2 r d) = grow (X m c) (L m c) (gain (m ((c : Thread nD τ).loc main_arg2))) (512 * t.val + r.val) d := by
  have e : (outsAt0 m c t.val t.isLt).2.1 = gated m c t (outsAt0 m c t.val t.isLt).1 := by
    by_cases h0 : t.val % 8 = 0
    · exact rec_A m c t h0
    · exact rec_B m c t h0
  rw [e]
  unfold gated
  pointwise [k0_pay155, k0_pay150, k0_pay151, k0_pay152, k0_pay153, k0_pay154, o_at hX hL t, blk_g hX t, blk_gain]
  rw [zero_sub, logistic_real, ← EReal.coe_mul]
  have hd := d.isLt
  have e1 : d.val / 128 = 0 ∨ d.val / 128 = 1 ∨ d.val / 128 = 2 ∨ d.val / 128 = 3 := by omega
  unfold grow
  rcases e1 with h | h | h | h <;> rw [h]
  · rw [dif_pos (by omega : d.val < 128)]
    simp only [Nat.zero_mul, zero_add]
  · rw [dif_neg (by omega : ¬d.val < 128), dif_pos (by omega : d.val - 128 < 128)]
  · rw [dif_neg (by omega : ¬d.val < 128), dif_neg (by omega : ¬d.val - 128 < 128), dif_pos (by omega : d.val - 128 - 128 < 128)]
  · rw [dif_neg (by omega : ¬d.val < 128), dif_neg (by omega : ¬d.val - 128 < 128), dif_neg (by omega : ¬d.val - 128 - 128 < 128)]

include hX hL in
theorem final_o : (dats m 0 c).arrAt 6 (cfgs 0).N = out_o (X m c) (L m c) := by
  refine (dats m 0 c).arrAt_eq_of_covers 6 _ (by decide +kernel) fun t hf y => ?_
  blk_simp
  rw [after0_6, o_at hX hL t y]
  simp only [out_o]
  blk_simp [idx t]
  rw [Nat.mul_comm]

include hX hL in
theorem final_rec : (dats m 0 c).arrAt 7 (cfgs 0).N = out_rec (X m c) (L m c) (gain (m ((c : Thread nD τ).loc main_arg2))) := by
  refine (dats m 0 c).arrAt_eq_of_covers 7 _ (by decide +kernel) fun t hf y => ?_
  blk_simp
  rw [after0_7]
  refine (congrArg _ (ix2_eta y).symm).trans ((rec_at hX hL t (y 0) (y 1)).trans ?_)
  simp only [out_rec]
  refine congrArg₂ _ ?_ (Fin.ext ?_) <;> blk_simp [idx t]
  rw [Nat.mul_comm]

include hX hL in
theorem final_st : (dats m 0 c).arrAt 8 (cfgs 0).N = out_st (X m c) (L m c) := by
  refine (dats m 0 c).arrAt_eq_of_covers 8 _ (by decide +kernel) fun t hf y => ?_
  blk_simp
  rw [after0_8, st_at hX hL t y]
  simp only [out_st]
  blk_simp [idx t]
  rw [Nat.mul_comm]

end Cert.Proof.HgrnFin

end
-- ==== Proof.HgrnRef.lean ====
/- The gated recurrence's reference: its three results as formulas of the arguments. -/
module

public import proofs.«01_k».proof.Proof.HgrnEnt
public import proofs.«01_k».proof.Proof.HgrnLoop
public import proofs.«01_k».proof.Proof.HgrnFin

@[expose] public section

set_option maxRecDepth 16384

noncomputable section

open Idealize.ShloMosaic Idealize.ShloMosaic.TcCoe Idealize.SL.Sem
open Idealize.ShloMosaic.StableHlo

namespace Cert.Proof.HgrnRef

open Cert.Reference13Ideal Cert.Reference13Ideal.Gen Cert.Reference13Ideal.Value Cert.Proof.Norm Cert.Proof.Hgrn Cert.Proof.HgrnGate
open Cert.Proof.HgrnEnt Cert.Proof.HgrnLoop
open Cert.Proof.HgrnFin (orow grow gain out_o out_st out_rec)

/-! ## The operations after the loop -/

/-- The chunks put back into rows. -/
def hrows (o : FVec Ideal S64x1x4x64x128 .f32) : FVec Ideal S1x4096x4x128 .f32 :=
  shapeCast S1x4096x4x128 (transpose S1x64x64x4x128 [1, 0, 3, 2, 4] o transposes_S64x1x4x64x128_S1x64x64x4x128_1_0_3_2_4)
    shapeCasts_S1x64x64x4x128_S1x4096x4x128

/-- One over the root mean square of each row and head. -/
def hscale (o : FVec Ideal S1x4096x4x128 .f32) : FVec Ideal S1x4096x4x1 .f32 :=
  Host.rsqrt (addf (Host.divf (broadcastInDim S1x4096x4x1 ![0, 1, 2] bcast_S1x4096x4_S1x4096x4x1_0_1_2 (Host.reduceAdd (mulf o o)
    (constant S_ .f32 0x00000000#32) reducesTo_S1x4096x4x128_S1x4096x4_d3 h_S_)) (broadcastInDim S1x4096x4x1 ![] bcast_S_S1x4096x4x1
      (constant S_ .f32 0x43000000#32))) (broadcastInDim S1x4096x4x1 ![] bcast_S_S1x4096x4x1 (constant S_ .f32 0x358637BD#32)))

def hgated (o : FVec Ideal S1x4096x4x128 .f32) (x : FVec Ideal S4096x3584 .f32) (g : FVec Ideal S1x512 .f32) : FVec Ideal S4096x512 .bf16 :=
  truncf .bf16 (mulf (shapeCast S4096x512 (mulf (mulf o (broadcastInDim S1x4096x4x128 ![0, 1, 2, 3] bcast_S1x4096x4x1_S1x4096x4x128_0_1_2_3 (hscale o)))
    (hwide (shapeCast S4x128 (shapeCast S512 g shapeCasts_S1x512_S512) shapeCasts_S512_S4x128))) shapeCasts_S1x4096x4x128_S4096x512)
    (hsilu (extractStridedSlice S4096x512 ![0, 3072] x slices_S4096x3584_S4096x512_0_3072))) bitsLt_bf16_f32

def hstates (s : FVec Ideal S64x1x4x128x128 .f32) : FVec Ideal S64x128x512 .bf16 :=
  truncf .bf16 (shapeCast S64x128x512 (transpose S64x128x4x128 [0, 3, 1, 2] (shapeCast S64x4x128x128 s shapeCasts_S64x1x4x128x128_S64x4x128x128)
    transposes_S64x4x128x128_S64x128x4x128_0_3_1_2) shapeCasts_S64x128x4x128_S64x128x512) bitsLt_bf16_f32

theorem hrows_at (o : FVec Ideal S64x1x4x64x128 .f32) (r : Fin 4096) (h : Fin 4) (d : Fin 128) :
    hrows o (ix4 0 r h d) = o (ix5 ⟨r.val / 64, by omega⟩ 0 h ⟨r.val % 64, by omega⟩ d) := by
  pointwise [hrows]

section Reals

variable {x : FVec Ideal S4096x3584 .f32} {o : FVec Ideal S64x1x4x64x128 .f32} {s : FVec Ideal S64x1x4x128x128 .f32} {X L : ℕ → ℕ → ℝ}
  (hx : ∀ (r : Fin 4096) (c : Fin 3584), x (ix2 r c) = (X r.val c.val : EReal))
  (ho : ∀ (r : Fin 64) (h : Fin 4) (t : Fin 64) (d : Fin 128), o (ix5 r 0 h t d) = (out X L r.val t.val (128 * h.val) d.val : EReal))
  (hs : ∀ (r : Fin 64) (h : Fin 4) (i d : Fin 128), s (ix5 r 0 h i d) = (state X L r.val d.val (128 * h.val + i.val) : EReal))

include ho in
theorem rows_real (r : Fin 4096) (h : Fin 4) (d : Fin 128) : hrows o (ix4 0 r h d) = (orow X L r.val (h.val * 128 + d.val) : EReal) := by
  rw [hrows_at, ho]
  unfold orow
  rw [show (h.val * 128 + d.val) / 128 * 128 = 128 * h.val by omega, show (h.val * 128 + d.val) % 128 = d.val by omega]

include ho in
theorem o_at (r : Fin 4096) (c : Fin 512) :
    shapeCast S4096x512 (hrows o) shapeCasts_S1x4096x4x128_S4096x512 (ix2 r c) = (orow X L r.val c.val : EReal) := by
  pointwise [rows_real ho]
  rw [Nat.div_add_mod']

include hx ho in
theorem gated_at (g : FVec Ideal S1x512 .f32) (r : Fin 4096) (c : Fin 512) : hgated (hrows o) x g (ix2 r c) = grow X L (gain g) r.val c := by
  have e := hsilu_at (Y := fun r c => X r (3072 + c)) (y := extractStridedSlice S4096x512 ![0, 3072] x slices_S4096x3584_S4096x512_0_3072)
    (fun r c => by pointwise [hx]) r c
  unfold grow
  pointwise [hgated, hscale, hwide, rows_real ho, e]
  rw [Nat.div_add_mod']
  rfl

include hs in
theorem states_at (n : Fin 64) (d : Fin 128) (c : Fin 512) : hstates s (ix3 n d c) = (state X L n.val d.val c.val : EReal) := by
  pointwise [hstates, hs]
  rw [Nat.div_add_mod]

end Reals

/-! ## The results -/

variable (m : (ℓ : Loc nD τ sig) → Buf (Elt Ideal) ℓ) (c : Dev nD)

abbrev X : ℕ → ℕ → ℝ := re (m ((c : Thread nD τ).loc main_arg0))
abbrev L : ℕ → ℕ → ℝ := re (m ((c : Thread nD τ).loc main_arg1))

variable {m c} (hX : ∀ i, Real (m ((c : Thread nD τ).loc main_arg0) i)) (hL : ∀ i, Real (m ((c : Thread nD τ).loc main_arg1) i))

include hX hL in
theorem at_start : At (entryContents preI m c) (X m c) (L m c) 0 := by
  have hx := re_at hX
  have hl := re_at hL
  refine ⟨fun r h t i => (congrFun (entry_q m c) _).trans ((hchunks_at _ r h t i).trans (hq_at hx _ h i)),
    fun r h t i => (congrFun (entry_k m c) _).trans ((hchunks_at _ r h t i).trans (hk_at hx hl _ h i)),
    fun r h t i => (congrFun (entry_v m c) _).trans ((hchunks_at _ r h t i).trans (hv_at hx _ h i)),
    fun r h t i => (congrFun (entry_g m c) _).trans ((hchunks_at _ r h t i).trans (hlogf_at hx hl _ h i)),
    fun t r => (congrFun (entry_mask m c) _).trans (hmask_at t r), ctr_entry m c,
    fun h i d => (congrFun (entry_state m c) _).trans ?_, fun r hr => absurd hr (Nat.not_lt_zero _), fun r hr => absurd hr (Nat.not_lt_zero _)⟩
  pointwise [hstart]
  exact EReal.coe_zero.symm

include hX hL in
theorem at_end : At (STEP^[64] (entryContents preI m c)) (X m c) (L m c) 64 := (at_start hX hL).iter 64 le_rfl

include hX hL in
theorem ref_o : out_main_v81 (STEP^[64] (entryContents preI m c)) = out_o (X m c) (L m c) :=
  funext fun j => (congrArg _ (ix2_eta j).symm).trans (o_at (fun r => (at_end hX hL).o r r.isLt) (j 0) (j 1))

include hX hL in
theorem ref_st : out_main_v86 (STEP^[64] (entryContents preI m c)) = out_st (X m c) (L m c) :=
  funext fun j => (congrArg _ (ix3_eta j).symm).trans (states_at (fun r => (at_end hX hL).states r r.isLt) (j 0) (j 1) (j 2))

include hX hL in
theorem ref_rec : out_main_v82 (STEP^[64] (entryContents preI m c)) = out_rec (X m c) (L m c) (gain (m ((c : Thread nD τ).loc main_arg2))) := by
  have e : out_main_v82 (STEP^[64] (entryContents preI m c)) = hgated (hrows (ao (STEP^[64] (entryContents preI m c))))
      (STEP^[64] (entryContents preI m c) (Proc.devRef .tc main_arg0)) (STEP^[64] (entryContents preI m c) (Proc.devRef .tc main_arg2)) := rfl
  rw [e, iter_main_arg0, iter_main_arg2]
  exact funext fun j => (congrArg _ (ix2_eta j).symm).trans (gated_at (re_at hX) (fun r => (at_end hX hL).o r r.isLt) _ (j 0) (j 1))

/-- The reference's run: its three results, its arguments unchanged. -/
theorem ref_run (m : (ℓ : Loc nD τ sig) → Buf (Elt Ideal) ℓ) (ρ : Dev nD → PrngReg)
    (hX : ∀ (c : Dev nD) i, Real (m ((c : Thread nD τ).loc main_arg0) i)) (hL : ∀ (c : Dev nD) i, Real (m ((c : Thread nD τ).loc main_arg1) i)) :
    θ_run (defs (F := Ideal)) (onTc (τ := τ) (main (F := Ideal))) ⟨m, fun _ => 0, ρ⟩ fun r => ∀ c : Dev nD,
      r.2.mem ((c : Thread nD τ).loc main_v81) = out_o (X m c) (L m c)
      ∧ r.2.mem ((c : Thread nD τ).loc main_v82) = out_rec (X m c) (L m c) (gain (m ((c : Thread nD τ).loc main_arg2)))
      ∧ r.2.mem ((c : Thread nD τ).loc main_v86) = out_st (X m c) (L m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (ref_o (hX c) (hL c)), (h c).2.1.trans (ref_rec (hX c) (hL c)),
    (h c).2.2.1.trans (ref_st (hX c) (hL c)), (h c).2.2.2⟩) (run (F := Ideal) m ρ)

end Cert.Proof.HgrnRef

end
-- ==== Proof.Alg13.lean ====
module

public import proofs.«01_k».proof.Defs
public import proofs.«01_k».proof.Proof.HgrnRef

@[expose] public section

set_option maxRecDepth 16384

noncomputable section

namespace Cert.Proof

open Idealize.ShloMosaic Idealize.SL.Sem

theorem frame_reference13 : Cert.quiescent_Reference13Ideal := by
  intro m g _
  exact (θ_run Cert.Reference13Ideal.defs _ _).mono
    (fun r h => ⟨fun c => (h c).2.2.2, Idealize.ShloMosaic.sem_eq_zero_of_no_sems (by decide) r.2⟩)
    (Cert.Reference13Ideal.Value.run (F := Ideal) m g)

theorem facts_hgrn : Cert.Pre_finite_hgrn.Facts := ⟨by decide, by decide⟩

theorem preserves_hgrn : Cert.preserves_Kernel13_Kernel13Ideal := IdealRules.bf16_pack.statement _

variable [Cert.Pre_finite_hgrn.Facts]

theorem algebraic_hgrn : Cert.algebraic_Kernel13Ideal_Reference13Ideal_pre_finite_hgrn := by
  intro m g m' g' hpre hagree
  have hX := fun c => Norm.Real.of_small (hpre c).1
  have hL := fun c => Norm.Real.of_small (hpre c).2
  refine ⟨fun c => HgrnFin.out_o (HgrnFin.X m c) (HgrnFin.L m c), fun c => HgrnFin.out_rec (HgrnFin.X m c) (HgrnFin.L m c)
    (HgrnFin.gain (m ((c.tc : Thread Cert.Kernel13Ideal.nD Cert.Kernel13Ideal.τ).loc Cert.Kernel13Ideal.main_arg2))),
    fun c => HgrnFin.out_st (HgrnFin.X m c) (HgrnFin.L m c), ?_, ?_⟩
  · run_from Cert.Kernel13Ideal.Gen.run_main m g
    · exact HgrnFin.final_o (hX c) (hL c)
    · exact HgrnFin.final_rec (hX c) (hL c)
    · exact HgrnFin.final_st (hX c) (hL c)
  · refine (θ_run Cert.Reference13Ideal.defs _ _).mono (fun r h c => ?_) (HgrnRef.ref_run m' g' (fun c => ?_) (fun c => ?_))
    · have e0 : HgrnRef.X m' c = HgrnFin.X m c := congrArg Hgrn.re (hagree c).1
      have e1 : HgrnRef.L m' c = HgrnFin.L m c := congrArg Hgrn.re (hagree c).2.1
      have hc := h c
      rw [e0, e1, (hagree c).2.2] at hc
      exact ⟨hc.1, hc.2.1, hc.2.2.1, hc.2.2.2.1, hc.2.2.2.2.1, hc.2.2.2.2.2.trans (hagree c).2.2.symm⟩
    · rw [(hagree c).1]
      exact hX c
    · rw [(hagree c).2.1]
      exact hL c

end Cert.Proof

end
-- ==== Proof.Small.lean ====
/- The small parameters' optimiser step: their rows packed into one array, one step over it, and the rows unpacked. -/
module

public import proofs.«01_k».proof.Proof.Gen.Kernel14Ideal.Frame
public import Idealize.ShloMosaic.Lib.Pointwise
public import Idealize.ShloMosaic.Lib.Pipeline.ValueKit
public import Idealize.ShloMosaic.Lib.StableHlo.RunClose
public import Idealize.ShloMosaic.Lib.Claim

@[expose] public section

set_option maxRecDepth 16384

noncomputable section

open Idealize.ShloMosaic Idealize.ShloMosaic.TcCoe Idealize.SL.Sem
open Idealize.ShloMosaic.StableHlo Idealize.ShloMosaic.Tactic

namespace Cert.Proof.Small

open Cert.Kernel14Ideal Cert.Kernel14Ideal.Gen
open Idealize.ShloMosaic.Pipeline (Dat)

section Step
variable {s : Shape} (w g m v : FVec Ideal s .f32)

/-- The two moments after a step, and the update, entry by entry, for an array of any shape. -/
def first : FVec Ideal s .f32 := fun j => Ideal.ofBits .f32 0x3F666666#32 * m j + Ideal.ofBits .f32 0x3DCCCCCD#32 * g j
def second : FVec Ideal s .f32 := fun j => Ideal.ofBits .f32 0x3F7FBE77#32 * v j + Ideal.ofBits .f32 0x3A83126F#32 * (g j * g j)
def update : FVec Ideal s .f32 := fun j => Ideal.ofBits .f32 0xBA83126F#32
  * (Ideal.div (Ideal.div (first g m j) (Ideal.ofBits .f32 0x3F26BD02#32))
      (Ideal.sqrt (Ideal.div (second g v j) (Ideal.ofBits .f32 0x3C231ACC#32)) + Ideal.ofBits .f32 0x322BCC77#32)
    + Ideal.ofBits .f32 0x3C23D70A#32 * w j)

/-- A part of an array: every entry of it is one entry of the array, whatever the array holds. -/
def IsPart {t : Shape} (get : FVec Ideal s .f32 → FVec Ideal t .f32) : Prop := ∃ p : t.Idx → s.Idx, ∀ x j, get x j = x (p j)

variable {w g m v} {t : Shape} {get : FVec Ideal s .f32 → FVec Ideal t .f32}

theorem IsPart.first (h : IsPart get) : get (first g m) = first (get g) (get m) := by
  obtain ⟨p, hp⟩ := h
  funext j
  simp only [Small.first, hp]

theorem IsPart.second (h : IsPart get) : get (second g v) = second (get g) (get v) := by
  obtain ⟨p, hp⟩ := h
  funext j
  simp only [Small.second, hp]

theorem IsPart.update (h : IsPart get) : get (update w g m v) = update (get w) (get g) (get m) (get v) := by
  obtain ⟨p, hp⟩ := h
  funext j
  simp only [Small.update, Small.first, Small.second, hp]

end Step

section Packing
variable (a : FVec Ideal S1x1024 .f32) (b : FVec Ideal S1x512 .f32) (l : FVec Ideal S2x512 .f32) (d : FVec Ideal S1x512 .f32)
  (e f h : FVec Ideal S1x1024 .f32) (x : FVec Ideal S8x1024 .f32)

/-- Two half rows side by side, the two rows of the logits side by side, an empty row, and the packed array. -/
def beside (b d : FVec Ideal S1x512 .f32) : FVec Ideal S1x1024 .f32 :=
  concatenate S1x1024 1 [⟨S1x512, b⟩, ⟨S1x512, d⟩] concatenates_S1x512_S1x512_S1x1024_d1
def flat (l : FVec Ideal S2x512 .f32) : FVec Ideal S1x1024 .f32 :=
  beside (extractStridedSlice S1x512 ![0, 0] l slices_S2x512_S1x512_0_0) (extractStridedSlice S1x512 ![1, 0] l slices_S2x512_S1x512_1_0)
def spare : FVec Ideal S1x1024 .f32 := broadcastInDim S1x1024 ![] bcast_S_S1x1024 (constant S_ .f32 0x00000000#32)
def pack : FVec Ideal S8x1024 .f32 := concatenate S8x1024 0
  [⟨S1x1024, a⟩, ⟨S1x1024, beside b d⟩, ⟨S1x1024, flat l⟩, ⟨S1x1024, e⟩, ⟨S1x1024, f⟩, ⟨S1x1024, h⟩, ⟨S1x1024, spare⟩, ⟨S1x1024, spare⟩]
  concatenates_S1x1024_S1x1024_S1x1024_S1x1024_S1x1024_S1x1024_S1x1024_S1x1024_S8x1024_d0

/-- The seven parts of the packed array. -/
def row0 : FVec Ideal S1x1024 .f32 := extractStridedSlice S1x1024 ![0, 0] x slices_S8x1024_S1x1024_0_0
def left1 : FVec Ideal S1x512 .f32 := extractStridedSlice S1x512 ![1, 0] x slices_S8x1024_S1x512_1_0
def right1 : FVec Ideal S1x512 .f32 := extractStridedSlice S1x512 ![1, 512] x slices_S8x1024_S1x512_1_512
def row3 : FVec Ideal S1x1024 .f32 := extractStridedSlice S1x1024 ![3, 0] x slices_S8x1024_S1x1024_3_0
def row4 : FVec Ideal S1x1024 .f32 := extractStridedSlice S1x1024 ![4, 0] x slices_S8x1024_S1x1024_4_0
def row5 : FVec Ideal S1x1024 .f32 := extractStridedSlice S1x1024 ![5, 0] x slices_S8x1024_S1x1024_5_0
def stacked2 : FVec Ideal S2x512 .f32 := concatenate S2x512 0
  [⟨S1x512, extractStridedSlice S1x512 ![2, 0] x slices_S8x1024_S1x512_2_0⟩,
   ⟨S1x512, extractStridedSlice S1x512 ![2, 512] x slices_S8x1024_S1x512_2_512⟩] concatenates_S1x512_S1x512_S2x512_d0

theorem part_row0 : IsPart row0 := ⟨_, fun _ _ => rfl⟩
theorem part_left1 : IsPart left1 := ⟨_, fun _ _ => rfl⟩
theorem part_right1 : IsPart right1 := ⟨_, fun _ _ => rfl⟩
theorem part_row3 : IsPart row3 := ⟨_, fun _ _ => rfl⟩
theorem part_row4 : IsPart row4 := ⟨_, fun _ _ => rfl⟩
theorem part_row5 : IsPart row5 := ⟨_, fun _ _ => rfl⟩

theorem stacked2_at (j : S2x512.Idx) : stacked2 x j = x (ix2 (2 : Fin 8) (⟨(j 0).val * 512 + (j 1).val, by
    have := (j 0).isLt; have := (j 1).isLt; simp at *; omega⟩ : Fin 1024)) := by
  have h0 : (j 0).val < 2 := (j 0).isLt
  have h1 : (j 1).val < 512 := (j 1).isLt
  pointwise [stacked2]
  split
  · exact congrArg x (congrArg₂ ix2 (Fin.ext (by simp only; omega)) (Fin.ext (by simp only; omega)))
  · exact congrArg x (congrArg₂ ix2 (Fin.ext (by simp only; omega)) (Fin.ext (by simp only; omega)))

theorem part_stacked2 : IsPart stacked2 := ⟨_, fun x j => stacked2_at x j⟩

/-- The one row of an array of one row. -/
theorem one_row {n : Nat} (y : FVec Ideal ⟨2, ![1, n]⟩ .f32) (j : Shape.Idx ⟨2, ![1, n]⟩) : y (ix2 0 (j 1)) = y j :=
  congrArg y (by rw [show (0 : Fin 1) = j 0 from Subsingleton.elim _ _]; exact ix2_eta j)

theorem row0_pack : row0 (pack a b l d e f h) = a := by
  funext j
  pointwise [row0, pack]
  exact one_row a j

theorem left1_pack : left1 (pack a b l d e f h) = b := by
  funext j
  pointwise [left1, pack, beside]
  exact one_row b j

theorem right1_pack : right1 (pack a b l d e f h) = d := by
  funext j
  pointwise [right1, pack, beside]
  exact one_row d j

theorem row3_pack : row3 (pack a b l d e f h) = e := by
  funext j
  pointwise [row3, pack]
  exact one_row e j

theorem row4_pack : row4 (pack a b l d e f h) = f := by
  funext j
  pointwise [row4, pack]
  exact one_row f j

theorem row5_pack : row5 (pack a b l d e f h) = h := by
  funext j
  pointwise [row5, pack]
  exact one_row h j

theorem stacked2_pack : stacked2 (pack a b l d e f h) = l := by
  funext j
  have h0 : (j 0).val < 2 := (j 0).isLt
  have h1 : (j 1).val < 512 := (j 1).isLt
  rw [stacked2_at]
  pointwise [pack, flat, beside]
  refine Eq.trans ?_ (congrArg l (ix2_eta j))
  split
  · exact congrArg l (congrArg₂ ix2 (Fin.ext (by show 0 = (j 0).val; omega)) (Fin.ext (by show (j 0).val * 512 + (j 1).val = (j 1).val; omega)))
  · exact congrArg l (congrArg₂ ix2 (Fin.ext (by show 1 = (j 0).val; omega)) (Fin.ext (by show (j 0).val * 512 + (j 1).val - 512 = (j 1).val; omega)))

end Packing

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem final_update (c : Dev nD) : (dats m 0 c).arrAt 4 (cfgs 0).N = update (V m c main_v11) (V m c main_v5) (V m c main_v17) (V m c main_v23) := by
  refine (dats m 0 c).arrAt_eq_of_covers 4 _ (by decide +kernel) fun t hf y => ?_
  blk_simp
  rw [after0_4]
  frame_out
  pointwise [k0_pay1, k0_pay2, k0_pay3, k0_pay4, update, first, second]
  blk_point [iblk, idx t]

theorem final_first (c : Dev nD) : (dats m 0 c).arrAt 5 (cfgs 0).N = first (V m c main_v5) (V m c main_v17) := by
  refine (dats m 0 c).arrAt_eq_of_covers 5 _ (by decide +kernel) fun t hf y => ?_
  blk_simp
  rw [after0_5]
  frame_out
  pointwise [k0_pay1, k0_pay2, first]
  blk_point [iblk, idx t]

theorem final_second (c : Dev nD) : (dats m 0 c).arrAt 6 (cfgs 0).N = second (V m c main_v5) (V m c main_v23) := by
  refine (dats m 0 c).arrAt_eq_of_covers 6 _ (by decide +kernel) fun t hf y => ?_
  blk_simp
  rw [after0_6]
  frame_out
  pointwise [k0_pay1, k0_pay3, second]
  blk_point [iblk, idx t]

section Host
variable (σ : Valuation τ sig (Elt Ideal))

set_option maxHeartbeats 4000000 in
theorem packed_w : after (List.flatten [hostOps0]) σ (Proc.devRef .tc main_v11) =
    pack (σ (Proc.devRef .tc main_arg0)) (σ (Proc.devRef .tc main_arg1)) (σ (Proc.devRef .tc main_arg2)) (σ (Proc.devRef .tc main_arg3)) (σ (Proc.devRef .tc main_arg4)) (σ (Proc.devRef .tc main_arg5)) (σ (Proc.devRef .tc main_arg6)) := by
  unfold pack flat beside spare
  simp only [hostOps0, List.flatten_cons, List.flatten_nil, List.append_nil]
  after_results_entrywise []

set_option maxHeartbeats 4000000 in
theorem packed_g : after (List.flatten [hostOps0]) σ (Proc.devRef .tc main_v5) =
    pack (σ (Proc.devRef .tc main_arg7)) (σ (Proc.devRef .tc main_arg8)) (σ (Proc.devRef .tc main_arg9)) (σ (Proc.devRef .tc main_arg10)) (σ (Proc.devRef .tc main_arg11)) (σ (Proc.devRef .tc main_arg12)) (σ (Proc.devRef .tc main_arg13)) := by
  unfold pack flat beside spare
  simp only [hostOps0, List.flatten_cons, List.flatten_nil, List.append_nil]
  after_results_entrywise []

set_option maxHeartbeats 4000000 in
theorem packed_m : after (List.flatten [hostOps0]) σ (Proc.devRef .tc main_v17) =
    pack (σ (Proc.devRef .tc main_arg14)) (σ (Proc.devRef .tc main_arg15)) (σ (Proc.devRef .tc main_arg16)) (σ (Proc.devRef .tc main_arg17)) (σ (Proc.devRef .tc main_arg18)) (σ (Proc.devRef .tc main_arg19)) (σ (Proc.devRef .tc main_arg20)) := by
  unfold pack flat beside spare
  simp only [hostOps0, List.flatten_cons, List.flatten_nil, List.append_nil]
  after_results_entrywise []

set_option maxHeartbeats 4000000 in
theorem packed_v : after (List.flatten [hostOps0]) σ (Proc.devRef .tc main_v23) =
    pack (σ (Proc.devRef .tc main_arg21)) (σ (Proc.devRef .tc main_arg22)) (σ (Proc.devRef .tc main_arg23)) (σ (Proc.devRef .tc main_arg24)) (σ (Proc.devRef .tc main_arg25)) (σ (Proc.devRef .tc main_arg26)) (σ (Proc.devRef .tc main_arg27)) := by
  unfold pack flat beside spare
  simp only [hostOps0, List.flatten_cons, List.flatten_nil, List.append_nil]
  after_results_entrywise []

set_option maxHeartbeats 8000000 in
theorem tail0 : after (List.flatten [hostOps1]) σ (Proc.devRef .tc main_v25) = row0 (σ (Proc.devRef .tc main_v24_0))
    ∧ after (List.flatten [hostOps1]) σ (Proc.devRef .tc main_v26) = left1 (σ (Proc.devRef .tc main_v24_0))
    ∧ after (List.flatten [hostOps1]) σ (Proc.devRef .tc main_v29) = stacked2 (σ (Proc.devRef .tc main_v24_0))
    ∧ after (List.flatten [hostOps1]) σ (Proc.devRef .tc main_v30) = right1 (σ (Proc.devRef .tc main_v24_0))
    ∧ after (List.flatten [hostOps1]) σ (Proc.devRef .tc main_v31) = row3 (σ (Proc.devRef .tc main_v24_0))
    ∧ after (List.flatten [hostOps1]) σ (Proc.devRef .tc main_v32) = row4 (σ (Proc.devRef .tc main_v24_0))
    ∧ after (List.flatten [hostOps1]) σ (Proc.devRef .tc main_v33) = row5 (σ (Proc.devRef .tc main_v24_0)) := by
  unfold row0 left1 stacked2 right1 row3 row4 row5
  simp only [hostOps1, List.flatten_cons, List.flatten_nil, List.append_nil]
  refine ⟨?_, ?_, ?_, ?_, ?_, ?_, ?_⟩ <;> after_results_entrywise []

set_option maxHeartbeats 8000000 in
theorem tail1 : after (List.flatten [hostOps1]) σ (Proc.devRef .tc main_v34) = row0 (σ (Proc.devRef .tc main_v24_1))
    ∧ after (List.flatten [hostOps1]) σ (Proc.devRef .tc main_v35) = left1 (σ (Proc.devRef .tc main_v24_1))
    ∧ after (List.flatten [hostOps1]) σ (Proc.devRef .tc main_v38) = stacked2 (σ (Proc.devRef .tc main_v24_1))
    ∧ after (List.flatten [hostOps1]) σ (Proc.devRef .tc main_v39) = right1 (σ (Proc.devRef .tc main_v24_1))
    ∧ after (List.flatten [hostOps1]) σ (Proc.devRef .tc main_v40) = row3 (σ (Proc.devRef .tc main_v24_1))
    ∧ after (List.flatten [hostOps1]) σ (Proc.devRef .tc main_v41) = row4 (σ (Proc.devRef .tc main_v24_1))
    ∧ after (List.flatten [hostOps1]) σ (Proc.devRef .tc main_v42) = row5 (σ (Proc.devRef .tc main_v24_1)) := by
  unfold row0 left1 stacked2 right1 row3 row4 row5
  simp only [hostOps1, List.flatten_cons, List.flatten_nil, List.append_nil]
  refine ⟨?_, ?_, ?_, ?_, ?_, ?_, ?_⟩ <;> after_results_entrywise []

set_option maxHeartbeats 8000000 in
theorem tail2 : after (List.flatten [hostOps1]) σ (Proc.devRef .tc main_v43) = row0 (σ (Proc.devRef .tc main_v24_2))
    ∧ after (List.flatten [hostOps1]) σ (Proc.devRef .tc main_v44) = left1 (σ (Proc.devRef .tc main_v24_2))
    ∧ after (List.flatten [hostOps1]) σ (Proc.devRef .tc main_v47) = stacked2 (σ (Proc.devRef .tc main_v24_2))
    ∧ after (List.flatten [hostOps1]) σ (Proc.devRef .tc main_v48) = right1 (σ (Proc.devRef .tc main_v24_2))
    ∧ after (List.flatten [hostOps1]) σ (Proc.devRef .tc main_v49) = row3 (σ (Proc.devRef .tc main_v24_2))
    ∧ after (List.flatten [hostOps1]) σ (Proc.devRef .tc main_v50) = row4 (σ (Proc.devRef .tc main_v24_2))
    ∧ after (List.flatten [hostOps1]) σ (Proc.devRef .tc main_v51) = row5 (σ (Proc.devRef .tc main_v24_2)) := by
  unfold row0 left1 stacked2 right1 row3 row4 row5
  simp only [hostOps1, List.flatten_cons, List.flatten_nil, List.append_nil]
  refine ⟨?_, ?_, ?_, ?_, ?_, ?_, ?_⟩ <;> after_results_entrywise []

end Host

/-- What the region leaves: each result array at its window's, everything else at its contents before the region. -/
def left (c : Dev nD) : Valuation τ sig (Elt Ideal) :=
  Pipeline.withArrays (cfgs 0).spec c (V0 m c) fun w => (dats m 0 c).arrAt w (cfgs 0).N

theorem left0 (c : Dev nD) : left m c (Proc.devRef .tc main_v24_0) = (dats m 0 c).arrAt 4 (cfgs 0).N :=
  Pipeline.withArrays_arr (cfgs 0).spec (by decide) c (V0 m c) _ 4
theorem left1' (c : Dev nD) : left m c (Proc.devRef .tc main_v24_1) = (dats m 0 c).arrAt 5 (cfgs 0).N :=
  Pipeline.withArrays_arr (cfgs 0).spec (by decide) c (V0 m c) _ 5
theorem left2 (c : Dev nD) : left m c (Proc.devRef .tc main_v24_2) = (dats m 0 c).arrAt 6 (cfgs 0).N :=
  Pipeline.withArrays_arr (cfgs 0).spec (by decide) c (V0 m c) _ 6

/-- One parameter's results, from what its part of each packed array holds. -/
theorem step (c : Dev nD) {t : Shape} {get : FVec Ideal S8x1024 .f32 → FVec Ideal t .f32} (h : IsPart get) {w g fm sm : FVec Ideal t .f32}
    (hw : get (V m c main_v11) = w) (hg : get (V m c main_v5) = g) (hf : get (V m c main_v17) = fm) (hs : get (V m c main_v23) = sm) :
    get (left m c (Proc.devRef .tc main_v24_0)) = update w g fm sm ∧ get (left m c (Proc.devRef .tc main_v24_1)) = first g fm
      ∧ get (left m c (Proc.devRef .tc main_v24_2)) = second g sm := by
  subst hw hg hf hs
  rw [left0, left1', left2, final_update, final_first, final_second]
  exact ⟨h.update, h.first, h.second⟩

theorem step_mix_pre (c : Dev nD) : row0 (left m c (Proc.devRef .tc main_v24_0)) = update (m ((c : Thread nD τ).loc main_arg0)) (m ((c : Thread nD τ).loc main_arg7)) (m ((c : Thread nD τ).loc main_arg14)) (m ((c : Thread nD τ).loc main_arg21))
    ∧ row0 (left m c (Proc.devRef .tc main_v24_1)) = first (m ((c : Thread nD τ).loc main_arg7)) (m ((c : Thread nD τ).loc main_arg14))
    ∧ row0 (left m c (Proc.devRef .tc main_v24_2)) = second (m ((c : Thread nD τ).loc main_arg7)) (m ((c : Thread nD τ).loc main_arg21)) :=
  step m c part_row0 ((congrArg row0 (packed_w _)).trans (row0_pack ..)) ((congrArg row0 (packed_g _)).trans (row0_pack ..))
    ((congrArg row0 (packed_m _)).trans (row0_pack ..)) ((congrArg row0 (packed_v _)).trans (row0_pack ..))
theorem step_attn_out (c : Dev nD) : left1 (left m c (Proc.devRef .tc main_v24_0)) = update (m ((c : Thread nD τ).loc main_arg1)) (m ((c : Thread nD τ).loc main_arg8)) (m ((c : Thread nD τ).loc main_arg15)) (m ((c : Thread nD τ).loc main_arg22))
    ∧ left1 (left m c (Proc.devRef .tc main_v24_1)) = first (m ((c : Thread nD τ).loc main_arg8)) (m ((c : Thread nD τ).loc main_arg15))
    ∧ left1 (left m c (Proc.devRef .tc main_v24_2)) = second (m ((c : Thread nD τ).loc main_arg8)) (m ((c : Thread nD τ).loc main_arg22)) :=
  step m c part_left1 ((congrArg left1 (packed_w _)).trans (left1_pack ..)) ((congrArg left1 (packed_g _)).trans (left1_pack ..))
    ((congrArg left1 (packed_m _)).trans (left1_pack ..)) ((congrArg left1 (packed_v _)).trans (left1_pack ..))
theorem step_lb_logits (c : Dev nD) : stacked2 (left m c (Proc.devRef .tc main_v24_0)) = update (m ((c : Thread nD τ).loc main_arg2)) (m ((c : Thread nD τ).loc main_arg9)) (m ((c : Thread nD τ).loc main_arg16)) (m ((c : Thread nD τ).loc main_arg23))
    ∧ stacked2 (left m c (Proc.devRef .tc main_v24_1)) = first (m ((c : Thread nD τ).loc main_arg9)) (m ((c : Thread nD τ).loc main_arg16))
    ∧ stacked2 (left m c (Proc.devRef .tc main_v24_2)) = second (m ((c : Thread nD τ).loc main_arg9)) (m ((c : Thread nD τ).loc main_arg23)) :=
  step m c part_stacked2 ((congrArg stacked2 (packed_w _)).trans (stacked2_pack ..)) ((congrArg stacked2 (packed_g _)).trans (stacked2_pack ..))
    ((congrArg stacked2 (packed_m _)).trans (stacked2_pack ..)) ((congrArg stacked2 (packed_v _)).trans (stacked2_pack ..))
theorem step_hgrn_out (c : Dev nD) : right1 (left m c (Proc.devRef .tc main_v24_0)) = update (m ((c : Thread nD τ).loc main_arg3)) (m ((c : Thread nD τ).loc main_arg10)) (m ((c : Thread nD τ).loc main_arg17)) (m ((c : Thread nD τ).loc main_arg24))
    ∧ right1 (left m c (Proc.devRef .tc main_v24_1)) = first (m ((c : Thread nD τ).loc main_arg10)) (m ((c : Thread nD τ).loc main_arg17))
    ∧ right1 (left m c (Proc.devRef .tc main_v24_2)) = second (m ((c : Thread nD τ).loc main_arg10)) (m ((c : Thread nD τ).loc main_arg24)) :=
  step m c part_right1 ((congrArg right1 (packed_w _)).trans (right1_pack ..)) ((congrArg right1 (packed_g _)).trans (right1_pack ..))
    ((congrArg right1 (packed_m _)).trans (right1_pack ..)) ((congrArg right1 (packed_v _)).trans (right1_pack ..))
theorem step_mix_post (c : Dev nD) : row3 (left m c (Proc.devRef .tc main_v24_0)) = update (m ((c : Thread nD τ).loc main_arg4)) (m ((c : Thread nD τ).loc main_arg11)) (m ((c : Thread nD τ).loc main_arg18)) (m ((c : Thread nD τ).loc main_arg25))
    ∧ row3 (left m c (Proc.devRef .tc main_v24_1)) = first (m ((c : Thread nD τ).loc main_arg11)) (m ((c : Thread nD τ).loc main_arg18))
    ∧ row3 (left m c (Proc.devRef .tc main_v24_2)) = second (m ((c : Thread nD τ).loc main_arg11)) (m ((c : Thread nD τ).loc main_arg25)) :=
  step m c part_row3 ((congrArg row3 (packed_w _)).trans (row3_pack ..)) ((congrArg row3 (packed_g _)).trans (row3_pack ..))
    ((congrArg row3 (packed_m _)).trans (row3_pack ..)) ((congrArg row3 (packed_v _)).trans (row3_pack ..))
theorem step_mlp_pre (c : Dev nD) : row4 (left m c (Proc.devRef .tc main_v24_0)) = update (m ((c : Thread nD τ).loc main_arg5)) (m ((c : Thread nD τ).loc main_arg12)) (m ((c : Thread nD τ).loc main_arg19)) (m ((c : Thread nD τ).loc main_arg26))
    ∧ row4 (left m c (Proc.devRef .tc main_v24_1)) = first (m ((c : Thread nD τ).loc main_arg12)) (m ((c : Thread nD τ).loc main_arg19))
    ∧ row4 (left m c (Proc.devRef .tc main_v24_2)) = second (m ((c : Thread nD τ).loc main_arg12)) (m ((c : Thread nD τ).loc main_arg26)) :=
  step m c part_row4 ((congrArg row4 (packed_w _)).trans (row4_pack ..)) ((congrArg row4 (packed_g _)).trans (row4_pack ..))
    ((congrArg row4 (packed_m _)).trans (row4_pack ..)) ((congrArg row4 (packed_v _)).trans (row4_pack ..))
theorem step_mlp_post (c : Dev nD) : row5 (left m c (Proc.devRef .tc main_v24_0)) = update (m ((c : Thread nD τ).loc main_arg6)) (m ((c : Thread nD τ).loc main_arg13)) (m ((c : Thread nD τ).loc main_arg20)) (m ((c : Thread nD τ).loc main_arg27))
    ∧ row5 (left m c (Proc.devRef .tc main_v24_1)) = first (m ((c : Thread nD τ).loc main_arg13)) (m ((c : Thread nD τ).loc main_arg20))
    ∧ row5 (left m c (Proc.devRef .tc main_v24_2)) = second (m ((c : Thread nD τ).loc main_arg13)) (m ((c : Thread nD τ).loc main_arg27)) :=
  step m c part_row5 ((congrArg row5 (packed_w _)).trans (row5_pack ..)) ((congrArg row5 (packed_g _)).trans (row5_pack ..))
    ((congrArg row5 (packed_m _)).trans (row5_pack ..)) ((congrArg row5 (packed_v _)).trans (row5_pack ..))

section Reference
variable {s : Shape} (hb : Shape.BroadcastsInDim ⟨0, ![]⟩ s ![]) (w g fm sm : FVec Ideal s .f32)

/-- The reference's three results; `every` is a scalar in every entry. -/
def every (b : BitVec 32) : FVec Ideal s .f32 := broadcastInDim s ![] hb (constant ⟨0, ![]⟩ .f32 b)
def hfirst : FVec Ideal s .f32 := addf (mulf (every hb 0x3F666666#32) fm) (mulf (every hb 0x3DCCCCCD#32) g)
def hsecond : FVec Ideal s .f32 := addf (mulf (every hb 0x3F7FBE77#32) sm) (mulf (every hb 0x3A83126F#32) (mulf g g))
def hupdate : FVec Ideal s .f32 := mulf (every hb 0xBA83126F#32) (addf (Host.divf
  (Host.divf (hfirst hb g fm) (every hb 0x3F26BD02#32)) (addf (Host.sqrt (Host.divf (hsecond hb g sm) (every hb 0x3C231ACC#32)))
  (every hb 0x322BCC77#32))) (mulf (every hb 0x3C23D70A#32) w))

variable {w g fm sm}

theorem ref_first {g' fm' : FVec Ideal s .f32} (eg : g' = g) (ef : fm' = fm) : hfirst hb g' fm' = first g fm := by
  subst eg ef; rfl

theorem ref_second {g' sm' : FVec Ideal s .f32} (eg : g' = g) (es : sm' = sm) : hsecond hb g' sm' = second g sm := by
  subst eg es; rfl

theorem ref_update {w' g' fm' sm' : FVec Ideal s .f32} (ew : w' = w) (eg : g' = g) (ef : fm' = fm) (es : sm' = sm) :
    hupdate hb w' g' fm' sm' = update w g fm sm := by
  subst ew eg ef es; rfl

end Reference

end Cert.Proof.Small

end
-- ==== Proof.Alg14.lean ====
module

public import proofs.«01_k».proof.Defs
public import proofs.«01_k».proof.Proof.Small
public import proofs.«01_k».proof.Proof.Gen.Reference14Ideal.Run
public import Idealize.ShloMosaic.Lib.Claim

@[expose] public section

set_option maxRecDepth 16384

noncomputable section

namespace Cert.Proof

open Idealize.ShloMosaic Idealize.SL.Sem Cert.Proof.Small

theorem frame_reference14 : Cert.quiescent_Reference14Ideal := by
  intro m g _
  exact (θ_run Cert.Reference14Ideal.defs _ _).mono
    (fun r h => ⟨fun c => (h c).2.2.2.2.2.2.2.2.2.2.2.2.2.2.2.2.2.2.2.2.2, Idealize.ShloMosaic.sem_eq_zero_of_no_sems (by decide) r.2⟩)
    (Cert.Reference14Ideal.Value.run (F := Ideal) m g)

open Cert.Kernel14Ideal Cert.Kernel14Ideal.Gen in
/-- A buffer the region leaves to the host ends as the host operations after the region compute it. -/
theorem rest (m : (ℓ : Loc nD τ sig) → Buf (Elt Ideal) ℓ) (r : PUnit × MemSt nD τ sig (Elt Ideal))
    (h : Pipeline.FramePost cfgs (dats m) 0 (Pipeline.afterTail₀ cfgs (dats m) 0 (V0 m) [hostOps1]) r) (c : Dev nD)
    (b : Ref sig .tc) (hb : b ∈ Pipeline.restRefs sig spec0) :
    r.2.mem ((c.tc : Thread nD τ).loc b) = StableHlo.after (List.flatten [hostOps1]) (left m c) (Proc.devRef .tc b) :=
  (h c).2 b hb

open Cert.Kernel14Ideal in
set_option maxHeartbeats 4000000 in
theorem algebraic_small : Cert.algebraic_Kernel14Ideal_Reference14Ideal := by
  intro m g m' g' _ hagree
  refine ⟨fun c => update (m ((c.tc : Thread nD τ).loc main_arg0)) (m ((c.tc : Thread nD τ).loc main_arg7)) (m ((c.tc : Thread nD τ).loc main_arg14)) (m ((c.tc : Thread nD τ).loc main_arg21)),
    fun c => update (m ((c.tc : Thread nD τ).loc main_arg1)) (m ((c.tc : Thread nD τ).loc main_arg8)) (m ((c.tc : Thread nD τ).loc main_arg15)) (m ((c.tc : Thread nD τ).loc main_arg22)),
    fun c => update (m ((c.tc : Thread nD τ).loc main_arg2)) (m ((c.tc : Thread nD τ).loc main_arg9)) (m ((c.tc : Thread nD τ).loc main_arg16)) (m ((c.tc : Thread nD τ).loc main_arg23)),
    fun c => update (m ((c.tc : Thread nD τ).loc main_arg3)) (m ((c.tc : Thread nD τ).loc main_arg10)) (m ((c.tc : Thread nD τ).loc main_arg17)) (m ((c.tc : Thread nD τ).loc main_arg24)),
    fun c => update (m ((c.tc : Thread nD τ).loc main_arg4)) (m ((c.tc : Thread nD τ).loc main_arg11)) (m ((c.tc : Thread nD τ).loc main_arg18)) (m ((c.tc : Thread nD τ).loc main_arg25)),
    fun c => update (m ((c.tc : Thread nD τ).loc main_arg5)) (m ((c.tc : Thread nD τ).loc main_arg12)) (m ((c.tc : Thread nD τ).loc main_arg19)) (m ((c.tc : Thread nD τ).loc main_arg26)),
    fun c => update (m ((c.tc : Thread nD τ).loc main_arg6)) (m ((c.tc : Thread nD τ).loc main_arg13)) (m ((c.tc : Thread nD τ).loc main_arg20)) (m ((c.tc : Thread nD τ).loc main_arg27)),
    fun c => first (m ((c.tc : Thread nD τ).loc main_arg7)) (m ((c.tc : Thread nD τ).loc main_arg14)),
    fun c => first (m ((c.tc : Thread nD τ).loc main_arg8)) (m ((c.tc : Thread nD τ).loc main_arg15)),
    fun c => first (m ((c.tc : Thread nD τ).loc main_arg9)) (m ((c.tc : Thread nD τ).loc main_arg16)),
    fun c => first (m ((c.tc : Thread nD τ).loc main_arg10)) (m ((c.tc : Thread nD τ).loc main_arg17)),
    fun c => first (m ((c.tc : Thread nD τ).loc main_arg11)) (m ((c.tc : Thread nD τ).loc main_arg18)),
    fun c => first (m ((c.tc : Thread nD τ).loc main_arg12)) (m ((c.tc : Thread nD τ).loc main_arg19)),
    fun c => first (m ((c.tc : Thread nD τ).loc main_arg13)) (m ((c.tc : Thread nD τ).loc main_arg20)),
    fun c => second (m ((c.tc : Thread nD τ).loc main_arg7)) (m ((c.tc : Thread nD τ).loc main_arg21)),
    fun c => second (m ((c.tc : Thread nD τ).loc main_arg8)) (m ((c.tc : Thread nD τ).loc main_arg22)),
    fun c => second (m ((c.tc : Thread nD τ).loc main_arg9)) (m ((c.tc : Thread nD τ).loc main_arg23)),
    fun c => second (m ((c.tc : Thread nD τ).loc main_arg10)) (m ((c.tc : Thread nD τ).loc main_arg24)),
    fun c => second (m ((c.tc : Thread nD τ).loc main_arg11)) (m ((c.tc : Thread nD τ).loc main_arg25)),
    fun c => second (m ((c.tc : Thread nD τ).loc main_arg12)) (m ((c.tc : Thread nD τ).loc main_arg26)),
    fun c => second (m ((c.tc : Thread nD τ).loc main_arg13)) (m ((c.tc : Thread nD τ).loc main_arg27)),
    ?_, ?_⟩
  · refine (θ_run Cert.Kernel14Ideal.defs _ _).mono (fun r h c => ?_)
      (θ_run_and (Cert.Kernel14Ideal.Gen.run_main m g) (Cert.Kernel14Ideal.Gen.frame m g))
    have rest := fun b hb => rest m r h.1 c b hb
    have t0 := tail0 (left m c)
    have t1 := tail1 (left m c)
    have t2 := tail2 (left m c)
    refine ⟨(rest Cert.Kernel14Ideal.main_v25 (Pipeline.mem_restRefs_of _ (by decide) (by decide))).trans (t0.1.trans (step_mix_pre m c).1),
      (rest Cert.Kernel14Ideal.main_v26 (Pipeline.mem_restRefs_of _ (by decide) (by decide))).trans (t0.2.1.trans (step_attn_out m c).1),
      (rest Cert.Kernel14Ideal.main_v29 (Pipeline.mem_restRefs_of _ (by decide) (by decide))).trans (t0.2.2.1.trans (step_lb_logits m c).1),
      (rest Cert.Kernel14Ideal.main_v30 (Pipeline.mem_restRefs_of _ (by decide) (by decide))).trans (t0.2.2.2.1.trans (step_hgrn_out m c).1),
      (rest Cert.Kernel14Ideal.main_v31 (Pipeline.mem_restRefs_of _ (by decide) (by decide))).trans (t0.2.2.2.2.1.trans (step_mix_post m c).1),
      (rest Cert.Kernel14Ideal.main_v32 (Pipeline.mem_restRefs_of _ (by decide) (by decide))).trans (t0.2.2.2.2.2.1.trans (step_mlp_pre m c).1),
      (rest Cert.Kernel14Ideal.main_v33 (Pipeline.mem_restRefs_of _ (by decide) (by decide))).trans (t0.2.2.2.2.2.2.trans (step_mlp_post m c).1),
      (rest Cert.Kernel14Ideal.main_v34 (Pipeline.mem_restRefs_of _ (by decide) (by decide))).trans (t1.1.trans (step_mix_pre m c).2.1),
      (rest Cert.Kernel14Ideal.main_v35 (Pipeline.mem_restRefs_of _ (by decide) (by decide))).trans (t1.2.1.trans (step_attn_out m c).2.1),
      (rest Cert.Kernel14Ideal.main_v38 (Pipeline.mem_restRefs_of _ (by decide) (by decide))).trans (t1.2.2.1.trans (step_lb_logits m c).2.1),
      (rest Cert.Kernel14Ideal.main_v39 (Pipeline.mem_restRefs_of _ (by decide) (by decide))).trans (t1.2.2.2.1.trans (step_hgrn_out m c).2.1),
      (rest Cert.Kernel14Ideal.main_v40 (Pipeline.mem_restRefs_of _ (by decide) (by decide))).trans (t1.2.2.2.2.1.trans (step_mix_post m c).2.1),
      (rest Cert.Kernel14Ideal.main_v41 (Pipeline.mem_restRefs_of _ (by decide) (by decide))).trans (t1.2.2.2.2.2.1.trans (step_mlp_pre m c).2.1),
      (rest Cert.Kernel14Ideal.main_v42 (Pipeline.mem_restRefs_of _ (by decide) (by decide))).trans (t1.2.2.2.2.2.2.trans (step_mlp_post m c).2.1),
      (rest Cert.Kernel14Ideal.main_v43 (Pipeline.mem_restRefs_of _ (by decide) (by decide))).trans (t2.1.trans (step_mix_pre m c).2.2),
      (rest Cert.Kernel14Ideal.main_v44 (Pipeline.mem_restRefs_of _ (by decide) (by decide))).trans (t2.2.1.trans (step_attn_out m c).2.2),
      (rest Cert.Kernel14Ideal.main_v47 (Pipeline.mem_restRefs_of _ (by decide) (by decide))).trans (t2.2.2.1.trans (step_lb_logits m c).2.2),
      (rest Cert.Kernel14Ideal.main_v48 (Pipeline.mem_restRefs_of _ (by decide) (by decide))).trans (t2.2.2.2.1.trans (step_hgrn_out m c).2.2),
      (rest Cert.Kernel14Ideal.main_v49 (Pipeline.mem_restRefs_of _ (by decide) (by decide))).trans (t2.2.2.2.2.1.trans (step_mix_post m c).2.2),
      (rest Cert.Kernel14Ideal.main_v50 (Pipeline.mem_restRefs_of _ (by decide) (by decide))).trans (t2.2.2.2.2.2.1.trans (step_mlp_pre m c).2.2),
      (rest Cert.Kernel14Ideal.main_v51 (Pipeline.mem_restRefs_of _ (by decide) (by decide))).trans (t2.2.2.2.2.2.2.trans (step_mlp_post m c).2.2),
      h.2.1 c⟩
  · refine (θ_run Cert.Reference14Ideal.defs _ _).mono (fun r h c => ?_) (Cert.Reference14Ideal.Value.run (F := Ideal) m' g')
    have hc := h c
    obtain ⟨e0, e1, e2, e3, e4, e5, e6, e7, e8, e9, e10, e11, e12, e13, e14, e15, e16, e17, e18, e19, e20, e21, e22, e23, e24, e25, e26, e27⟩ := hagree c
    refine ⟨hc.1.trans (ref_update _ e0 e7 e14 e21),
      hc.2.1.trans (ref_update _ e1 e8 e15 e22),
      hc.2.2.1.trans (ref_update _ e2 e9 e16 e23),
      hc.2.2.2.1.trans (ref_update _ e3 e10 e17 e24),
      hc.2.2.2.2.1.trans (ref_update _ e4 e11 e18 e25),
      hc.2.2.2.2.2.1.trans (ref_update _ e5 e12 e19 e26),
      hc.2.2.2.2.2.2.1.trans (ref_update _ e6 e13 e20 e27),
      hc.2.2.2.2.2.2.2.1.trans (ref_first _ e7 e14),
      hc.2.2.2.2.2.2.2.2.1.trans (ref_first _ e8 e15),
      hc.2.2.2.2.2.2.2.2.2.1.trans (ref_first _ e9 e16),
      hc.2.2.2.2.2.2.2.2.2.2.1.trans (ref_first _ e10 e17),
      hc.2.2.2.2.2.2.2.2.2.2.2.1.trans (ref_first _ e11 e18),
      hc.2.2.2.2.2.2.2.2.2.2.2.2.1.trans (ref_first _ e12 e19),
      hc.2.2.2.2.2.2.2.2.2.2.2.2.2.1.trans (ref_first _ e13 e20),
      hc.2.2.2.2.2.2.2.2.2.2.2.2.2.2.1.trans (ref_second _ e7 e21),
      hc.2.2.2.2.2.2.2.2.2.2.2.2.2.2.2.1.trans (ref_second _ e8 e22),
      hc.2.2.2.2.2.2.2.2.2.2.2.2.2.2.2.2.1.trans (ref_second _ e9 e23),
      hc.2.2.2.2.2.2.2.2.2.2.2.2.2.2.2.2.2.1.trans (ref_second _ e10 e24),
      hc.2.2.2.2.2.2.2.2.2.2.2.2.2.2.2.2.2.2.1.trans (ref_second _ e11 e25),
      hc.2.2.2.2.2.2.2.2.2.2.2.2.2.2.2.2.2.2.2.1.trans (ref_second _ e12 e26),
      hc.2.2.2.2.2.2.2.2.2.2.2.2.2.2.2.2.2.2.2.2.1.trans (ref_second _ e13 e27),
      hc.2.2.2.2.2.2.2.2.2.2.2.2.2.2.2.2.2.2.2.2.2⟩

end Cert.Proof

end
-- ==== Proof.SumTable.lean ====
/- The second sum of the gradient exchange: the prefetched table is zero, so every block lies inside the array. -/
module

public import proofs.«01_k».proof.Proof.Gen.Kernel15.Frame
public import proofs.«01_k».proof.Proof.Gen.Kernel15Ideal.Frame
public import Idealize.ShloMosaic.Lib.Pointwise
public import Idealize.ShloMosaic.Lib.Pipeline.ValueKit
public import Idealize.ShloMosaic.Lib.StableHlo.RunClose
public import Idealize.ShloMosaic.Lib.Claim

@[expose] public section

noncomputable section

open Idealize.ShloMosaic Idealize.ShloMosaic.TcCoe Idealize.SL.Sem
open Idealize.ShloMosaic.StableHlo Idealize.ShloMosaic.Tactic

namespace Cert.Proof.Sums

section Words
open Cert.Kernel15 Cert.Kernel15.Gen

/-- The table of zeros. -/
def zeros {F : FTy → Type} [FloatOps F] : pre0.Contents (Elt F) := fun | 0 => fun _ => 0#32

theorem filled {F : FTy → Type} [FloatOps F] (σ : Valuation τ sig (Elt F)) : after (List.flatten [hostOps0]) σ (Proc.devRef .tc main_v0)
    = (broadcastInDim S2 ![] bcast_S_S2 (constantI S_ 32 0#32) : S2.Idx → BitVec 32) := by
  simp only [hostOps0, List.flatten_cons, List.flatten_nil, List.append_nil]
  after_results_entrywise []

theorem tbl_zeros {F : FTy → Type} [FloatOps F] (m : (ℓ : Loc nD τ sig) → Buf (Elt F) ℓ) : tbl m = zeros := by
  funext j x
  obtain rfl : j = 0 := Subsingleton.elim _ _
  exact congrFun (filled fun b => m (0, b)) x

theorem ok_zeros {F : FTy → Type} [FloatOps F] : ok0 (F := F) zeros := fun i =>
  ⟨(by decide +kernel : ∀ (i : grid0.Coords) a, (![(0#32 * 2#32 + BitVec.ofNat 32 (i 0).val).toNat, 0] a + 1) * S256x1024.size a ≤ S1024x1024.size a) i, .inl rfl⟩

theorem ok {F : FTy → Type} [FloatOps F] (m : (ℓ : Loc nD τ sig) → Buf (Elt F) ℓ) : Ok m := by
  unfold Ok
  rw [tbl_zeros]
  exact ok_zeros

end Words

/-- The idealized program's table is the same table. -/
theorem ok_ideal (m : (ℓ : Loc Cert.Kernel15Ideal.nD Cert.Kernel15Ideal.τ Cert.Kernel15Ideal.sig) → Buf (Elt Ideal) ℓ) :
    Cert.Kernel15Ideal.Gen.Ok m := ok m

end Cert.Proof.Sums

end
-- ==== Proof.Sums.lean ====
/- The second sum of the gradient exchange: a device's part and the three parts it received, added block by block. -/
module

public import proofs.«01_k».proof.Proof.SumTable
public import proofs.«01_k».proof.Proof.Gen.Reference15Ideal.Run

@[expose] public section

set_option maxRecDepth 16384

noncomputable section

open Idealize.ShloMosaic Idealize.ShloMosaic.TcCoe Idealize.SL.Sem
open Idealize.ShloMosaic.StableHlo Idealize.ShloMosaic.Tactic

namespace Cert.Proof.Sums

open Cert.Kernel15Ideal Cert.Kernel15Ideal.Gen
open Idealize.ShloMosaic.Pipeline (Dat)

/-- The four parts added, entry by entry. -/
def total (p : FVec Ideal S512x1024 .f32) (recv : FVec Ideal S3x512x1024 .f32) : FVec Ideal S512x1024 .f32 := fun j =>
  p j + recv (ix3 0 (j 0) (j 1)) + recv (ix3 1 (j 0) (j 1)) + recv (ix3 2 (j 0) (j 1))

/-- The same numbers at the rows of the array the kernel writes into, whose second half it leaves alone. -/
def wide (x : FVec Ideal S512x1024 .f32) : FVec Ideal S1024x1024 .f32 := fun j =>
  x (ix2 (⟨(j 0).val % 512, Nat.mod_lt _ (by decide)⟩ : Fin 512) (j 1))

/-- The two points write the array's first two blocks of rows. -/
theorem covers (a : (pcfg0 (F := Ideal)).Adm) (h : a.1 = zeros) :
    ((cfg0 a).win 2).CoversWhere (fun β => β (0 : Fin 2) < 2) := by
  obtain ⟨z, hz⟩ := a
  obtain rfl : z = zeros := h
  exact (by decide +kernel : ((cfg0 (F := Ideal) ⟨zeros, ok_zeros⟩).win 2).CoversWhere (fun β => β (0 : Fin 2) < 2))

/-- Each window's block index. -/
theorem idx (a : (pcfg0 (F := Ideal)).Adm) (h : a.1 = zeros) : ∀ t : Fin (cfg0 a).N,
    ((cfg0 a).win 0).index t = ![t.val, 0] ∧ ((cfg0 a).win 1).index t = ![0, t.val, 0] ∧ ((cfg0 a).win 2).index t = ![t.val, 0] := by
  obtain ⟨z, hz⟩ := a
  obtain rfl : z = zeros := h
  exact (by decide +kernel : ∀ t : Fin grid0.N, ((cfg0 (F := Ideal) ⟨zeros, ok_zeros⟩).win 0).index t = ![t.val, 0]
    ∧ ((cfg0 (F := Ideal) ⟨zeros, ok_zeros⟩).win 1).index t = ![0, t.val, 0] ∧ ((cfg0 (F := Ideal) ⟨zeros, ok_zeros⟩).win 2).index t = ![t.val, 0])

/-- The array's row under a block's row: each point's block is 256 rows. -/
def row (t : Fin grid0.N) (r : Fin 256) : Fin 512 := ⟨t.val * 256 + r.val, by have : t.val < 2 := t.isLt; omega⟩

theorem in0 (a : (pcfg0 (F := Ideal)).Adm) (h : a.1 = zeros) (t : Fin grid0.N) (y : S256x1024.Idx) :
    (show S512x1024.Idx from (((cfg0 a).win 0).rect t).emb y) = ix2 (row t (y 0)) (y 1) := by
  have e := (idx a h t).1
  refine (ix2_eta _).symm.trans (congrArg₂ ix2 (Fin.ext ?_) (Fin.ext ?_))
  · exact (((cfg0 a).win 0).rect_emb_val t y (0 : Fin 2)).trans (congrArg (· * 256 + (y 0).val) (congrFun e (0 : Fin 2)))
  · exact ((cfg0 a).win 0).rect_emb_val_of_index_zero t (1 : Fin 2) (congrFun e (1 : Fin 2)) y

theorem in1 (a : (pcfg0 (F := Ideal)).Adm) (h : a.1 = zeros) (t : Fin grid0.N) (k : Fin 3) (y : S256x1024.Idx) :
    (show S3x512x1024.Idx from (((cfg0 a).win 1).rect t).emb (ix3 k (y 0) (y 1) : S3x256x1024.Idx)) = ix3 k (row t (y 0)) (y 1) := by
  have e := (idx a h t).2.1
  refine (ix3_eta _).symm.trans (congr (congrArg₂ ix3 (Fin.ext ?_) (Fin.ext ?_)) (Fin.ext ?_))
  · exact ((cfg0 a).win 1).rect_emb_val_of_index_zero t (0 : Fin 3) (congrFun e (0 : Fin 3)) (ix3 k (y 0) (y 1))
  · exact (((cfg0 a).win 1).rect_emb_val t (ix3 k (y 0) (y 1)) (1 : Fin 3)).trans (congrArg (· * 256 + (y 0).val) (congrFun e (1 : Fin 3)))
  · exact ((cfg0 a).win 1).rect_emb_val_of_index_zero t (2 : Fin 3) (congrFun e (2 : Fin 3)) (ix3 k (y 0) (y 1))

theorem out2 (a : (pcfg0 (F := Ideal)).Adm) (h : a.1 = zeros) (t : Fin grid0.N) (y : S256x1024.Idx) :
    (show S1024x1024.Idx from (((cfg0 a).win 2).rect t).emb y) = ix2 ((row t (y 0)).castLE (by decide)) (y 1) := by
  have e := (idx a h t).2.2
  refine (ix2_eta _).symm.trans (congrArg₂ ix2 (Fin.ext ?_) (Fin.ext ?_))
  · exact (((cfg0 a).win 2).rect_emb_val t y (0 : Fin 2)).trans (congrArg (· * 256 + (y 0).val) (congrFun e (0 : Fin 2)))
  · exact ((cfg0 a).win 2).rect_emb_val_of_index_zero t (1 : Fin 2) (congrFun e (1 : Fin 2)) y

theorem wide_row (x : FVec Ideal S512x1024 .f32) (r : Fin 512) (d : Fin 1024) : wide x (ix2 (r.castLE (by decide)) d) = x (ix2 r d) :=
  congrArg x (congrArg₂ ix2 (Fin.ext (Nat.mod_eq_of_lt r.isLt)) rfl)

variable (m : (ℓ : Loc nD τ sig) → Buf (Elt Ideal) ℓ)

theorem handed (σ : Valuation τ sig (Elt Ideal)) : after (List.flatten [hostOps0]) σ (Proc.devRef .tc main_v1)
    = (truncf .bf16 (σ (Proc.devRef .tc main_arg1) : FVec Ideal S3x512x1024 .f32) bitsLt_bf16_f32 : FVec Ideal S3x512x1024 .bf16) := by
  simp only [hostOps0, List.flatten_cons, List.flatten_nil, List.append_nil]
  after_results_entrywise []

/-- The received parts as the host hands them over. -/
theorem received (c : Dev nD) (j : S3x512x1024.Idx) : V m c main_v1 j = (show FVec Ideal S3x512x1024 .f32 from m ((c : Thread nD τ).loc main_arg1)) j := by
  exact congrFun (handed fun b => m (c, b)) j

theorem add_four {p q r s p' q' r' s' : Ideal .f32} (hp : p = p') (hq : q = q') (hr : r = r') (hs : s = s') :
    p + q + r + s = p' + q' + r' + s' := by rw [hp, hq, hr, hs]

theorem final (hO : Ok m) (c : Dev nD) (j : S1024x1024.Idx) (hj : (j 0).val < 512) :
    (show FVec Ideal S1024x1024 .f32 from (dats m hO 0 c).arrAt 2 (cfgM m hO).N) j
      = wide (total (m ((c : Thread nD τ).loc main_arg0)) (m ((c : Thread nD τ).loc main_arg1))) j := by
  refine ((dats m hO 0 c).arrAt_apply_of_coversWhere 2 (wide (total (m ((c : Thread nD τ).loc main_arg0)) (m ((c : Thread nD τ).loc main_arg1))))
    (P := fun i : S1024x1024.Idx => (i 0).val / 256 < 2) _ (covers _ (tbl_zeros m)) (fun t hf y => ?_) (fun j => Iff.rfl) j).trans (if_pos ?_)
  · blk_simp
    rw [after0_2]
    unfold outsAt0
    frame_out
    pointwise [k0_pay1]
    obtain ⟨e0, e1, e2⟩ := idx (adm m hO) (tbl_zeros m) t
    have r0 : (ms0_0 m hO t).view.read (Elt Ideal) ((hs0_0 m hO t).unread (iblk m hO c 0 t)) = iblk m hO c 0 t := (hs0_0 m hO t).read_unread _
    have r1 : (ms0_1 m hO t).view.read (Elt Ideal) ((hs0_1 m hO t).unread (iblk m hO c 1 t)) = iblk m hO c 1 t := (hs0_1 m hO t).read_unread _
    rw [r0, r1]
    have h0 : ∀ y : S256x1024.Idx, iblk m hO c 0 t y = (show FVec Ideal S512x1024 .f32 from m ((c : Thread nD τ).loc main_arg0)) (ix2 (row t (y 0)) (y 1)) := fun y =>
      (congrArg (V m c main_arg0) (in0 (adm m hO) (tbl_zeros m) t y)).trans (congrFun (V_main_arg0 m c) _)
    have h1 : ∀ (k : Fin 3) (y : S256x1024.Idx), iblk m hO c 1 t (ix3 k (y 0) (y 1) : S3x256x1024.Idx)
        = (show FVec Ideal S3x512x1024 .f32 from m ((c : Thread nD τ).loc main_arg1)) (ix3 k (row t (y 0)) (y 1)) := fun k y =>
      (congrArg (V m c main_v1) (in1 (adm m hO) (tbl_zeros m) t k y)).trans (received m c _)
    refine (add_four (h0 y) (h1 0 y) (h1 1 y) (h1 2 y)).trans ?_
    exact ((congrArg (wide (total (m ((c : Thread nD τ).loc main_arg0)) (m ((c : Thread nD τ).loc main_arg1)))) (out2 (adm m hO) (tbl_zeros m) t y)).trans (wide_row _ _ _)).symm
  · show (j 0).val / 256 < 2
    omega

/-- The array's first half, which the host cuts out of it, holds the total. -/
theorem cut (σ : Valuation τ sig (Elt Ideal)) : after (List.flatten [hostOps1]) σ (Proc.devRef .tc main_v3)
    = (extractStridedSlice S512x1024 ![0, 0] (σ (Proc.devRef .tc main_v2) : FVec Ideal S1024x1024 .f32) slices_S1024x1024_S512x1024_0_0 : FVec Ideal S512x1024 .f32) := by
  simp only [hostOps1, List.flatten_cons, List.flatten_nil, List.append_nil]
  after_results_entrywise []

theorem final_half (hO : Ok m) (c : Dev nD) :
    Pipeline.afterTail pcfgs (fun _ => adm m hO) (dats m hO) 0 (V0 m) [hostOps1] c main_v3
      = total (m ((c : Thread nD τ).loc main_arg0)) (m ((c : Thread nD τ).loc main_arg1)) := by
  have e := Pipeline.withArrays_arr spec0 (by decide) c (V0 m c) (fun w => (dats m hO 0 c).arrAt w (cfgM m hO).N) (2 : Fin 3)
  refine (cut _).trans (funext fun (j : S512x1024.Idx) => ?_)
  have r : (j 0).val < 512 := (j 0).isLt
  refine Eq.trans (b := (show FVec Ideal S1024x1024 .f32 from (dats m hO 0 c).arrAt 2 (cfgM m hO).N) (ix2 ((j 0).castLE (by decide) : Fin 1024) (j 1))) ?_ ?_
  · refine Eq.trans (b := (show FVec Ideal S1024x1024 .f32 from Pipeline.withArrays spec0 c (V0 m c) (fun w => (dats m hO 0 c).arrAt w (cfgM m hO).N) (Proc.devRef .tc main_v2)) (ix2 ((j 0).castLE (by decide) : Fin 1024) (j 1))) ?_ (congrFun e _)
    pointwise
    rfl
  · exact (final m hO c _ r).trans ((wide_row _ (j 0) (j 1)).trans (congrArg (total _ _) (ix2_eta j)))

end Cert.Proof.Sums

namespace Cert.Proof.Sums

open Cert.Reference15Ideal Cert.Reference15Ideal.Gen

/-- The reference's sum, entry by entry. -/
theorem ref_eq (p : FVec Ideal S512x1024 .f32) (recv : FVec Ideal S3x512x1024 .f32) :
    addf (addf (addf p (shapeCast _ (extractStridedSlice S1x512x1024 ![0, 0, 0] recv slices_S3x512x1024_S1x512x1024_0_0_0) shapeCasts_S1x512x1024_S512x1024))
      (shapeCast _ (extractStridedSlice S1x512x1024 ![1, 0, 0] recv slices_S3x512x1024_S1x512x1024_1_0_0) shapeCasts_S1x512x1024_S512x1024))
      (shapeCast _ (extractStridedSlice S1x512x1024 ![2, 0, 0] recv slices_S3x512x1024_S1x512x1024_2_0_0) shapeCasts_S1x512x1024_S512x1024) = total p recv := by
  funext j
  pointwise [total]

end Cert.Proof.Sums

end
-- ==== Proof.Alg15.lean ====
module

public import proofs.«01_k».proof.Defs
public import proofs.«01_k».proof.Proof.Sums
public import Idealize.ShloMosaic.Lib.Claim

@[expose] public section

set_option maxRecDepth 16384

noncomputable section

namespace Cert.Proof

open Idealize.ShloMosaic Idealize.SL.Sem

theorem frame_reference15 : Cert.quiescent_Reference15Ideal := by
  intro m g _
  exact (θ_run Cert.Reference15Ideal.defs _ _).mono
    (fun r h => ⟨fun c => (h c).2, Idealize.ShloMosaic.sem_eq_zero_of_no_sems (by decide) r.2⟩)
    (Cert.Reference15Ideal.Value.run (F := Ideal) m g)

open Cert.Kernel15Ideal in
theorem algebraic_sums : Cert.algebraic_Kernel15Ideal_Reference15Ideal := by
  intro m g m' g' _ hagree
  refine ⟨fun c => Sums.total (m ((c.tc : Thread nD τ).loc main_arg0)) (m ((c.tc : Thread nD τ).loc main_arg1)), ?_, ?_⟩
  · refine (θ_run Cert.Kernel15Ideal.defs _ _).mono (fun r h c => ?_)
      (θ_run_and (Cert.Kernel15Ideal.Gen.run_main m g (Sums.ok_ideal m)) (Cert.Kernel15Ideal.Gen.frame m g (Sums.ok_ideal m)))
    exact ⟨((h.1 c).2 main_v3 (Pipeline.mem_restRefs_of _ rfl (by exact (by decide : ∀ w, Pipeline.arrRef spec0 w ≠ main_v3)))).trans (Sums.final_half m (Sums.ok_ideal m) c), h.2.1 c⟩
  · refine (θ_run Cert.Reference15Ideal.defs _ _).mono (fun r h c => ?_) (Cert.Reference15Ideal.Value.run (F := Ideal) m' g')
    obtain ⟨e0, e1⟩ := hagree c
    refine ⟨(h c).1.trans ((Sums.ref_eq _ _).trans ?_), (h c).2⟩
    exact congrArg₂ Sums.total e0 e1

end Cert.Proof

end
-- ==== Proof.SumPlace.lean ====
/- The first sum of the gradient exchange: the words that hold the device's place, read off the precondition. -/
module

public import proofs.«01_k».proof.Proof.Gen.Kernel16.Flash
public import proofs.«01_k».proof.Proof.Gen.Kernel16Ideal.Flash
public import proofs.«01_k».proof.Proof.Gen.Pre_at_origin
public import Idealize.ShloMosaic.Lib.Pointwise

@[expose] public section

noncomputable section

open Idealize.ShloMosaic Idealize.ShloMosaic.TcCoe Idealize.SL.Sem

namespace Cert.Proof.Place

theorem both (a b : BitVec 32) (h : IntOp.andi (IntOp.cmpi .eq a 0#32) (IntOp.cmpi .eq b 0#32) = 1#1) : a = 0#32 ∧ b = 0#32 := by
  have key : ∀ p q : Bool, BitVec.ofBool p &&& BitVec.ofBool q = 1#1 → p = true ∧ q = true := by decide
  have e := key (a == 0#32) (b == 0#32) h
  exact ⟨beq_iff_eq.mp e.1, beq_iff_eq.mp e.2⟩

open Cert.Pre_at_origin in
/-- Where the precondition holds, both words are 0. -/
theorem words {F : FTy → Type} [FloatOps F] {w : IVec S2 32} {g : FVec F S4x1024x1024 .f32} {r : FVec F S4x512x1024 .bf16}
    (h : Cert.Pre_at_origin.fn (F := F) w g r = fun _ => 1#1) (x : S2.Idx) : w x = 0#32 := by
  have e := congrFun h (fun a => a.elim0)
  unfold fn at e
  pointwise at e
  obtain ⟨e0, e1⟩ := both _ _ e
  obtain ⟨i, rfl⟩ : ∃ i : Fin 2, x = ix1 i := ⟨x 0, (ix1_eta x).symm⟩
  match i with
  | 0 => exact e0
  | 1 => exact e1

theorem pinned (m : (ℓ : Loc Cert.Kernel16.nD Cert.Kernel16.τ Cert.Kernel16.sig) → Buf (Elt Bits) ℓ) (h : Cert.Pre_Kernel16 m) :
    Cert.Kernel16.Gen.Pinned 0 m := by
  intro c
  funext x
  refine (words (h c) x).trans ?_
  exact (by decide : ∀ x : Cert.Kernel16.S2.Idx, 0#32 = Cert.Kernel16.Gen.pinT_0 0 x) x

theorem pinned_ideal (m : (ℓ : Loc Cert.Kernel16Ideal.nD Cert.Kernel16Ideal.τ Cert.Kernel16Ideal.sig) → Buf (Elt Ideal) ℓ)
    (h : Cert.Pre_Kernel16Ideal m) : Cert.Kernel16Ideal.Gen.Pinned 0 m := by
  intro c
  funext x
  refine (words (h c) x).trans ?_
  exact (by decide : ∀ x : Cert.Kernel16Ideal.S2.Idx, 0#32 = Cert.Kernel16Ideal.Gen.pinT_0 0 x) x

end Cert.Proof.Place

end
-- ==== Proof.Sum1.lean ====
/- The first sum of the gradient exchange: a device's half of the rows and the half it received, added; the part of its own chip
   kept in full width, all four parts sent on. -/
module

public import proofs.«01_k».proof.Proof.SumPlace
public import proofs.«01_k».proof.Proof.Gen.Reference16Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.StableHlo Idealize.ShloMosaic.Tactic

namespace Cert.Proof.Sum1

open Cert.Kernel16Ideal Cert.Kernel16Ideal.Gen
open Idealize.ShloMosaic.Pipeline (Dat)

/-- The first half of the rows of every chip's part, with the half received added. -/
def total (g : FVec Ideal S4x1024x1024 .f32) (r : FVec Ideal S4x512x1024 .bf16) : FVec Ideal S4x512x1024 .f32 := fun j =>
  g (ix3 (j 0) ((j 1).castLE (by decide) : Fin 1024) (j 2)) + r j

/-- The part of the first chip. -/
def own (g : FVec Ideal S4x1024x1024 .f32) (r : FVec Ideal S4x512x1024 .bf16) : FVec Ideal S512x1024 .f32 := fun j =>
  total g r (ix3 0 (j 0) (j 1))

/-- All four parts, narrowed. -/
def sent (g : FVec Ideal S4x1024x1024 .f32) (r : FVec Ideal S4x512x1024 .bf16) : FVec Ideal S4x512x1024 .bf16 :=
  truncf .bf16 (total g r) bitsLt_bf16_f32

/-- Each window's block index, and the points at which the body keeps the part. -/
theorem idx : ∀ t : Fin (cfgA 0).N,
    ((cfgA 0).win 0).index t = ![t.val % 4, t.val / 4, 0] ∧ ((cfgA 0).win 1).index t = ![t.val % 4, t.val / 4, 0]
      ∧ ((cfgA 0).win 2).index t = ![t.val / 4, 0] ∧ ((cfgA 0).win 3).index t = ![t.val % 4, t.val / 4, 0] := by
  decide +kernel

theorem keeps : ∀ t : Fin (cfgA 0).N, P0_0 0 t ↔ t.val % 4 = 0 := by
  decide +kernel

theorem covers2 : ((cfgA 0).win 2).CoversWhere (fun _ => True) := by decide +kernel

theorem covers3 : ((cfgA 0).win 3).CoversWhere (fun _ => True) := by decide +kernel

/-- The chip and the row under a block's row at a point: the blocks are 256 rows, and the chips run fastest. -/
def chip (t : Fin (cfgA 0).N) : Fin 4 := ⟨t.val % 4, Nat.mod_lt _ (by decide)⟩

def row (t : Fin (cfgA 0).N) (r : Fin 256) : Fin 512 := ⟨t.val / 4 * 256 + r.val, by have : t.val < 8 := t.isLt; omega⟩

theorem in0 (t : Fin (cfgA 0).N) (y : S256x1024.Idx) :
    (show S4x1024x1024.Idx from (((cfgA 0).win 0).rect t).emb (ix3 0 (y 0) (y 1) : S1x256x1024.Idx))
      = ix3 (chip t) ((row t (y 0)).castLE (by decide) : Fin 1024) (y 1) := by
  have e := (idx t).1
  refine (ix3_eta _).symm.trans (congr (congrArg₂ ix3 (Fin.ext ?_) (Fin.ext ?_)) (Fin.ext ?_))
  · exact (((cfgA 0).win 0).rect_emb_val t (ix3 0 (y 0) (y 1)) (0 : Fin 3)).trans ((congrArg (· * 1 + 0) (congrFun e (0 : Fin 3))).trans (show t.val % 4 * 1 + 0 = t.val % 4 by omega))
  · exact (((cfgA 0).win 0).rect_emb_val t (ix3 0 (y 0) (y 1)) (1 : Fin 3)).trans (congrArg (· * 256 + (y 0).val) (congrFun e (1 : Fin 3)))
  · exact ((cfgA 0).win 0).rect_emb_val_of_index_zero t (2 : Fin 3) (congrFun e (2 : Fin 3)) (ix3 0 (y 0) (y 1))

theorem in1 (t : Fin (cfgA 0).N) (y : S256x1024.Idx) :
    (show S4x512x1024.Idx from (((cfgA 0).win 1).rect t).emb (ix3 0 (y 0) (y 1) : S1x256x1024.Idx)) = ix3 (chip t) (row t (y 0)) (y 1) := by
  have e := (idx t).2.1
  refine (ix3_eta _).symm.trans (congr (congrArg₂ ix3 (Fin.ext ?_) (Fin.ext ?_)) (Fin.ext ?_))
  · exact (((cfgA 0).win 1).rect_emb_val t (ix3 0 (y 0) (y 1)) (0 : Fin 3)).trans ((congrArg (· * 1 + 0) (congrFun e (0 : Fin 3))).trans (show t.val % 4 * 1 + 0 = t.val % 4 by omega))
  · exact (((cfgA 0).win 1).rect_emb_val t (ix3 0 (y 0) (y 1)) (1 : Fin 3)).trans (congrArg (· * 256 + (y 0).val) (congrFun e (1 : Fin 3)))
  · exact ((cfgA 0).win 1).rect_emb_val_of_index_zero t (2 : Fin 3) (congrFun e (2 : Fin 3)) (ix3 0 (y 0) (y 1))

theorem out2 (t : Fin (cfgA 0).N) (y : S256x1024.Idx) :
    (show S512x1024.Idx from (((cfgA 0).win 2).rect t).emb y) = ix2 (row t (y 0)) (y 1) := by
  have e := (idx t).2.2.1
  refine (ix2_eta _).symm.trans (congrArg₂ ix2 (Fin.ext ?_) (Fin.ext ?_))
  · exact (((cfgA 0).win 2).rect_emb_val t y (0 : Fin 2)).trans (congrArg (· * 256 + (y 0).val) (congrFun e (0 : Fin 2)))
  · exact ((cfgA 0).win 2).rect_emb_val_of_index_zero t (1 : Fin 2) (congrFun e (1 : Fin 2)) y

theorem out3 (t : Fin (cfgA 0).N) (y : S1x256x1024.Idx) :
    (show S4x512x1024.Idx from (((cfgA 0).win 3).rect t).emb y) = ix3 (chip t) (row t (y 1)) (y 2) := by
  have e := (idx t).2.2.2
  have h0 : (y 0).val = 0 := Nat.lt_one_iff.mp (y 0).isLt
  refine (ix3_eta _).symm.trans (congr (congrArg₂ ix3 (Fin.ext ?_) (Fin.ext ?_)) (Fin.ext ?_))
  · exact (((cfgA 0).win 3).rect_emb_val t y (0 : Fin 3)).trans ((congrArg₂ (· * 1 + ·) (congrFun e (0 : Fin 3)) h0).trans (show t.val % 4 * 1 + 0 = t.val % 4 by omega))
  · exact (((cfgA 0).win 3).rect_emb_val t y (1 : Fin 3)).trans (congrArg (· * 256 + (y 1).val) (congrFun e (1 : Fin 3)))
  · exact ((cfgA 0).win 3).rect_emb_val_of_index_zero t (2 : Fin 3) (congrFun e (2 : Fin 3)) y

variable (m : (ℓ : Loc nD τ sig) → Buf (Elt Ideal) ℓ) (ρ : Dev nD → PrngReg)

theorem block0 (c : Dev nD) (t : Fin (cfgA 0).N) (y : S256x1024.Idx) :
    (show FVec Ideal S1x256x1024 .f32 from iblk 0 m ρ c 0 t) (ix3 0 (y 0) (y 1))
      = (show FVec Ideal S4x1024x1024 .f32 from m ((c : Thread nD τ).loc main_arg1)) (ix3 (chip t) ((row t (y 0)).castLE (by decide)) (y 1)) :=
  congrArg (show FVec Ideal S4x1024x1024 .f32 from m ((c : Thread nD τ).loc main_arg1)) (in0 t y)

theorem block1 (c : Dev nD) (t : Fin (cfgA 0).N) (y : S256x1024.Idx) :
    (show FVec Ideal S1x256x1024 .bf16 from iblk 0 m ρ c 1 t) (ix3 0 (y 0) (y 1))
      = (show FVec Ideal S4x512x1024 .bf16 from m ((c : Thread nD τ).loc main_arg2)) (ix3 (chip t) (row t (y 0)) (y 1)) :=
  congrArg (show FVec Ideal S4x512x1024 .bf16 from m ((c : Thread nD τ).loc main_arg2)) (in1 t y)

/-- A point's block of the sum. -/
theorem pay (c : Dev nD) (t : Fin (cfgA 0).N) (y : S256x1024.Idx) :
    k0_pay1 (F := Ideal) (iblk 0 m ρ c 0 t) (iblk 0 m ρ c 1 t) y
      = total (m ((c : Thread nD τ).loc main_arg1)) (m ((c : Thread nD τ).loc main_arg2)) (ix3 (chip t) (row t (y 0)) (y 1)) := by
  have h0 := block0 m ρ c t y
  have h1 := block1 m ρ c t y
  pointwise [k0_pay1]
  exact congrArg₂ (· + ·) h0 h1

theorem keep (c : Dev nD) (t : Fin (cfgA 0).N) (q : P0_0 0 t) (prev) (y : S256x1024.Idx) :
    (step0 0 m ρ c t prev).1 y = k0_pay1 (F := Ideal) (iblk 0 m ρ c 0 t) (iblk 0 m ρ c 1 t) y := by
  rw [step0_A 0 m ρ c t prev q]
  unfold out0_A_2
  frame_out
  rw [View.read_rep, View.read_rep]

theorem send (c : Dev nD) (t : Fin (cfgA 0).N) (prev) (y : S1x256x1024.Idx) :
    (step0 0 m ρ c t prev).2 y = k0_pay2 (F := Ideal) (iblk 0 m ρ c 0 t) (iblk 0 m ρ c 1 t) y := by
  by_cases q : P0_0 0 t
  · rw [step0_A 0 m ρ c t prev q]
    unfold out0_A_3
    frame_out
    rw [View.read_rep, View.read_rep]
  · rw [step0_B 0 m ρ c t prev q]
    unfold out0_B_3
    frame_out
    rw [View.read_rep, View.read_rep]

/-- A point's block of what is sent. -/
theorem pay_sent (c : Dev nD) (t : Fin (cfgA 0).N) (y : S1x256x1024.Idx) :
    k0_pay2 (F := Ideal) (iblk 0 m ρ c 0 t) (iblk 0 m ρ c 1 t) y
      = sent (m ((c : Thread nD τ).loc main_arg1)) (m ((c : Thread nD τ).loc main_arg2)) (ix3 (chip t) (row t (y 1)) (y 2)) := by
  have e := pay m ρ c t (ix2 (y 1) (y 2))
  pointwise [k0_pay2, sent]
  exact e

/-- The kept block stands until the last chip's point. -/
theorem kept (c : Dev nD) : ∀ (n : ℕ) (h : n < (cfgA 0).N) (y : S256x1024.Idx), (traj0 0 m ρ c n h).1 y
    = own (m ((c : Thread nD τ).loc main_arg1)) (m ((c : Thread nD τ).loc main_arg2)) (ix2 (row ⟨n, h⟩ (y 0)) (y 1))
  | 0, h, y => by
    refine (congrFun (congrArg Prod.fst (traj0_eq 0 m ρ c ⟨0, h⟩)) y).trans ?_
    exact (keep m ρ c ⟨0, h⟩ ((keeps _).mpr rfl) _ y).trans (pay m ρ c ⟨0, h⟩ y)
  | n + 1, h, y => by
    refine (congrFun (congrArg Prod.fst (traj0_eq 0 m ρ c ⟨n + 1, h⟩)) y).trans ?_
    by_cases q : P0_0 0 ⟨n + 1, h⟩
    · refine (keep m ρ c ⟨n + 1, h⟩ q _ y).trans ((pay m ρ c ⟨n + 1, h⟩ y).trans ?_)
      exact congrArg (fun k : Fin 4 => total _ _ (ix3 k (row ⟨n + 1, h⟩ (y 0)) (y 1))) (Fin.ext ((keeps _).mp q))
    · rw [step0_B 0 m ρ c ⟨n + 1, h⟩ _ q]
      have hf := (sched0_B 0 ⟨n + 1, h⟩ q).2.1
      have hq : (n + 1) % 4 ≠ 0 := fun e => q ((keeps _).mpr e)
      have er : row ⟨n + 1, h⟩ (y 0) = row ⟨n, Nat.lt_of_succ_lt h⟩ (y 0) :=
        Fin.ext (congrArg (· * 256 + (y 0).val) (show (n + 1) / 4 = n / 4 by omega))
      simp only [hf, Bool.false_eq_true, ↓reduceIte]
      rw [er]
      exact kept c n (Nat.lt_of_succ_lt h) y

theorem final2 (c : Dev nD) : (dats 0 m ρ 0 c).arrAt 2 (cfgA 0).N
    = own (m ((c : Thread nD τ).loc main_arg1)) (m ((c : Thread nD τ).loc main_arg2)) := by
  funext j
  refine ((dats 0 m ρ 0 c).arrAt_apply_of_coversWhere 2 (own (m ((c : Thread nD τ).loc main_arg1)) (m ((c : Thread nD τ).loc main_arg2)))
    (P := fun _ => True) _ covers2 (fun t hf y => ?_) (fun j => Iff.rfl) j).trans (if_pos trivial)
  blk_simp
  rw [after0_2]
  exact (kept m ρ c t.val t.isLt y).trans (congrArg (own _ _) (out2 t y)).symm

theorem final3 (c : Dev nD) : (dats 0 m ρ 0 c).arrAt 3 (cfgA 0).N
    = sent (m ((c : Thread nD τ).loc main_arg1)) (m ((c : Thread nD τ).loc main_arg2)) := by
  funext j
  refine ((dats 0 m ρ 0 c).arrAt_apply_of_coversWhere 3 (sent (m ((c : Thread nD τ).loc main_arg1)) (m ((c : Thread nD τ).loc main_arg2)))
    (P := fun _ => True) _ covers3 (fun t hf y => ?_) (fun j => Iff.rfl) j).trans (if_pos trivial)
  blk_simp
  rw [after0_3, traj0_eq]
  refine (send m ρ c t _ y).trans ((pay_sent m ρ c t y).trans ?_)
  exact (congrArg (sent (m ((c : Thread nD τ).loc main_arg1)) (m ((c : Thread nD τ).loc main_arg2))) (out3 t y)).symm

end Cert.Proof.Sum1

namespace Cert.Proof.Sum1

open Cert.Reference16Ideal Cert.Reference16Ideal.Gen

/-- The reference's sum, entry by entry. -/
theorem ref_total (g : FVec Ideal S4x1024x1024 .f32) (r : FVec Ideal S4x512x1024 .bf16) :
    addf (extractStridedSlice S4x512x1024 ![0, 0, 0] g slices_S4x1024x1024_S4x512x1024_0_0_0) (extf .f32 r bitsLt_bf16_f32) = total g r := by
  funext j
  pointwise [total]
  rfl

theorem ref_own (g : FVec Ideal S4x1024x1024 .f32) (r : FVec Ideal S4x512x1024 .bf16) :
    shapeCast S512x1024 (extractStridedSlice S1x512x1024 ![0, 0, 0] (addf (extractStridedSlice S4x512x1024 ![0, 0, 0] g
      slices_S4x1024x1024_S4x512x1024_0_0_0) (extf .f32 r bitsLt_bf16_f32)) slices_S4x512x1024_S1x512x1024_0_0_0)
      shapeCasts_S1x512x1024_S512x1024 = own g r := by
  rw [ref_total]
  funext j
  pointwise [own]

theorem ref_sent (g : FVec Ideal S4x1024x1024 .f32) (r : FVec Ideal S4x512x1024 .bf16) :
    truncf .bf16 (addf (extractStridedSlice S4x512x1024 ![0, 0, 0] g slices_S4x1024x1024_S4x512x1024_0_0_0)
      (extf .f32 r bitsLt_bf16_f32)) bitsLt_bf16_f32 = sent g r := by
  rw [ref_total]
  rfl

end Cert.Proof.Sum1

end
-- ==== Proof.Alg16.lean ====
module

public import proofs.«01_k».proof.Defs
public import proofs.«01_k».proof.Proof.Sum1
public import Idealize.ShloMosaic.Lib.Claim

@[expose] public section

set_option maxRecDepth 16384

noncomputable section

namespace Cert.Proof

open Idealize.ShloMosaic Idealize.SL.Sem

theorem frame_reference16 : Cert.quiescent_Reference16Ideal := by
  intro m g _
  exact (θ_run Cert.Reference16Ideal.defs _ _).mono
    (fun r h => ⟨fun c => (h c).2.2, Idealize.ShloMosaic.sem_eq_zero_of_no_sems (by decide) r.2⟩)
    (Cert.Reference16Ideal.Value.run (F := Ideal) m g)

open Cert.Kernel16Ideal in
theorem algebraic_sum1 : Cert.algebraic_Kernel16Ideal_Reference16Ideal := by
  intro m g m' g' hpre hagree
  have hp := Place.pinned_ideal m hpre
  refine ⟨fun c => Sum1.own (m ((c.tc : Thread nD τ).loc main_arg1)) (m ((c.tc : Thread nD τ).loc main_arg2)),
    fun c => Sum1.sent (m ((c.tc : Thread nD τ).loc main_arg1)) (m ((c.tc : Thread nD τ).loc main_arg2)), ?_, ?_⟩
  · refine (θ_run Cert.Kernel16Ideal.defs _ _).mono (fun r h c => ?_)
      (θ_run_and (Cert.Kernel16Ideal.Gen.run_main 0 m g hp) (Cert.Kernel16Ideal.Gen.frame 0 m g hp))
    exact ⟨((h.1 c).1 2).trans (Sum1.final2 m g c), ((h.1 c).1 3).trans (Sum1.final3 m g c), h.2.1 c⟩
  · refine (θ_run Cert.Reference16Ideal.defs _ _).mono (fun r h c => ?_) (Cert.Reference16Ideal.Value.run (F := Ideal) m' g')
    obtain ⟨-, e1, e2⟩ := hagree c
    refine ⟨((h c).1.trans (Sum1.ref_own _ _)).trans ?_, ((h c).2.1.trans (Sum1.ref_sent _ _)).trans ?_, (h c).2.2⟩
    · exact congrArg₂ Sum1.own e1 e2
    · exact congrArg₂ Sum1.sent e1 e2

end Cert.Proof

end
-- ==== Proof.lean ====
/- The proof of the claims: each program's frame is the generated one, and each value claim is its module's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Alg
public import proofs.«01_k».proof.Proof.Gen.Kernel2.Frame
public import proofs.«01_k».proof.Proof.Gen.Kernel2Ideal.Value
public import proofs.«01_k».proof.Proof.Gen.Reference2Ideal.Run
public import proofs.«01_k».proof.Proof.Alg2
public import proofs.«01_k».proof.Proof.Gen.Kernel3.Frame
public import proofs.«01_k».proof.Proof.Gen.Kernel3Ideal.Value
public import proofs.«01_k».proof.Proof.Gen.Reference3Ideal.Run
public import proofs.«01_k».proof.Proof.Alg3
public import proofs.«01_k».proof.Proof.Gen.Kernel4.Frame
public import proofs.«01_k».proof.Proof.Gen.Kernel4Ideal.Value
public import proofs.«01_k».proof.Proof.Gen.Reference4Ideal.Run
public import proofs.«01_k».proof.Proof.Alg4
public import proofs.«01_k».proof.Proof.Gen.Kernel5.Frame
public import proofs.«01_k».proof.Proof.Gen.Kernel5Ideal.Value
public import proofs.«01_k».proof.Proof.Gen.Reference5Ideal.Run
public import proofs.«01_k».proof.Proof.Alg5
public import proofs.«01_k».proof.Proof.Gen.Kernel6.Frame
public import proofs.«01_k».proof.Proof.Gen.Kernel6Ideal.Value
public import proofs.«01_k».proof.Proof.Gen.Reference6Ideal.Run
public import proofs.«01_k».proof.Proof.Alg6
public import proofs.«01_k».proof.Proof.Gen.Kernel7.Frame
public import proofs.«01_k».proof.Proof.Gen.Kernel7Ideal.Value
public import proofs.«01_k».proof.Proof.Gen.Reference7Ideal.Run
public import proofs.«01_k».proof.Proof.Alg7
public import proofs.«01_k».proof.Proof.Gen.Kernel8.Frame
public import proofs.«01_k».proof.Proof.Gen.Kernel8Ideal.Value
public import proofs.«01_k».proof.Proof.Gen.Reference8Ideal.Run
public import proofs.«01_k».proof.Proof.Alg8
public import proofs.«01_k».proof.Proof.Gen.Kernel9.Frame
public import proofs.«01_k».proof.Proof.Gen.Kernel9Ideal.Value
public import proofs.«01_k».proof.Proof.Gen.Reference9Ideal.Run
public import proofs.«01_k».proof.Proof.Alg9
public import proofs.«01_k».proof.Proof.Gen.Kernel10.Frame
public import proofs.«01_k».proof.Proof.Gen.Kernel10Ideal.Value
public import proofs.«01_k».proof.Proof.Gen.Reference10Ideal.Run
public import proofs.«01_k».proof.Proof.Alg10
public import proofs.«01_k».proof.Proof.Gen.Kernel11.Frame
public import proofs.«01_k».proof.Proof.Gen.Kernel11Ideal.Value
public import proofs.«01_k».proof.Proof.Gen.Reference11Ideal.Run
public import proofs.«01_k».proof.Proof.Alg11
public import proofs.«01_k».proof.Proof.Gen.Kernel12.Frame
public import proofs.«01_k».proof.Proof.Gen.Kernel12Ideal.Value
public import proofs.«01_k».proof.Proof.Gen.Reference12Ideal.Run
public import proofs.«01_k».proof.Proof.Alg12
public import proofs.«01_k».proof.Proof.Gen.Kernel13.Frame
public import proofs.«01_k».proof.Proof.Gen.Kernel13Ideal.Value
public import proofs.«01_k».proof.Proof.Gen.Reference13Ideal.Run
public import proofs.«01_k».proof.Proof.Alg13
public import proofs.«01_k».proof.Proof.Gen.Kernel14.Frame
public import proofs.«01_k».proof.Proof.Gen.Kernel14Ideal.Frame
public import proofs.«01_k».proof.Proof.Gen.Reference14Ideal.Run
public import proofs.«01_k».proof.Proof.Alg14
public import proofs.«01_k».proof.Proof.Gen.Kernel15.Frame
public import proofs.«01_k».proof.Proof.Gen.Kernel15Ideal.Frame
public import proofs.«01_k».proof.Proof.Gen.Reference15Ideal.Run
public import proofs.«01_k».proof.Proof.Alg15
public import proofs.«01_k».proof.Proof.Gen.Kernel16.Flash
public import proofs.«01_k».proof.Proof.Gen.Kernel16Ideal.Flash
public import proofs.«01_k».proof.Proof.Gen.Reference16Ideal.Run
public import proofs.«01_k».proof.Proof.Alg16

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, facts_ff2, facts_dh2, facts_dcat, facts_dh,
    facts_hgrn, Cert.Pre_at_origin.Gen.facts, fun m ρ _ => Cert.Kernel.Gen.frame m ρ,
    fun m ρ _ => Cert.KernelIdeal.Gen.frame m ρ, frame_reference, fun m ρ _ => Cert.Kernel2.Gen.frame m ρ,
    fun m ρ _ => Cert.Kernel2Ideal.Gen.frame m ρ, fun m ρ _ => Cert.Kernel2Ideal.Gen.frame m ρ,
    frame_reference2, fun m ρ _ => frame_reference2 m ρ trivial, fun m ρ _ => Cert.Kernel3.Gen.frame m ρ,
    fun m ρ _ => Cert.Kernel3Ideal.Gen.frame m ρ, fun m ρ _ => Cert.Kernel3Ideal.Gen.frame m ρ,
    frame_reference3, fun m ρ _ => frame_reference3 m ρ trivial, fun m ρ _ => Cert.Kernel4.Gen.frame m ρ,
    fun m ρ _ => Cert.Kernel4Ideal.Gen.frame m ρ, fun m ρ _ => Cert.Kernel4Ideal.Gen.frame m ρ,
    frame_reference4, fun m ρ _ => frame_reference4 m ρ trivial, fun m ρ _ => Cert.Kernel5.Gen.frame m ρ,
    fun m ρ _ => Cert.Kernel5Ideal.Gen.frame m ρ, fun m ρ _ => Cert.Kernel5Ideal.Gen.frame m ρ,
    frame_reference5, fun m ρ _ => frame_reference5 m ρ trivial, fun m ρ _ => Cert.Kernel6.Gen.frame m ρ,
    fun m ρ _ => Cert.Kernel6Ideal.Gen.frame m ρ, frame_reference6, fun m ρ _ => Cert.Kernel7.Gen.frame m ρ,
    fun m ρ _ => Cert.Kernel7Ideal.Gen.frame m ρ, frame_reference7, fun m ρ _ => Cert.Kernel8.Gen.frame m ρ,
    fun m ρ _ => Cert.Kernel8Ideal.Gen.frame m ρ, frame_reference8, fun m ρ _ => Cert.Kernel9.Gen.frame m ρ,
    fun m ρ _ => Cert.Kernel9Ideal.Gen.frame m ρ, frame_reference9, fun m ρ _ => Cert.Kernel10.Gen.frame m ρ,
    fun m ρ _ => Cert.Kernel10Ideal.Gen.frame m ρ, frame_reference10,
    fun m ρ _ => Cert.Kernel11.Gen.frame m ρ, fun m ρ _ => Cert.Kernel11Ideal.Gen.frame m ρ,
    frame_reference11, fun m ρ _ => Cert.Kernel12.Gen.frame m ρ,
    fun m ρ _ => Cert.Kernel12Ideal.Gen.frame m ρ, frame_reference12,
    fun m ρ _ => Cert.Kernel13.Gen.frame m ρ, fun m ρ _ => Cert.Kernel13Ideal.Gen.frame m ρ,
    fun m ρ _ => Cert.Kernel13Ideal.Gen.frame m ρ, frame_reference13,
    fun m ρ _ => frame_reference13 m ρ trivial, fun m ρ _ => Cert.Kernel14.Gen.frame m ρ,
    fun m ρ _ => Cert.Kernel14Ideal.Gen.frame m ρ, frame_reference14,
    fun m ρ _ => Cert.Kernel15.Gen.frame m ρ (Sums.ok m),
    fun m ρ _ => Cert.Kernel15Ideal.Gen.frame m ρ (Sums.ok_ideal m), frame_reference15,
    fun m ρ h => Cert.Kernel16.Gen.frame 0 m ρ (Place.pinned m h),
    fun m ρ h => Cert.Kernel16Ideal.Gen.frame 0 m ρ (Place.pinned_ideal m h), frame_reference16,
    fun m ρ _ => frame_reference16 m ρ trivial, trivial, algebraic_du, trivial, @algebraic_ff2 facts_ff2,
    trivial, @algebraic_dh2 facts_dh2, trivial, @algebraic_dcat facts_dcat, trivial, @algebraic_dh facts_dh,
    trivial, algebraic_ff1, trivial, algebraic_attn_norm, trivial, algebraic_mixed, trivial,
    algebraic_norm_in, trivial, algebraic_proj, trivial, algebraic_wgrad, trivial, algebraic_adam,
    preserves_hgrn, @algebraic_hgrn facts_hgrn, trivial, algebraic_small, trivial, algebraic_sums, trivial,
    algebraic_sum1⟩

end Cert.Proof

end
